-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_v14) = v2 c
          ∧ r.2.mem ((c.tc : Thread Cert.Reference4Ideal.nD Cert.Reference4Ideal.τ).loc Cert.Reference4Ideal.main_v15) = v3 c
          ∧ r.2.mem ((c.tc : Thread Cert.Reference4Ideal.nD Cert.Reference4Ideal.τ).loc Cert.Reference4Ideal.main_v16) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_inputs.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_

variable [Facts]

def fn_part1 {F : FTy → Type} [FloatOps F] (main_arg2 : FVec F S8192x8x64 .f32) (main_arg3 : FVec F S8192x8x64 .f32) (main_v12 : IVec S_ 1) (main_v14 : IVec S8192x8x64 1) (main_v15 : FVec F S8192x8x64 .f32) : IVec S_ 1 :=
  let main_v16 : IVec S8192x8x64 1 := cmpf .olt main_arg2 main_v15
  let main_v17 : IVec S8192x8x64 1 := andi main_v14 main_v16
  let main_c_6 : IVec S_ 1 := constantI S_ 1 1#1
  let main_v18 : IVec S_ 1 := (fun x v => Host.reduce IntOp.andi x v reducesTo_S8192x8x64_S_d0_1_2 h_S_) main_v17 main_c_6
  let main_v19 : IVec S_ 1 := andi main_v12 main_v18
  let main_cst_7 : FVec F S_ .f32 := constant S_ .f32 0xFF800000#32
  let main_v20 : FVec F S8192x8x64 .f32 := broadcastInDim S8192x8x64 ![] bcast_S_S8192x8x64 main_cst_7
  let main_v21 : IVec S8192x8x64 1 := cmpf .ogt main_arg3 main_v20
  let main_cst_8 : FVec F S_ .f32 := constant S_ .f32 0x7F800000#32
  let main_v22 : FVec F S8192x8x64 .f32 := broadcastInDim S8192x8x64 ![] bcast_S_S8192x8x64 main_cst_8
  let main_v23 : IVec S8192x8x64 1 := cmpf .olt main_arg3 main_v22
  let main_v24 : IVec S8192x8x64 1 := andi main_v21 main_v23
  let main_c_9 : IVec S_ 1 := constantI S_ 1 1#1
  let main_v25 : IVec S_ 1 := (fun x v => Host.reduce IntOp.andi x v reducesTo_S8192x8x64_S_d0_1_2 h_S_) main_v24 main_c_9
  let main_v26 : IVec S_ 1 := andi main_v19 main_v25
  main_v26

def fn {F : FTy → Type} [FloatOps F] (main_arg0 : FVec F S8192x8x96 .f32) (main_arg1 : FVec F S8192x8x96 .f32) (main_arg2 : FVec F S8192x8x64 .f32) (main_arg3 : FVec F S8192x8x64 .f32) : IVec S_ 1 :=
  let main_cst : FVec F S_ .f32 := constant S_ .f32 0xFF800000#32
  let main_v0 : FVec F S8192x8x96 .f32 := broadcastInDim S8192x8x96 ![] bcast_S_S8192x8x96 main_cst
  let main_v1 : IVec S8192x8x96 1 := cmpf .ogt main_arg0 main_v0
  let main_cst_0 : FVec F S_ .f32 := constant S_ .f32 0x7F800000#32
  let main_v2 : FVec F S8192x8x96 .f32 := broadcastInDim S8192x8x96 ![] bcast_S_S8192x8x96 main_cst_0
  let main_v3 : IVec S8192x8x96 1 := cmpf .olt main_arg0 main_v2
  let main_v4 : IVec S8192x8x96 1 := andi main_v1 main_v3
  let main_c : IVec S_ 1 := constantI S_ 1 1#1
  let main_v5 : IVec S_ 1 := (fun x v => Host.reduce IntOp.andi x v reducesTo_S8192x8x96_S_d0_1_2 h_S_) main_v4 main_c
  let main_cst_1 : FVec F S_ .f32 := constant S_ .f32 0xFF800000#32
  let main_v6 : FVec F S8192x8x96 .f32 := broadcastInDim S8192x8x96 ![] bcast_S_S8192x8x96 main_cst_1
  let main_v7 : IVec S8192x8x96 1 := cmpf .ogt main_arg1 main_v6
  let main_cst_2 : FVec F S_ .f32 := constant S_ .f32 0x7F800000#32
  let main_v8 : FVec F S8192x8x96 .f32 := broadcastInDim S8192x8x96 ![] bcast_S_S8192x8x96 main_cst_2
  let main_v9 : IVec S8192x8x96 1 := cmpf .olt main_arg1 main_v8
  let main_v10 : IVec S8192x8x96 1 := andi main_v7 main_v9
  let main_c_3 : IVec S_ 1 := constantI S_ 1 1#1
  let main_v11 : IVec S_ 1 := (fun x v => Host.reduce IntOp.andi x v reducesTo_S8192x8x96_S_d0_1_2 h_S_) main_v10 main_c_3
  let main_v12 : IVec S_ 1 := andi main_v5 main_v11
  let main_cst_4 : FVec F S_ .f32 := constant S_ .f32 0xFF800000#32
  let main_v13 : FVec F S8192x8x64 .f32 := broadcastInDim S8192x8x64 ![] bcast_S_S8192x8x64 main_cst_4
  let main_v14 : IVec S8192x8x64 1 := cmpf .ogt main_arg2 main_v13
  let main_cst_5 : FVec F S_ .f32 := constant S_ .f32 0x7F800000#32
  let main_v15 : FVec F S8192x8x64 .f32 := broadcastInDim S8192x8x64 ![] bcast_S_S8192x8x64 main_cst_5
  fn_part1 (F := F) main_arg2 main_arg3 main_v12 main_v14 main_v15
-- ==== Kernel.lean ====
abbrev S8192x8x96 : Shape := ⟨3, ![8192, 8, 96]⟩
abbrev S8192x8x64 : Shape := ⟨3, ![8192, 8, 64]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x8192x64 : Shape := ⟨3, ![8, 8192, 64]⟩
abbrev S4x2x8192 : Shape := ⟨3, ![4, 2, 8192]⟩
abbrev S8192x8x128 : Shape := ⟨3, ![8192, 8, 128]⟩
abbrev S8192x1024 : Shape := ⟨2, ![8192, 1024]⟩
abbrev S8192x512 : Shape := ⟨2, ![8192, 512]⟩
abbrev S1024x8192 : Shape := ⟨2, ![1024, 8192]⟩
abbrev S512x8192 : Shape := ⟨2, ![512, 8192]⟩
abbrev S8192x256 : Shape := ⟨2, ![8192, 256]⟩
abbrev S256x8192 : Shape := ⟨2, ![256, 8192]⟩
abbrev S512x256 : Shape := ⟨2, ![512, 256]⟩
abbrev S256x512 : Shape := ⟨2, ![256, 512]⟩
abbrev S512x128 : Shape := ⟨2, ![512, 128]⟩
abbrev S8192x128 : Shape := ⟨2, ![8192, 128]⟩
abbrev S128x8192 : Shape := ⟨2, ![128, 8192]⟩
abbrev S1x2x8192 : Shape := ⟨3, ![1, 2, 8192]⟩
abbrev S128x512 : Shape := ⟨2, ![128, 512]⟩
abbrev S512x512 : Shape := ⟨2, ![512, 512]⟩
abbrev S512x64 : Shape := ⟨2, ![512, 64]⟩
abbrev S1x1x512 : Shape := ⟨3, ![1, 1, 512]⟩
abbrev S1x512 : Shape := ⟨2, ![1, 512]⟩
abbrev S64x512 : Shape := ⟨2, ![64, 512]⟩

abbrev nBuf : Space → Nat
  | .hbm => 69
  | .vmem => 24
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S_, .f32⟩
  | .hbm, ⟨5, _⟩ => ⟨S_, .f32⟩
  | .hbm, ⟨6, _⟩ => ⟨S8x8192x8192, .f32⟩
  | .hbm, ⟨7, _⟩ => ⟨S_, .f32⟩
  | .hbm, ⟨8, _⟩ => ⟨S8x8192x8192, .f32⟩
  | .hbm, ⟨9, _⟩ => ⟨S8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x8192x8192, .i1⟩
  | .hbm, ⟨17, _⟩ => ⟨S_, .f32⟩
  | .hbm, ⟨18, _⟩ => ⟨S_, .f32⟩
  | .hbm, ⟨19, _⟩ => ⟨S8x8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .f32⟩
  | .hbm, ⟨33, _⟩ => ⟨S8x8192x64, .f32⟩
  | .hbm, ⟨34, _⟩ => ⟨S8x8192x1, .f32⟩
  | .hbm, ⟨35, _⟩ => ⟨S8x8192x1, .f32⟩
  | .hbm, ⟨36, _⟩ => ⟨S8x8192x1, .f32⟩
  | .hbm, ⟨37, _⟩ => ⟨S8x8192x1, .f32⟩
  | .hbm, ⟨38, _⟩ => ⟨S4x2x8192, .f32⟩
  | .hbm, ⟨39, _⟩ => ⟨S8x8192x64, .f32⟩
  | .hbm, ⟨40, _⟩ => ⟨S8x8192x64, .f32⟩
  | .hbm, ⟨41, _⟩ => ⟨S_, .f32⟩
  | .hbm, ⟨42, _⟩ => ⟨S8x8192, .f32⟩
  | .hbm, ⟨43, _⟩ => ⟨S4x2x8192, .f32⟩
  | .hbm, ⟨44, _⟩ => ⟨S_, .f32⟩
  | .hbm, ⟨45, _⟩ => ⟨S8192x8x96, .f32⟩
  | .hbm, ⟨46, _⟩ => ⟨S8192x8x96, .f32⟩
  | .hbm, ⟨47, _⟩ => ⟨S8192x8x96, .f32⟩
  | .hbm, ⟨48, _⟩ => ⟨S8192x8x96, .f32⟩
  | .hbm, ⟨49, _⟩ => ⟨S_, .i32⟩
  | .hbm, ⟨50, _⟩ => ⟨S_, .f32⟩
  | .hbm, ⟨51, _⟩ => ⟨S8192x8x128, .f32⟩
  | .hbm, ⟨52, _⟩ => ⟨S8192x1024, .f32⟩
  | .hbm, ⟨53, _⟩ => ⟨S8192x1024, .bf16⟩
  | .hbm, ⟨54, _⟩ => ⟨S_, .i32⟩
  | .hbm, ⟨55, _⟩ => ⟨S_, .f32⟩
  | .hbm, ⟨56, _⟩ => ⟨S8192x8x128, .f32⟩
  | .hbm, ⟨57, _⟩ => ⟨S8192x1024, .f32⟩
  | .hbm, ⟨58, _⟩ => ⟨S8192x1024, .bf16⟩
  | .hbm, ⟨59, _⟩ => ⟨S8192x512, .f32⟩
  | .hbm, ⟨60, _⟩ => ⟨S8192x512, .bf16⟩
  | .hbm, ⟨61, _⟩ => ⟨S8192x512, .f32⟩
  | .hbm, ⟨62, _⟩ => ⟨S8192x512, .bf16⟩
  | .hbm, ⟨63, _⟩ => ⟨S1024x8192, .bf16⟩
  | .hbm, ⟨64, _⟩ => ⟨S1024x8192, .bf16⟩
  | .hbm, ⟨65, _⟩ => ⟨S512x8192, .bf16⟩
  | .hbm, ⟨66, _⟩ => ⟨S1024x8192, .f32⟩
  | .hbm, ⟨67, _⟩ => ⟨S1024x8192, .f32⟩
  | .hbm, ⟨68, _⟩ => ⟨S512x8192, .f32⟩
  | .local _ .vmem, ⟨0, _⟩ => ⟨S8192x256, .bf16⟩
  | .local _ .vmem, ⟨1, _⟩ => ⟨S8192x256, .bf16⟩
  | .local _ .vmem, ⟨2, _⟩ => ⟨S256x8192, .bf16⟩
  | .local _ .vmem, ⟨3, _⟩ => ⟨S256x8192, .bf16⟩
  | .local _ .vmem, ⟨4, _⟩ => ⟨S512x256, .bf16⟩
  | .local _ .vmem, ⟨5, _⟩ => ⟨S512x256, .bf16⟩
  | .local _ .vmem, ⟨6, _⟩ => ⟨S256x512, .bf16⟩
  | .local _ .vmem, ⟨7, _⟩ => ⟨S256x512, .bf16⟩
  | .local _ .vmem, ⟨8, _⟩ => ⟨S512x128, .bf16⟩
  | .local _ .vmem, ⟨9, _⟩ => ⟨S512x128, .bf16⟩
  | .local _ .vmem, ⟨10, _⟩ => ⟨S8192x128, .bf16⟩
  | .local _ .vmem, ⟨11, _⟩ => ⟨S8192x128, .bf16⟩
  | .local _ .vmem, ⟨12, _⟩ => ⟨S128x8192, .bf16⟩
  | .local _ .vmem, ⟨13, _⟩ => ⟨S128x8192, .bf16⟩
  | .local _ .vmem, ⟨14, _⟩ => ⟨S1x2x8192, .f32⟩
  | .local _ .vmem, ⟨15, _⟩ => ⟨S1x2x8192, .f32⟩
  | .local _ .vmem, ⟨16, _⟩ => ⟨S1x2x8192, .f32⟩
  | .local _ .vmem, ⟨17, _⟩ => ⟨S1x2x8192, .f32⟩
  | .local _ .vmem, ⟨18, _⟩ => ⟨S256x8192, .f32⟩
  | .local _ .vmem, ⟨19, _⟩ => ⟨S256x8192, .f32⟩
  | .local _ .vmem, ⟨20, _⟩ => ⟨S256x512, .f32⟩
  | .local _ .vmem, ⟨21, _⟩ => ⟨S256x512, .f32⟩
  | .local _ .vmem, ⟨22, _⟩ => ⟨S128x512, .f32⟩
  | .local _ .vmem, ⟨23, _⟩ => ⟨S128x512, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c : Ref sig .tc := ⟨.hbm, 49, rfl⟩
abbrev main_call1_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_call2_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48_0 : Ref sig .tc := ⟨.hbm, 66, rfl⟩
abbrev main_v48_1 : Ref sig .tc := ⟨.hbm, 67, rfl⟩
abbrev main_v48_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v22 : BitVec 32 := Scalar.muli arg1 c512_i32
  v22
def k0_off1 (i : grid0.Coords) : Fin 2 → Nat :=
  let arg1 : BitVec 32 := BitVec.ofNat 32 (i 1).val
  let c512_i32 : BitVec 32 := 512#32
  let v22 : BitVec 32 := Scalar.muli arg1 c512_i32
  let v23 : BitVec 32 := v22
  let v24 : Index := Scalar.indexCast v23
  let c0_15 : Index := 0#32
  ![v24.toNat, 0]
def k0_off2 (i : grid0.Coords) : Fin 2 → Nat :=
  let arg1 : BitVec 32 := BitVec.ofNat 32 (i 1).val
  let c512_i32 : BitVec 32 := 512#32
  let v22 : BitVec 32 := Scalar.muli arg1 c512_i32
  let v23 : BitVec 32 := v22
  let v27 : Index := Scalar.indexCast v23
  let c0_16 : Index := 0#32
  ![v27.toNat, 0]
def k0_off3 (i : grid0.Coords) : Fin 2 → Nat :=
  let arg1 : BitVec 32 := BitVec.ofNat 32 (i 1).val
  let c512_i32 : BitVec 32 := 512#32
  let v22 : BitVec 32 := Scalar.muli arg1 c512_i32
  let v23 : BitVec 32 := v22
  let v34 : Index := Scalar.indexCast v23
  let c128_20 : Index := 128#32
  ![v34.toNat, 128]
def k0_off4 (i : grid0.Coords) : Fin 2 → Nat :=
  let arg1 : BitVec 32 := BitVec.ofNat 32 (i 1).val
  let c512_i32 : BitVec 32 := 512#32
  let v22 : BitVec 32 := Scalar.muli arg1 c512_i32
  let v23 : BitVec 32 := v22
  let v37 : Index := Scalar.indexCast v23
  let c64_21 : Index := 64#32
  ![v37.toNat, 64]
def k0_off5 (i : grid0.Coords) : Fin 3 → Nat :=
  let c0_25 : Index := 0#32
  let c0_26 : Index := 0#32
  let arg1 : BitVec 32 := BitVec.ofNat 32 (i 1).val
  let c512_i32 : BitVec 32 := 512#32
  let v22 : BitVec 32 := Scalar.muli arg1 c512_i32
  let v23 : BitVec 32 := v22
  let v44 : Index := Scalar.indexCast v23
  ![0, 0, v44.toNat]
def k0_off6 (i : grid0.Coords) : Fin 2 → Nat :=
  let c0_29 : Index := 0#32
  let arg1 : BitVec 32 := BitVec.ofNat 32 (i 1).val
  let c512_i32 : BitVec 32 := 512#32
  let v22 : BitVec 32 := Scalar.muli arg1 c512_i32
  let v23 : BitVec 32 := v22
  let v57 : Index := Scalar.indexCast v23
  ![0, v57.toNat]
def k0_off7 (i : grid0.Coords) : Fin 2 → Nat :=
  let c0_30 : Index := 0#32
  let arg1 : BitVec 32 := BitVec.ofNat 32 (i 1).val
  let c512_i32 : BitVec 32 := 512#32
  let v22 : BitVec 32 := Scalar.muli arg1 c512_i32
  let v23 : BitVec 32 := v22
  let v60 : Index := Scalar.indexCast v23
  ![0, v60.toNat]
def k0_off8 (i : grid0.Coords) : Fin 3 → Nat :=
  let c0_44 : Index := 0#32
  let c1 : Index := 1#32
  let arg1 : BitVec 32 := BitVec.ofNat 32 (i 1).val
  let c512_i32 : BitVec 32 := 512#32
  let v22 : BitVec 32 := Scalar.muli arg1 c512_i32
  let v23 : BitVec 32 := v22
  let v81 : Index := Scalar.indexCast v23
  ![0, 1, v81.toNat]
def k0_off9 (i : grid0.Coords) : Fin 2 → Nat :=
  let c128_47 : Index := 128#32
  let arg1 : BitVec 32 := BitVec.ofNat 32 (i 1).val
  let c512_i32 : BitVec 32 := 512#32
  let v22 : BitVec 32 := Scalar.muli arg1 c512_i32
  let v23 : BitVec 32 := v22
  let v94 : Index := Scalar.indexCast v23
  ![128, v94.toNat]
def k0_off10 (i : grid0.Coords) : Fin 2 → Nat :=
  let c64_48 : Index := 64#32
  let arg1 : BitVec 32 := BitVec.ofNat 32 (i 1).val
  let c512_i32 : BitVec 32 := 512#32
  let v22 : BitVec 32 := Scalar.muli arg1 c512_i32
  let v23 : BitVec 32 := v22
  let v97 : Index := Scalar.indexCast v23
  ![64, v97.toNat]
def k0_cond2 (i : grid0.Coords) : BitVec 1 :=
  let c15_i32 : BitVec 32 := 15#32
  let arg1 : BitVec 32 := BitVec.ofNat 32 (i 1).val
  let v118 : BitVec 32 := Scalar.subi c15_i32 arg1
  let c2_i32 : BitVec 32 := 2#32
  let c0_i32_62 : BitVec 32 := 0#32
  let v119 : BitVec 1 := Scalar.cmpi .eq c2_i32 c0_i32_62
  let c1_i32 : BitVec 32 := 1#32
  let v120 : BitVec 32 := Scalar.select v119 c1_i32 c2_i32
  let v121 : BitVec 32 := Scalar.remsi v118 v120
  let c0_i32_64 : BitVec 32 := 0#32
  let v123 : BitVec 1 := Scalar.cmpi .slt v121 c0_i32_64
  let c0_i32_65 : BitVec 32 := 0#32
  let v124 : BitVec 1 := Scalar.cmpi .slt v120 c0_i32_65
  let v125 : BitVec 1 := Scalar.xori v123 v124
  let c0_i32_63 : BitVec 32 := 0#32
  let v122 : BitVec 1 := Scalar.cmpi .ne v121 c0_i32_63
  let v126 : BitVec 1 := Scalar.andi v125 v122
  let v127 : BitVec 32 := Scalar.addi v121 v120
  let v128 : BitVec 32 := Scalar.select v126 v127 v121
  let c1_i32_66 : BitVec 32 := 1#32
  let v129 : BitVec 1 := Scalar.cmpi .eq v128 c1_i32_66
  let v130 : BitVec 32 := Scalar.extui v129
  let c0_i32_67 : BitVec 32 := 0#32
  let v131 : BitVec 1 := Scalar.cmpi .ne v130 c0_i32_67
  v131

def k0_mult2 (i : grid0.Coords) : BitVec 32 :=
  let arg1 : BitVec 32 := BitVec.ofNat 32 (i 1).val
  let c1_i32_150 : BitVec 32 := 1#32
  let v292 : BitVec 32 := Scalar.addi arg1 c1_i32_150
  let c512_i32_151 : BitVec 32 := 512#32
  let v293 : BitVec 32 := Scalar.muli v292 c512_i32_151
  v293
def k0_off11 (i : grid0.Coords) : Fin 2 → Nat :=
  let arg1 : BitVec 32 := BitVec.ofNat 32 (i 1).val
  let c1_i32_150 : BitVec 32 := 1#32
  let v292 : BitVec 32 := Scalar.addi arg1 c1_i32_150
  let c512_i32_151 : BitVec 32 := 512#32
  let v293 : BitVec 32 := Scalar.muli v292 c512_i32_151
  let v294 : BitVec 32 := v293
  let v295 : Index := Scalar.indexCast v294
  let c0_152 : Index := 0#32
  ![v295.toNat, 0]
def k0_off12 (i : grid0.Coords) : Fin 2 → Nat :=
  let arg1 : BitVec 32 := BitVec.ofNat 32 (i 1).val
  let c1_i32_150 : BitVec 32 := 1#32
  let v292 : BitVec 32 := Scalar.addi arg1 c1_i32_150
  let c512_i32_151 : BitVec 32 := 512#32
  let v293 : BitVec 32 := Scalar.muli v292 c512_i32_151
  let v294 : BitVec 32 := v293
  let v298 : Index := Scalar.indexCast v294
  let c0_153 : Index := 0#32
  ![v298.toNat, 0]
def k0_off13 (i : grid0.Coords) : Fin 2 → Nat :=
  let arg1 : BitVec 32 := BitVec.ofNat 32 (i 1).val
  let c1_i32_150 : BitVec 32 := 1#32
  let v292 : BitVec 32 := Scalar.addi arg1 c1_i32_150
  let c512_i32_151 : BitVec 32 := 512#32
  let v293 : BitVec 32 := Scalar.muli v292 c512_i32_151
  let v294 : BitVec 32 := v293
  let v303 : Index := Scalar.indexCast v294
  let c128_156 : Index := 128#32
  ![v303.toNat, 128]
def k0_off14 (i : grid0.Coords) : Fin 2 → Nat :=
  let arg1 : BitVec 32 := BitVec.ofNat 32 (i 1).val
  let c1_i32_150 : BitVec 32 := 1#32
  let v292 : BitVec 32 := Scalar.addi arg1 c1_i32_150
  let c512_i32_151 : BitVec 32 := 512#32
  let v293 : BitVec 32 := Scalar.muli v292 c512_i32_151
  let v294 : BitVec 32 := v293
  let v306 : Index := Scalar.indexCast v294
  let c64_157 : Index := 64#32
  ![v306.toNat, 64]
def k0_off15 (i : grid0.Coords) : Fin 3 → Nat :=
  let c0_160 : Index := 0#32
  let c0_161 : Index := 0#32
  let arg1 : BitVec 32 := BitVec.ofNat 32 (i 1).val
  let c1_i32_150 : BitVec 32 := 1#32
  let v292 : BitVec 32 := Scalar.addi arg1 c1_i32_150
  let c512_i32_151 : BitVec 32 := 512#32
  let v293 : BitVec 32 := Scalar.muli v292 c512_i32_151
  let v294 : BitVec 32 := v293
  let v311 : Index := Scalar.indexCast v294
  ![0, 0, v311.toNat]
def k0_off16 (i : grid0.Coords) : Fin 2 → Nat :=
  let c0_164 : Index := 0#32
  let arg1 : BitVec 32 := BitVec.ofNat 32 (i 1).val
  let c1_i32_150 : BitVec 32 := 1#32
  let v292 : BitVec 32 := Scalar.addi arg1 c1_i32_150
  let c512_i32_151 : BitVec 32 := 512#32
  let v293 : BitVec 32 := Scalar.muli v292 c512_i32_151
  let v294 : BitVec 32 := v293
  let v324 : Index := Scalar.indexCast v294
  ![0, v324.toNat]
def k0_off17 (i : grid0.Coords) : Fin 2 → Nat :=
  let c0_165 : Index := 0#32
  let arg1 : BitVec 32 := BitVec.ofNat 32 (i 1).val
  let c1_i32_150 : BitVec 32 := 1#32
  let v292 : BitVec 32 := Scalar.addi arg1 c1_i32_150
  let c512_i32_151 : BitVec 32 := 512#32
  let v293 : BitVec 32 := Scalar.muli v292 c512_i32_151
  let v294 : BitVec 32 := v293
  let v327 : Index := Scalar.indexCast v294
  ![0, v327.toNat]
def k0_off18 (i : grid0.Coords) : Fin 3 → Nat :=
  let c0_179 : Index := 0#32
  let c1_180 : Index := 1#32
  let arg1 : BitVec 32 := BitVec.ofNat 32 (i 1).val
  let c1_i32_150 : BitVec 32 := 1#32
  let v292 : BitVec 32 := Scalar.addi arg1 c1_i32_150
  let c512_i32_151 : BitVec 32 := 512#32
  let v293 : BitVec 32 := Scalar.muli v292 c512_i32_151
  let v294 : BitVec 32 := v293
  let v348 : Index := Scalar.indexCast v294
  ![0, 1, v348.toNat]
def k0_off19 (i : grid0.Coords) : Fin 2 → Nat :=
  let c128_183 : Index := 128#32
  let arg1 : BitVec 32 := BitVec.ofNat 32 (i 1).val
  let c1_i32_150 : BitVec 32 := 1#32
  let v292 : BitVec 32 := Scalar.addi arg1 c1_i32_150
  let c512_i32_151 : BitVec 32 := 512#32
  let v293 : BitVec 32 := Scalar.muli v292 c512_i32_151
  let v294 : BitVec 32 := v293
  let v361 : Index := Scalar.indexCast v294
  ![128, v361.toNat]
def k0_off20 (i : grid0.Coords) : Fin 2 → Nat :=
  let c64_184 : Index := 64#32
  let arg1 : BitVec 32 := BitVec.ofNat 32 (i 1).val
  let c1_i32_150 : BitVec 32 := 1#32
  let v292 : BitVec 32 := Scalar.addi arg1 c1_i32_150
  let c512_i32_151 : BitVec 32 := 512#32
  let v293 : BitVec 32 := Scalar.muli v292 c512_i32_151
  let v294 : BitVec 32 := v293
  let v364 : Index := Scalar.indexCast v294
  ![64, v364.toNat]
def k0_cond3 (i : grid0.Coords) : BitVec 1 :=
  let c15_i32 : BitVec 32 := 15#32
  let arg1 : BitVec 32 := BitVec.ofNat 32 (i 1).val
  let v118 : BitVec 32 := Scalar.subi c15_i32 arg1
  let c0_i32_76 : BitVec 32 := 0#32
  let v145 : BitVec 1 := Scalar.cmpi .sgt v118 c0_i32_76
  let v146 : BitVec 32 := Scalar.extui v145
  let c0_i32_77 : BitVec 32 := 0#32
  let v147 : BitVec 1 := Scalar.cmpi .slt v118 c0_i32_77
  let v148 : BitVec 32 := Scalar.extui v147
  let v149 : BitVec 32 := Scalar.subi v146 v148
  let c2_i32_75 : BitVec 32 := 2#32
  let c0_i32_78 : BitVec 32 := 0#32
  let v150 : BitVec 1 := Scalar.cmpi .sgt c2_i32_75 c0_i32_78
  let v151 : BitVec 32 := Scalar.extui v150
  let c0_i32_79 : BitVec 32 := 0#32
  let v152 : BitVec 1 := Scalar.cmpi .slt c2_i32_75 c0_i32_79
  let v153 : BitVec 32 := Scalar.extui v152
  let v154 : BitVec 32 := Scalar.subi v151 v153
  let v155 : BitVec 1 := Scalar.cmpi .ne v149 v154
  let v156 : BitVec 32 := Scalar.remsi v118 c2_i32_75
  let c0_i32_80 : BitVec 32 := 0#32
  let v157 : BitVec 1 := Scalar.cmpi .ne v156 c0_i32_80
  let v158 : BitVec 1 := Scalar.andi v155 v157
  let v144 : BitVec 32 := Scalar.divsi v118 c2_i32_75
  let c1_i32_81 : BitVec 32 := 1#32
  let v159 : BitVec 32 := Scalar.subi v144 c1_i32_81
  let v160 : BitVec 32 := Scalar.select v158 v159 v144
  let c2_i32_82 : BitVec 32 := 2#32
  let c0_i32_83 : BitVec 32 := 0#32
  let v161 : BitVec 1 := Scalar.cmpi .eq c2_i32_82 c0_i32_83
  let c1_i32_84 : BitVec 32 := 1#32
  let v162 : BitVec 32 := Scalar.select v161 c1_i32_84 c2_i32_82
  let v163 : BitVec 32 := Scalar.remsi v160 v162
  let c0_i32_86 : BitVec 32 := 0#32
  let v165 : BitVec 1 := Scalar.cmpi .slt v163 c0_i32_86
  let c0_i32_87 : BitVec 32 := 0#32
  let v166 : BitVec 1 := Scalar.cmpi .slt v162 c0_i32_87
  let v167 : BitVec 1 := Scalar.xori v165 v166
  let c0_i32_85 : BitVec 32 := 0#32
  let v164 : BitVec 1 := Scalar.cmpi .ne v163 c0_i32_85
  let v168 : BitVec 1 := Scalar.andi v167 v164
  let v169 : BitVec 32 := Scalar.addi v163 v162
  let v170 : BitVec 32 := Scalar.select v168 v169 v163
  let c1_i32_88 : BitVec 32 := 1#32
  let v171 : BitVec 1 := Scalar.cmpi .eq v170 c1_i32_88
  let v172 : BitVec 32 := Scalar.extui v171
  let c0_i32_89 : BitVec 32 := 0#32
  let v173 : BitVec 1 := Scalar.cmpi .ne v172 c0_i32_89
  v173

def k0_mult3 (i : grid0.Coords) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c512_i32_150 : BitVec 32 := 512#32
  let v292 : BitVec 32 := Scalar.muli v143 c512_i32_150
  v292
def k0_off21 (i : grid0.Coords) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c512_i32_150 : BitVec 32 := 512#32
  let v292 : BitVec 32 := Scalar.muli v143 c512_i32_150
  let v293 : BitVec 32 := v292
  let v294 : Index := Scalar.indexCast v293
  let c0_151 : Index := 0#32
  ![v294.toNat, 0]
def k0_off22 (i : grid0.Coords) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c512_i32_150 : BitVec 32 := 512#32
  let v292 : BitVec 32 := Scalar.muli v143 c512_i32_150
  let v293 : BitVec 32 := v292
  let v297 : Index := Scalar.indexCast v293
  let c0_152 : Index := 0#32
  ![v297.toNat, 0]
def k0_off23 (i : grid0.Coords) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c512_i32_150 : BitVec 32 := 512#32
  let v292 : BitVec 32 := Scalar.muli v143 c512_i32_150
  let v293 : BitVec 32 := v292
  let v302 : Index := Scalar.indexCast v293
  let c128_155 : Index := 128#32
  ![v302.toNat, 128]
def k0_off24 (i : grid0.Coords) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c512_i32_150 : BitVec 32 := 512#32
  let v292 : BitVec 32 := Scalar.muli v143 c512_i32_150
  let v293 : BitVec 32 := v292
  let v305 : Index := Scalar.indexCast v293
  let c64_156 : Index := 64#32
  ![v305.toNat, 64]
def k0_off25 (i : grid0.Coords) : Fin 3 → Nat :=
  let c0_159 : Index := 0#32
  let c0_160 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c512_i32_150 : BitVec 32 := 512#32
  let v292 : BitVec 32 := Scalar.muli v143 c512_i32_150
  let v293 : BitVec 32 := v292
  let v310 : Index := Scalar.indexCast v293
  ![0, 0, v310.toNat]
def k0_off26 (i : grid0.Coords) : Fin 2 → Nat :=
  let c0_163 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c512_i32_150 : BitVec 32 := 512#32
  let v292 : BitVec 32 := Scalar.muli v143 c512_i32_150
  let v293 : BitVec 32 := v292
  let v323 : Index := Scalar.indexCast v293
  ![0, v323.toNat]
def k0_off27 (i : grid0.Coords) : Fin 2 → Nat :=
  let c0_164 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c512_i32_150 : BitVec 32 := 512#32
  let v292 : BitVec 32 := Scalar.muli v143 c512_i32_150
  let v293 : BitVec 32 := v292
  let v326 : Index := Scalar.indexCast v293
  ![0, v326.toNat]
def k0_off28 (i : grid0.Coords) : Fin 3 → Nat :=
  let c0_178 : Index := 0#32
  let c1_179 : Index := 1#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c512_i32_150 : BitVec 32 := 512#32
  let v292 : BitVec 32 := Scalar.muli v143 c512_i32_150
  let v293 : BitVec 32 := v292
  let v347 : Index := Scalar.indexCast v293
  ![0, 1, v347.toNat]
def k0_off29 (i : grid0.Coords) : Fin 2 → Nat :=
  let c128_182 : Index := 128#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c512_i32_150 : BitVec 32 := 512#32
  let v292 : BitVec 32 := Scalar.muli v143 c512_i32_150
  let v293 : BitVec 32 := v292
  let v360 : Index := Scalar.indexCast v293
  ![128, v360.toNat]
def k0_off30 (i : grid0.Coords) : Fin 2 → Nat :=
  let c64_183 : Index := 64#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c512_i32_150 : BitVec 32 := 512#32
  let v292 : BitVec 32 := Scalar.muli v143 c512_i32_150
  let v293 : BitVec 32 := v292
  let v363 : Index := Scalar.indexCast v293
  ![64, v363.toNat]
def k0_mult4 (i : grid0.Coords) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c1_i32_197 : BitVec 32 := 1#32
  let v384 : BitVec 32 := Scalar.addi v143 c1_i32_197
  let c512_i32_198 : BitVec 32 := 512#32
  let v385 : BitVec 32 := Scalar.muli v384 c512_i32_198
  v385
def k0_off31 (i : grid0.Coords) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c1_i32_197 : BitVec 32 := 1#32
  let v384 : BitVec 32 := Scalar.addi v143 c1_i32_197
  let c512_i32_198 : BitVec 32 := 512#32
  let v385 : BitVec 32 := Scalar.muli v384 c512_i32_198
  let v386 : BitVec 32 := v385
  let v387 : Index := Scalar.indexCast v386
  let c0_199 : Index := 0#32
  ![v387.toNat, 0]
def k0_off32 (i : grid0.Coords) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c1_i32_197 : BitVec 32 := 1#32
  let v384 : BitVec 32 := Scalar.addi v143 c1_i32_197
  let c512_i32_198 : BitVec 32 := 512#32
  let v385 : BitVec 32 := Scalar.muli v384 c512_i32_198
  let v386 : BitVec 32 := v385
  let v390 : Index := Scalar.indexCast v386
  let c0_200 : Index := 0#32
  ![v390.toNat, 0]
def k0_off33 (i : grid0.Coords) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c1_i32_197 : BitVec 32 := 1#32
  let v384 : BitVec 32 := Scalar.addi v143 c1_i32_197
  let c512_i32_198 : BitVec 32 := 512#32
  let v385 : BitVec 32 := Scalar.muli v384 c512_i32_198
  let v386 : BitVec 32 := v385
  let v395 : Index := Scalar.indexCast v386
  let c128_203 : Index := 128#32
  ![v395.toNat, 128]
def k0_off34 (i : grid0.Coords) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c1_i32_197 : BitVec 32 := 1#32
  let v384 : BitVec 32 := Scalar.addi v143 c1_i32_197
  let c512_i32_198 : BitVec 32 := 512#32
  let v385 : BitVec 32 := Scalar.muli v384 c512_i32_198
  let v386 : BitVec 32 := v385
  let v398 : Index := Scalar.indexCast v386
  let c64_204 : Index := 64#32
  ![v398.toNat, 64]
def k0_off35 (i : grid0.Coords) : Fin 3 → Nat :=
  let c0_207 : Index := 0#32
  let c0_208 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c1_i32_197 : BitVec 32 := 1#32
  let v384 : BitVec 32 := Scalar.addi v143 c1_i32_197
  let c512_i32_198 : BitVec 32 := 512#32
  let v385 : BitVec 32 := Scalar.muli v384 c512_i32_198
  let v386 : BitVec 32 := v385
  let v403 : Index := Scalar.indexCast v386
  ![0, 0, v403.toNat]
def k0_off36 (i : grid0.Coords) : Fin 2 → Nat :=
  let c0_211 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c1_i32_197 : BitVec 32 := 1#32
  let v384 : BitVec 32 := Scalar.addi v143 c1_i32_197
  let c512_i32_198 : BitVec 32 := 512#32
  let v385 : BitVec 32 := Scalar.muli v384 c512_i32_198
  let v386 : BitVec 32 := v385
  let v416 : Index := Scalar.indexCast v386
  ![0, v416.toNat]
def k0_off37 (i : grid0.Coords) : Fin 2 → Nat :=
  let c0_212 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c1_i32_197 : BitVec 32 := 1#32
  let v384 : BitVec 32 := Scalar.addi v143 c1_i32_197
  let c512_i32_198 : BitVec 32 := 512#32
  let v385 : BitVec 32 := Scalar.muli v384 c512_i32_198
  let v386 : BitVec 32 := v385
  let v419 : Index := Scalar.indexCast v386
  ![0, v419.toNat]
def k0_off38 (i : grid0.Coords) : Fin 3 → Nat :=
  let c0_226 : Index := 0#32
  let c1_227 : Index := 1#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c1_i32_197 : BitVec 32 := 1#32
  let v384 : BitVec 32 := Scalar.addi v143 c1_i32_197
  let c512_i32_198 : BitVec 32 := 512#32
  let v385 : BitVec 32 := Scalar.muli v384 c512_i32_198
  let v386 : BitVec 32 := v385
  let v440 : Index := Scalar.indexCast v386
  ![0, 1, v440.toNat]
def k0_off39 (i : grid0.Coords) : Fin 2 → Nat :=
  let c128_230 : Index := 128#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c1_i32_197 : BitVec 32 := 1#32
  let v384 : BitVec 32 := Scalar.addi v143 c1_i32_197
  let c512_i32_198 : BitVec 32 := 512#32
  let v385 : BitVec 32 := Scalar.muli v384 c512_i32_198
  let v386 : BitVec 32 := v385
  let v453 : Index := Scalar.indexCast v386
  ![128, v453.toNat]
def k0_off40 (i : grid0.Coords) : Fin 2 → Nat :=
  let c64_231 : Index := 64#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c1_i32_197 : BitVec 32 := 1#32
  let v384 : BitVec 32 := Scalar.addi v143 c1_i32_197
  let c512_i32_198 : BitVec 32 := 512#32
  let v385 : BitVec 32 := Scalar.muli v384 c512_i32_198
  let v386 : BitVec 32 := v385
  let v456 : Index := Scalar.indexCast v386
  ![64, v456.toNat]
def k0_cond4 (i : grid0.Coords) : BitVec 1 :=
  let c15_i32 : BitVec 32 := 15#32
  let arg1 : BitVec 32 := BitVec.ofNat 32 (i 1).val
  let v118 : BitVec 32 := Scalar.subi c15_i32 arg1
  let c0_i32_104 : BitVec 32 := 0#32
  let v204 : BitVec 1 := Scalar.cmpi .sgt v118 c0_i32_104
  let v205 : BitVec 32 := Scalar.extui v204
  let c0_i32_105 : BitVec 32 := 0#32
  let v206 : BitVec 1 := Scalar.cmpi .slt v118 c0_i32_105
  let v207 : BitVec 32 := Scalar.extui v206
  let v208 : BitVec 32 := Scalar.subi v205 v207
  let c4_i32 : BitVec 32 := 4#32
  let c0_i32_106 : BitVec 32 := 0#32
  let v209 : BitVec 1 := Scalar.cmpi .sgt c4_i32 c0_i32_106
  let v210 : BitVec 32 := Scalar.extui v209
  let c0_i32_107 : BitVec 32 := 0#32
  let v211 : BitVec 1 := Scalar.cmpi .slt c4_i32 c0_i32_107
  let v212 : BitVec 32 := Scalar.extui v211
  let v213 : BitVec 32 := Scalar.subi v210 v212
  let v214 : BitVec 1 := Scalar.cmpi .ne v208 v213
  let v215 : BitVec 32 := Scalar.remsi v118 c4_i32
  let c0_i32_108 : BitVec 32 := 0#32
  let v216 : BitVec 1 := Scalar.cmpi .ne v215 c0_i32_108
  let v217 : BitVec 1 := Scalar.andi v214 v216
  let v203 : BitVec 32 := Scalar.divsi v118 c4_i32
  let c1_i32_109 : BitVec 32 := 1#32
  let v218 : BitVec 32 := Scalar.subi v203 c1_i32_109
  let v219 : BitVec 32 := Scalar.select v217 v218 v203
  let c2_i32_110 : BitVec 32 := 2#32
  let c0_i32_111 : BitVec 32 := 0#32
  let v220 : BitVec 1 := Scalar.cmpi .eq c2_i32_110 c0_i32_111
  let c1_i32_112 : BitVec 32 := 1#32
  let v221 : BitVec 32 := Scalar.select v220 c1_i32_112 c2_i32_110
  let v222 : BitVec 32 := Scalar.remsi v219 v221
  let c0_i32_114 : BitVec 32 := 0#32
  let v224 : BitVec 1 := Scalar.cmpi .slt v222 c0_i32_114
  let c0_i32_115 : BitVec 32 := 0#32
  let v225 : BitVec 1 := Scalar.cmpi .slt v221 c0_i32_115
  let v226 : BitVec 1 := Scalar.xori v224 v225
  let c0_i32_113 : BitVec 32 := 0#32
  let v223 : BitVec 1 := Scalar.cmpi .ne v222 c0_i32_113
  let v227 : BitVec 1 := Scalar.andi v226 v223
  let v228 : BitVec 32 := Scalar.addi v222 v221
  let v229 : BitVec 32 := Scalar.select v227 v228 v222
  let c1_i32_116 : BitVec 32 := 1#32
  let v230 : BitVec 1 := Scalar.cmpi .eq v229 c1_i32_116
  let v231 : BitVec 32 := Scalar.extui v230
  let c0_i32_117 : BitVec 32 := 0#32
  let v232 : BitVec 1 := Scalar.cmpi .ne v231 c0_i32_117
  v232

def k0_mult5 (i : grid0.Coords) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c0_i32_150 : BitVec 32 := 0#32
  let v292 : BitVec 32 := Scalar.addi v202 c0_i32_150
  let c512_i32_151 : BitVec 32 := 512#32
  let v293 : BitVec 32 := Scalar.muli v292 c512_i32_151
  v293
def k0_off41 (i : grid0.Coords) (c0_i32_150 : BitVec 32) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let v292 : BitVec 32 := Scalar.addi v202 c0_i32_150
  let c512_i32_151 : BitVec 32 := 512#32
  let v293 : BitVec 32 := Scalar.muli v292 c512_i32_151
  let v294 : BitVec 32 := v293
  let v295 : Index := Scalar.indexCast v294
  let c0_152 : Index := 0#32
  ![v295.toNat, 0]
def k0_off42 (i : grid0.Coords) (c0_i32_150 : BitVec 32) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let v292 : BitVec 32 := Scalar.addi v202 c0_i32_150
  let c512_i32_151 : BitVec 32 := 512#32
  let v293 : BitVec 32 := Scalar.muli v292 c512_i32_151
  let v294 : BitVec 32 := v293
  let v298 : Index := Scalar.indexCast v294
  let c0_153 : Index := 0#32
  ![v298.toNat, 0]
def k0_off43 (i : grid0.Coords) (c0_i32_150 : BitVec 32) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let v292 : BitVec 32 := Scalar.addi v202 c0_i32_150
  let c512_i32_151 : BitVec 32 := 512#32
  let v293 : BitVec 32 := Scalar.muli v292 c512_i32_151
  let v294 : BitVec 32 := v293
  let v303 : Index := Scalar.indexCast v294
  let c128_156 : Index := 128#32
  ![v303.toNat, 128]
def k0_off44 (i : grid0.Coords) (c0_i32_150 : BitVec 32) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let v292 : BitVec 32 := Scalar.addi v202 c0_i32_150
  let c512_i32_151 : BitVec 32 := 512#32
  let v293 : BitVec 32 := Scalar.muli v292 c512_i32_151
  let v294 : BitVec 32 := v293
  let v306 : Index := Scalar.indexCast v294
  let c64_157 : Index := 64#32
  ![v306.toNat, 64]
def k0_off45 (i : grid0.Coords) (c0_i32_150 : BitVec 32) : Fin 3 → Nat :=
  let c0_160 : Index := 0#32
  let c0_161 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let v292 : BitVec 32 := Scalar.addi v202 c0_i32_150
  let c512_i32_151 : BitVec 32 := 512#32
  let v293 : BitVec 32 := Scalar.muli v292 c512_i32_151
  let v294 : BitVec 32 := v293
  let v311 : Index := Scalar.indexCast v294
  ![0, 0, v311.toNat]
def k0_off46 (i : grid0.Coords) (c0_i32_150 : BitVec 32) : Fin 2 → Nat :=
  let c0_164 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let v292 : BitVec 32 := Scalar.addi v202 c0_i32_150
  let c512_i32_151 : BitVec 32 := 512#32
  let v293 : BitVec 32 := Scalar.muli v292 c512_i32_151
  let v294 : BitVec 32 := v293
  let v324 : Index := Scalar.indexCast v294
  ![0, v324.toNat]
def k0_off47 (i : grid0.Coords) (c0_i32_150 : BitVec 32) : Fin 2 → Nat :=
  let c0_165 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let v292 : BitVec 32 := Scalar.addi v202 c0_i32_150
  let c512_i32_151 : BitVec 32 := 512#32
  let v293 : BitVec 32 := Scalar.muli v292 c512_i32_151
  let v294 : BitVec 32 := v293
  let v327 : Index := Scalar.indexCast v294
  ![0, v327.toNat]
def k0_off48 (i : grid0.Coords) (c0_i32_150 : BitVec 32) : Fin 3 → Nat :=
  let c0_179 : Index := 0#32
  let c1_180 : Index := 1#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let v292 : BitVec 32 := Scalar.addi v202 c0_i32_150
  let c512_i32_151 : BitVec 32 := 512#32
  let v293 : BitVec 32 := Scalar.muli v292 c512_i32_151
  let v294 : BitVec 32 := v293
  let v348 : Index := Scalar.indexCast v294
  ![0, 1, v348.toNat]
def k0_off49 (i : grid0.Coords) (c0_i32_150 : BitVec 32) : Fin 2 → Nat :=
  let c128_183 : Index := 128#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let v292 : BitVec 32 := Scalar.addi v202 c0_i32_150
  let c512_i32_151 : BitVec 32 := 512#32
  let v293 : BitVec 32 := Scalar.muli v292 c512_i32_151
  let v294 : BitVec 32 := v293
  let v361 : Index := Scalar.indexCast v294
  ![128, v361.toNat]
def k0_off50 (i : grid0.Coords) (c0_i32_150 : BitVec 32) : Fin 2 → Nat :=
  let c64_184 : Index := 64#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let v292 : BitVec 32 := Scalar.addi v202 c0_i32_150
  let c512_i32_151 : BitVec 32 := 512#32
  let v293 : BitVec 32 := Scalar.muli v292 c512_i32_151
  let v294 : BitVec 32 := v293
  let v364 : Index := Scalar.indexCast v294
  ![64, v364.toNat]
def k0_mult6 (i : grid0.Coords) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c1_i32_198 : BitVec 32 := 1#32
  let v385 : BitVec 32 := Scalar.addi v202 c1_i32_198
  let c512_i32_199 : BitVec 32 := 512#32
  let v386 : BitVec 32 := Scalar.muli v385 c512_i32_199
  v386
def k0_mult7 (i : grid0.Coords) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c2_i32_246 : BitVec 32 := 2#32
  let v478 : BitVec 32 := Scalar.addi v202 c2_i32_246
  let c512_i32_247 : BitVec 32 := 512#32
  let v479 : BitVec 32 := Scalar.muli v478 c512_i32_247
  v479
def k0_mult8 (i : grid0.Coords) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c3_i32 : BitVec 32 := 3#32
  let v571 : BitVec 32 := Scalar.addi v202 c3_i32
  let c512_i32_294 : BitVec 32 := 512#32
  let v572 : BitVec 32 := Scalar.muli v571 c512_i32_294
  v572
@[reducible] def k0_t1_loop (i : grid0.Coords) : Scf.Loop 32 :=
  let c0_i32_139 : BitVec 32 := 0#32
  let c15_i32 : BitVec 32 := 15#32
  let arg1 : BitVec 32 := BitVec.ofNat 32 (i 1).val
  let v118 : BitVec 32 := Scalar.subi c15_i32 arg1
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_141 : BitVec 32 := 1#32
  ⟨c0_i32_139, v283, c1_i32_141⟩
def k0_mult9 (i : grid0.Coords) (k0_t1 : Fin (k0_t1_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c1_i32_141 : BitVec 32 := 1#32
  let arg14 : BitVec 32 := Scf.iv c0_i32_139 c1_i32_141 k0_t1
  let v292 : BitVec 32 := Scalar.muli c8_i32_150 arg14
  let v293 : BitVec 32 := Scalar.addi v261 v292
  let c0_i32_151 : BitVec 32 := 0#32
  let v294 : BitVec 32 := Scalar.addi v293 c0_i32_151
  let c512_i32_152 : BitVec 32 := 512#32
  let v295 : BitVec 32 := Scalar.muli v294 c512_i32_152
  v295
def k0_off51 (i : grid0.Coords) (k0_t1 : Fin (k0_t1_loop i).trips) (c0_i32_151 : BitVec 32) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c1_i32_141 : BitVec 32 := 1#32
  let arg14 : BitVec 32 := Scf.iv c0_i32_139 c1_i32_141 k0_t1
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v297 : Index := Scalar.indexCast v296
  let c0_153 : Index := 0#32
  ![v297.toNat, 0]
def k0_off52 (i : grid0.Coords) (k0_t1 : Fin (k0_t1_loop i).trips) (c0_i32_151 : BitVec 32) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c1_i32_141 : BitVec 32 := 1#32
  let arg14 : BitVec 32 := Scf.iv c0_i32_139 c1_i32_141 k0_t1
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v300 : Index := Scalar.indexCast v296
  let c0_154 : Index := 0#32
  ![v300.toNat, 0]
def k0_off53 (i : grid0.Coords) (k0_t1 : Fin (k0_t1_loop i).trips) (c0_i32_151 : BitVec 32) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c1_i32_141 : BitVec 32 := 1#32
  let arg14 : BitVec 32 := Scf.iv c0_i32_139 c1_i32_141 k0_t1
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v305 : Index := Scalar.indexCast v296
  let c128_157 : Index := 128#32
  ![v305.toNat, 128]
def k0_off54 (i : grid0.Coords) (k0_t1 : Fin (k0_t1_loop i).trips) (c0_i32_151 : BitVec 32) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c1_i32_141 : BitVec 32 := 1#32
  let arg14 : BitVec 32 := Scf.iv c0_i32_139 c1_i32_141 k0_t1
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v308 : Index := Scalar.indexCast v296
  let c64_158 : Index := 64#32
  ![v308.toNat, 64]
def k0_off55 (i : grid0.Coords) (k0_t1 : Fin (k0_t1_loop i).trips) (c0_i32_151 : BitVec 32) : Fin 3 → Nat :=
  let c0_161 : Index := 0#32
  let c0_162 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c1_i32_141 : BitVec 32 := 1#32
  let arg14 : BitVec 32 := Scf.iv c0_i32_139 c1_i32_141 k0_t1
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v313 : Index := Scalar.indexCast v296
  ![0, 0, v313.toNat]
def k0_off56 (i : grid0.Coords) (k0_t1 : Fin (k0_t1_loop i).trips) (c0_i32_151 : BitVec 32) : Fin 2 → Nat :=
  let c0_165 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c1_i32_141 : BitVec 32 := 1#32
  let arg14 : BitVec 32 := Scf.iv c0_i32_139 c1_i32_141 k0_t1
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v326 : Index := Scalar.indexCast v296
  ![0, v326.toNat]
def k0_off57 (i : grid0.Coords) (k0_t1 : Fin (k0_t1_loop i).trips) (c0_i32_151 : BitVec 32) : Fin 2 → Nat :=
  let c0_166 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c1_i32_141 : BitVec 32 := 1#32
  let arg14 : BitVec 32 := Scf.iv c0_i32_139 c1_i32_141 k0_t1
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v329 : Index := Scalar.indexCast v296
  ![0, v329.toNat]
def k0_off58 (i : grid0.Coords) (k0_t1 : Fin (k0_t1_loop i).trips) (c0_i32_151 : BitVec 32) : Fin 3 → Nat :=
  let c0_180 : Index := 0#32
  let c1_181 : Index := 1#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c1_i32_141 : BitVec 32 := 1#32
  let arg14 : BitVec 32 := Scf.iv c0_i32_139 c1_i32_141 k0_t1
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v350 : Index := Scalar.indexCast v296
  ![0, 1, v350.toNat]
def k0_off59 (i : grid0.Coords) (k0_t1 : Fin (k0_t1_loop i).trips) (c0_i32_151 : BitVec 32) : Fin 2 → Nat :=
  let c128_184 : Index := 128#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c1_i32_141 : BitVec 32 := 1#32
  let arg14 : BitVec 32 := Scf.iv c0_i32_139 c1_i32_141 k0_t1
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v363 : Index := Scalar.indexCast v296
  ![128, v363.toNat]
def k0_off60 (i : grid0.Coords) (k0_t1 : Fin (k0_t1_loop i).trips) (c0_i32_151 : BitVec 32) : Fin 2 → Nat :=
  let c64_185 : Index := 64#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c1_i32_141 : BitVec 32 := 1#32
  let arg14 : BitVec 32 := Scf.iv c0_i32_139 c1_i32_141 k0_t1
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v366 : Index := Scalar.indexCast v296
  ![64, v366.toNat]
def k0_mult10 (i : grid0.Coords) (k0_t1 : Fin (k0_t1_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_199 : BitVec 32 := 8#32
  let c0_i32_139 : BitVec 32 := 0#32
  let c1_i32_141 : BitVec 32 := 1#32
  let arg14 : BitVec 32 := Scf.iv c0_i32_139 c1_i32_141 k0_t1
  let v387 : BitVec 32 := Scalar.muli c8_i32_199 arg14
  let v388 : BitVec 32 := Scalar.addi v261 v387
  let c1_i32_200 : BitVec 32 := 1#32
  let v389 : BitVec 32 := Scalar.addi v388 c1_i32_200
  let c512_i32_201 : BitVec 32 := 512#32
  let v390 : BitVec 32 := Scalar.muli v389 c512_i32_201
  v390
def k0_mult11 (i : grid0.Coords) (k0_t1 : Fin (k0_t1_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_248 : BitVec 32 := 8#32
  let c0_i32_139 : BitVec 32 := 0#32
  let c1_i32_141 : BitVec 32 := 1#32
  let arg14 : BitVec 32 := Scf.iv c0_i32_139 c1_i32_141 k0_t1
  let v482 : BitVec 32 := Scalar.muli c8_i32_248 arg14
  let v483 : BitVec 32 := Scalar.addi v261 v482
  let c2_i32_249 : BitVec 32 := 2#32
  let v484 : BitVec 32 := Scalar.addi v483 c2_i32_249
  let c512_i32_250 : BitVec 32 := 512#32
  let v485 : BitVec 32 := Scalar.muli v484 c512_i32_250
  v485
def k0_mult12 (i : grid0.Coords) (k0_t1 : Fin (k0_t1_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_297 : BitVec 32 := 8#32
  let c0_i32_139 : BitVec 32 := 0#32
  let c1_i32_141 : BitVec 32 := 1#32
  let arg14 : BitVec 32 := Scf.iv c0_i32_139 c1_i32_141 k0_t1
  let v577 : BitVec 32 := Scalar.muli c8_i32_297 arg14
  let v578 : BitVec 32 := Scalar.addi v261 v577
  let c3_i32 : BitVec 32 := 3#32
  let v579 : BitVec 32 := Scalar.addi v578 c3_i32
  let c512_i32_298 : BitVec 32 := 512#32
  let v580 : BitVec 32 := Scalar.muli v579 c512_i32_298
  v580
def k0_mult13 (i : grid0.Coords) (k0_t1 : Fin (k0_t1_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_345 : BitVec 32 := 8#32
  let c0_i32_139 : BitVec 32 := 0#32
  let c1_i32_141 : BitVec 32 := 1#32
  let arg14 : BitVec 32 := Scf.iv c0_i32_139 c1_i32_141 k0_t1
  let v672 : BitVec 32 := Scalar.muli c8_i32_345 arg14
  let v673 : BitVec 32 := Scalar.addi v261 v672
  let c4_i32_346 : BitVec 32 := 4#32
  let v674 : BitVec 32 := Scalar.addi v673 c4_i32_346
  let c512_i32_347 : BitVec 32 := 512#32
  let v675 : BitVec 32 := Scalar.muli v674 c512_i32_347
  v675
def k0_mult14 (i : grid0.Coords) (k0_t1 : Fin (k0_t1_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_394 : BitVec 32 := 8#32
  let c0_i32_139 : BitVec 32 := 0#32
  let c1_i32_141 : BitVec 32 := 1#32
  let arg14 : BitVec 32 := Scf.iv c0_i32_139 c1_i32_141 k0_t1
  let v767 : BitVec 32 := Scalar.muli c8_i32_394 arg14
  let v768 : BitVec 32 := Scalar.addi v261 v767
  let c5_i32 : BitVec 32 := 5#32
  let v769 : BitVec 32 := Scalar.addi v768 c5_i32
  let c512_i32_395 : BitVec 32 := 512#32
  let v770 : BitVec 32 := Scalar.muli v769 c512_i32_395
  v770
def k0_mult15 (i : grid0.Coords) (k0_t1 : Fin (k0_t1_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_442 : BitVec 32 := 8#32
  let c0_i32_139 : BitVec 32 := 0#32
  let c1_i32_141 : BitVec 32 := 1#32
  let arg14 : BitVec 32 := Scf.iv c0_i32_139 c1_i32_141 k0_t1
  let v862 : BitVec 32 := Scalar.muli c8_i32_442 arg14
  let v863 : BitVec 32 := Scalar.addi v261 v862
  let c6_i32 : BitVec 32 := 6#32
  let v864 : BitVec 32 := Scalar.addi v863 c6_i32
  let c512_i32_443 : BitVec 32 := 512#32
  let v865 : BitVec 32 := Scalar.muli v864 c512_i32_443
  v865
def k0_mult16 (i : grid0.Coords) (k0_t1 : Fin (k0_t1_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_490 : BitVec 32 := 8#32
  let c0_i32_139 : BitVec 32 := 0#32
  let c1_i32_141 : BitVec 32 := 1#32
  let arg14 : BitVec 32 := Scf.iv c0_i32_139 c1_i32_141 k0_t1
  let v957 : BitVec 32 := Scalar.muli c8_i32_490 arg14
  let v958 : BitVec 32 := Scalar.addi v261 v957
  let c7_i32 : BitVec 32 := 7#32
  let v959 : BitVec 32 := Scalar.addi v958 c7_i32
  let c512_i32_491 : BitVec 32 := 512#32
  let v960 : BitVec 32 := Scalar.muli v959 c512_i32_491
  v960
@[reducible] def k0_t2_loop (i : grid0.Coords) : Scf.Loop 32 :=
  let c0_i32_139 : BitVec 32 := 0#32
  let c15_i32 : BitVec 32 := 15#32
  let arg1 : BitVec 32 := BitVec.ofNat 32 (i 1).val
  let v118 : BitVec 32 := Scalar.subi c15_i32 arg1
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let v280 : BitVec 32 := Scalar.addi c0_i32_139 v279
  let c1_i32_142 : BitVec 32 := 1#32
  ⟨v283, v280, c1_i32_142⟩
def k0_mult17 (i : grid0.Coords) (k0_t2 : Fin (k0_t2_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v292 : BitVec 32 := Scalar.muli c8_i32_150 arg14
  let v293 : BitVec 32 := Scalar.addi v261 v292
  let c0_i32_151 : BitVec 32 := 0#32
  let v294 : BitVec 32 := Scalar.addi v293 c0_i32_151
  let c512_i32_152 : BitVec 32 := 512#32
  let v295 : BitVec 32 := Scalar.muli v294 c512_i32_152
  v295
def k0_off61 (i : grid0.Coords) (k0_t2 : Fin (k0_t2_loop i).trips) (c0_i32_151 : BitVec 32) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v297 : Index := Scalar.indexCast v296
  let c0_153 : Index := 0#32
  ![v297.toNat, 0]
def k0_off62 (i : grid0.Coords) (k0_t2 : Fin (k0_t2_loop i).trips) (c0_i32_151 : BitVec 32) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v300 : Index := Scalar.indexCast v296
  let c0_154 : Index := 0#32
  ![v300.toNat, 0]
def k0_off63 (i : grid0.Coords) (k0_t2 : Fin (k0_t2_loop i).trips) (c0_i32_151 : BitVec 32) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v305 : Index := Scalar.indexCast v296
  let c128_157 : Index := 128#32
  ![v305.toNat, 128]
def k0_off64 (i : grid0.Coords) (k0_t2 : Fin (k0_t2_loop i).trips) (c0_i32_151 : BitVec 32) : Fin 2 → Nat :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v308 : Index := Scalar.indexCast v296
  let c64_158 : Index := 64#32
  ![v308.toNat, 64]
def k0_off65 (i : grid0.Coords) (k0_t2 : Fin (k0_t2_loop i).trips) (c0_i32_151 : BitVec 32) : Fin 3 → Nat :=
  let c0_161 : Index := 0#32
  let c0_162 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v313 : Index := Scalar.indexCast v296
  ![0, 0, v313.toNat]
def k0_off66 (i : grid0.Coords) (k0_t2 : Fin (k0_t2_loop i).trips) (c0_i32_151 : BitVec 32) : Fin 2 → Nat :=
  let c0_165 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v326 : Index := Scalar.indexCast v296
  ![0, v326.toNat]
def k0_off67 (i : grid0.Coords) (k0_t2 : Fin (k0_t2_loop i).trips) (c0_i32_151 : BitVec 32) : Fin 2 → Nat :=
  let c0_166 : Index := 0#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v329 : Index := Scalar.indexCast v296
  ![0, v329.toNat]
def k0_off68 (i : grid0.Coords) (k0_t2 : Fin (k0_t2_loop i).trips) (c0_i32_151 : BitVec 32) : Fin 3 → Nat :=
  let c0_180 : Index := 0#32
  let c1_181 : Index := 1#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v350 : Index := Scalar.indexCast v296
  ![0, 1, v350.toNat]
def k0_off69 (i : grid0.Coords) (k0_t2 : Fin (k0_t2_loop i).trips) (c0_i32_151 : BitVec 32) : Fin 2 → Nat :=
  let c128_184 : Index := 128#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v363 : Index := Scalar.indexCast v296
  ![128, v363.toNat]
def k0_off70 (i : grid0.Coords) (k0_t2 : Fin (k0_t2_loop i).trips) (c0_i32_151 : BitVec 32) : Fin 2 → Nat :=
  let c64_185 : Index := 64#32
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_150 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v292 : BitVec 32 := Scalar.muli c8_i32_150 arg14
  let v293 : BitVec 32 := Scalar.addi v261 v292
  let v294 : BitVec 32 := Scalar.addi v293 c0_i32_151
  let c512_i32_152 : BitVec 32 := 512#32
  let v295 : BitVec 32 := Scalar.muli v294 c512_i32_152
  let v296 : BitVec 32 := v295
  let v366 : Index := Scalar.indexCast v296
  ![64, v366.toNat]
def k0_mult18 (i : grid0.Coords) (k0_t2 : Fin (k0_t2_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_199 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v387 : BitVec 32 := Scalar.muli c8_i32_199 arg14
  let v388 : BitVec 32 := Scalar.addi v261 v387
  let c1_i32_200 : BitVec 32 := 1#32
  let v389 : BitVec 32 := Scalar.addi v388 c1_i32_200
  let c512_i32_201 : BitVec 32 := 512#32
  let v390 : BitVec 32 := Scalar.muli v389 c512_i32_201
  v390
def k0_mult19 (i : grid0.Coords) (k0_t2 : Fin (k0_t2_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_248 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v482 : BitVec 32 := Scalar.muli c8_i32_248 arg14
  let v483 : BitVec 32 := Scalar.addi v261 v482
  let c2_i32_249 : BitVec 32 := 2#32
  let v484 : BitVec 32 := Scalar.addi v483 c2_i32_249
  let c512_i32_250 : BitVec 32 := 512#32
  let v485 : BitVec 32 := Scalar.muli v484 c512_i32_250
  v485
def k0_mult20 (i : grid0.Coords) (k0_t2 : Fin (k0_t2_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_297 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v577 : BitVec 32 := Scalar.muli c8_i32_297 arg14
  let v578 : BitVec 32 := Scalar.addi v261 v577
  let c3_i32 : BitVec 32 := 3#32
  let v579 : BitVec 32 := Scalar.addi v578 c3_i32
  let c512_i32_298 : BitVec 32 := 512#32
  let v580 : BitVec 32 := Scalar.muli v579 c512_i32_298
  v580
def k0_mult21 (i : grid0.Coords) (k0_t2 : Fin (k0_t2_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_345 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v672 : BitVec 32 := Scalar.muli c8_i32_345 arg14
  let v673 : BitVec 32 := Scalar.addi v261 v672
  let c4_i32_346 : BitVec 32 := 4#32
  let v674 : BitVec 32 := Scalar.addi v673 c4_i32_346
  let c512_i32_347 : BitVec 32 := 512#32
  let v675 : BitVec 32 := Scalar.muli v674 c512_i32_347
  v675
def k0_mult22 (i : grid0.Coords) (k0_t2 : Fin (k0_t2_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_394 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v767 : BitVec 32 := Scalar.muli c8_i32_394 arg14
  let v768 : BitVec 32 := Scalar.addi v261 v767
  let c5_i32 : BitVec 32 := 5#32
  let v769 : BitVec 32 := Scalar.addi v768 c5_i32
  let c512_i32_395 : BitVec 32 := 512#32
  let v770 : BitVec 32 := Scalar.muli v769 c512_i32_395
  v770
def k0_mult23 (i : grid0.Coords) (k0_t2 : Fin (k0_t2_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_442 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v862 : BitVec 32 := Scalar.muli c8_i32_442 arg14
  let v863 : BitVec 32 := Scalar.addi v261 v862
  let c6_i32 : BitVec 32 := 6#32
  let v864 : BitVec 32 := Scalar.addi v863 c6_i32
  let c512_i32_443 : BitVec 32 := 512#32
  let v865 : BitVec 32 := Scalar.muli v864 c512_i32_443
  v865
def k0_mult24 (i : grid0.Coords) (k0_t2 : Fin (k0_t2_loop i).trips) : BitVec 32 :=
  let arg1 : BitVec 32 := BitVec.ofNat 32 (i 1).val
  let c1_i32_68 : BitVec 32 := 1#32
  let v132 : BitVec 32 := Scalar.addi arg1 c1_i32_68
  let c15_i32 : BitVec 32 := 15#32
  let v118 : BitVec 32 := Scalar.subi c15_i32 arg1
  let c2_i32_69 : BitVec 32 := 2#32
  let c0_i32_70 : BitVec 32 := 0#32
  let v133 : BitVec 1 := Scalar.cmpi .eq c2_i32_69 c0_i32_70
  let c1_i32_71 : BitVec 32 := 1#32
  let v134 : BitVec 32 := Scalar.select v133 c1_i32_71 c2_i32_69
  let v135 : BitVec 32 := Scalar.remsi v118 v134
  let c0_i32_73 : BitVec 32 := 0#32
  let v137 : BitVec 1 := Scalar.cmpi .slt v135 c0_i32_73
  let c0_i32_74 : BitVec 32 := 0#32
  let v138 : BitVec 1 := Scalar.cmpi .slt v134 c0_i32_74
  let v139 : BitVec 1 := Scalar.xori v137 v138
  let c0_i32_72 : BitVec 32 := 0#32
  let v136 : BitVec 1 := Scalar.cmpi .ne v135 c0_i32_72
  let v140 : BitVec 1 := Scalar.andi v139 v136
  let v141 : BitVec 32 := Scalar.addi v135 v134
  let v142 : BitVec 32 := Scalar.select v140 v141 v135
  let v143 : BitVec 32 := Scalar.addi v132 v142
  let c2_i32_103 : BitVec 32 := 2#32
  let c0_i32_91 : BitVec 32 := 0#32
  let v175 : BitVec 1 := Scalar.cmpi .sgt v118 c0_i32_91
  let v176 : BitVec 32 := Scalar.extui v175
  let c0_i32_92 : BitVec 32 := 0#32
  let v177 : BitVec 1 := Scalar.cmpi .slt v118 c0_i32_92
  let v178 : BitVec 32 := Scalar.extui v177
  let v179 : BitVec 32 := Scalar.subi v176 v178
  let c2_i32_90 : BitVec 32 := 2#32
  let c0_i32_93 : BitVec 32 := 0#32
  let v180 : BitVec 1 := Scalar.cmpi .sgt c2_i32_90 c0_i32_93
  let v181 : BitVec 32 := Scalar.extui v180
  let c0_i32_94 : BitVec 32 := 0#32
  let v182 : BitVec 1 := Scalar.cmpi .slt c2_i32_90 c0_i32_94
  let v183 : BitVec 32 := Scalar.extui v182
  let v184 : BitVec 32 := Scalar.subi v181 v183
  let v185 : BitVec 1 := Scalar.cmpi .ne v179 v184
  let v186 : BitVec 32 := Scalar.remsi v118 c2_i32_90
  let c0_i32_95 : BitVec 32 := 0#32
  let v187 : BitVec 1 := Scalar.cmpi .ne v186 c0_i32_95
  let v188 : BitVec 1 := Scalar.andi v185 v187
  let v174 : BitVec 32 := Scalar.divsi v118 c2_i32_90
  let c1_i32_96 : BitVec 32 := 1#32
  let v189 : BitVec 32 := Scalar.subi v174 c1_i32_96
  let v190 : BitVec 32 := Scalar.select v188 v189 v174
  let c2_i32_97 : BitVec 32 := 2#32
  let c0_i32_98 : BitVec 32 := 0#32
  let v191 : BitVec 1 := Scalar.cmpi .eq c2_i32_97 c0_i32_98
  let c1_i32_99 : BitVec 32 := 1#32
  let v192 : BitVec 32 := Scalar.select v191 c1_i32_99 c2_i32_97
  let v193 : BitVec 32 := Scalar.remsi v190 v192
  let c0_i32_101 : BitVec 32 := 0#32
  let v195 : BitVec 1 := Scalar.cmpi .slt v193 c0_i32_101
  let c0_i32_102 : BitVec 32 := 0#32
  let v196 : BitVec 1 := Scalar.cmpi .slt v192 c0_i32_102
  let v197 : BitVec 1 := Scalar.xori v195 v196
  let c0_i32_100 : BitVec 32 := 0#32
  let v194 : BitVec 1 := Scalar.cmpi .ne v193 c0_i32_100
  let v198 : BitVec 1 := Scalar.andi v197 v194
  let v199 : BitVec 32 := Scalar.addi v193 v192
  let v200 : BitVec 32 := Scalar.select v198 v199 v193
  let v201 : BitVec 32 := Scalar.muli c2_i32_103 v200
  let v202 : BitVec 32 := Scalar.addi v143 v201
  let c4_i32_131 : BitVec 32 := 4#32
  let c0_i32_119 : BitVec 32 := 0#32
  let v234 : BitVec 1 := Scalar.cmpi .sgt v118 c0_i32_119
  let v235 : BitVec 32 := Scalar.extui v234
  let c0_i32_120 : BitVec 32 := 0#32
  let v236 : BitVec 1 := Scalar.cmpi .slt v118 c0_i32_120
  let v237 : BitVec 32 := Scalar.extui v236
  let v238 : BitVec 32 := Scalar.subi v235 v237
  let c4_i32_118 : BitVec 32 := 4#32
  let c0_i32_121 : BitVec 32 := 0#32
  let v239 : BitVec 1 := Scalar.cmpi .sgt c4_i32_118 c0_i32_121
  let v240 : BitVec 32 := Scalar.extui v239
  let c0_i32_122 : BitVec 32 := 0#32
  let v241 : BitVec 1 := Scalar.cmpi .slt c4_i32_118 c0_i32_122
  let v242 : BitVec 32 := Scalar.extui v241
  let v243 : BitVec 32 := Scalar.subi v240 v242
  let v244 : BitVec 1 := Scalar.cmpi .ne v238 v243
  let v245 : BitVec 32 := Scalar.remsi v118 c4_i32_118
  let c0_i32_123 : BitVec 32 := 0#32
  let v246 : BitVec 1 := Scalar.cmpi .ne v245 c0_i32_123
  let v247 : BitVec 1 := Scalar.andi v244 v246
  let v233 : BitVec 32 := Scalar.divsi v118 c4_i32_118
  let c1_i32_124 : BitVec 32 := 1#32
  let v248 : BitVec 32 := Scalar.subi v233 c1_i32_124
  let v249 : BitVec 32 := Scalar.select v247 v248 v233
  let c2_i32_125 : BitVec 32 := 2#32
  let c0_i32_126 : BitVec 32 := 0#32
  let v250 : BitVec 1 := Scalar.cmpi .eq c2_i32_125 c0_i32_126
  let c1_i32_127 : BitVec 32 := 1#32
  let v251 : BitVec 32 := Scalar.select v250 c1_i32_127 c2_i32_125
  let v252 : BitVec 32 := Scalar.remsi v249 v251
  let c0_i32_129 : BitVec 32 := 0#32
  let v254 : BitVec 1 := Scalar.cmpi .slt v252 c0_i32_129
  let c0_i32_130 : BitVec 32 := 0#32
  let v255 : BitVec 1 := Scalar.cmpi .slt v251 c0_i32_130
  let v256 : BitVec 1 := Scalar.xori v254 v255
  let c0_i32_128 : BitVec 32 := 0#32
  let v253 : BitVec 1 := Scalar.cmpi .ne v252 c0_i32_128
  let v257 : BitVec 1 := Scalar.andi v256 v253
  let v258 : BitVec 32 := Scalar.addi v252 v251
  let v259 : BitVec 32 := Scalar.select v257 v258 v252
  let v260 : BitVec 32 := Scalar.muli c4_i32_131 v259
  let v261 : BitVec 32 := Scalar.addi v202 v260
  let c8_i32_490 : BitVec 32 := 8#32
  let c0_i32_139 : BitVec 32 := 0#32
  let c0_i32_132 : BitVec 32 := 0#32
  let v263 : BitVec 1 := Scalar.cmpi .sgt v118 c0_i32_132
  let v264 : BitVec 32 := Scalar.extui v263
  let c0_i32_133 : BitVec 32 := 0#32
  let v265 : BitVec 1 := Scalar.cmpi .slt v118 c0_i32_133
  let v266 : BitVec 32 := Scalar.extui v265
  let v267 : BitVec 32 := Scalar.subi v264 v266
  let c8_i32 : BitVec 32 := 8#32
  let c0_i32_134 : BitVec 32 := 0#32
  let v268 : BitVec 1 := Scalar.cmpi .sgt c8_i32 c0_i32_134
  let v269 : BitVec 32 := Scalar.extui v268
  let c0_i32_135 : BitVec 32 := 0#32
  let v270 : BitVec 1 := Scalar.cmpi .slt c8_i32 c0_i32_135
  let v271 : BitVec 32 := Scalar.extui v270
  let v272 : BitVec 32 := Scalar.subi v269 v271
  let v273 : BitVec 1 := Scalar.cmpi .ne v267 v272
  let v274 : BitVec 32 := Scalar.remsi v118 c8_i32
  let c0_i32_136 : BitVec 32 := 0#32
  let v275 : BitVec 1 := Scalar.cmpi .ne v274 c0_i32_136
  let v276 : BitVec 1 := Scalar.andi v273 v275
  let v262 : BitVec 32 := Scalar.divsi v118 c8_i32
  let c1_i32_137 : BitVec 32 := 1#32
  let v277 : BitVec 32 := Scalar.subi v262 c1_i32_137
  let v278 : BitVec 32 := Scalar.select v276 v277 v262
  let v279 : BitVec 32 := Scalar.subi v278 c0_i32_139
  let c1_i32_140 : BitVec 32 := 1#32
  let v281 : BitVec 32 := Scalar.divsi v279 c1_i32_140
  let v282 : BitVec 32 := Scalar.muli v281 c1_i32_140
  let v283 : BitVec 32 := Scalar.addi c0_i32_139 v282
  let c1_i32_142 : BitVec 32 := 1#32
  let arg14 : BitVec 32 := Scf.iv v283 c1_i32_142 k0_t2
  let v957 : BitVec 32 := Scalar.muli c8_i32_490 arg14
  let v958 : BitVec 32 := Scalar.addi v261 v957
  let c7_i32 : BitVec 32 := 7#32
  let v959 : BitVec 32 := Scalar.addi v958 c7_i32
  let c512_i32_491 : BitVec 32 := 512#32
  let v960 : BitVec 32 := Scalar.muli v959 c512_i32_491
  v960
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8x96x8192 : Shape := ⟨3, ![8, 96, 8192]⟩
abbrev S8x128x8192 : Shape := ⟨3, ![8, 128, 8192]⟩
abbrev S1024x8192 : Shape := ⟨2, ![1024, 8192]⟩
abbrev S512x8192 : Shape := ⟨2, ![512, 8192]⟩

abbrev nBuf : Space → Nat
  | .hbm => 105
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x64x8192, .f32⟩
  | .hbm, ⟨61, _⟩ => ⟨S8192x8x64, .f32⟩
  | .hbm, ⟨62, _⟩ => ⟨S8x64x8192, .f32⟩
  | .hbm, ⟨63, _⟩ => ⟨S8x8192x8192, .f32⟩
  | .hbm, ⟨64, _⟩ => ⟨S8x64x8192, .f32⟩
  | .hbm, ⟨65, _⟩ => ⟨S8192x8x64, .f32⟩
  | .hbm, ⟨66, _⟩ => ⟨S8x8192x8192, .f32⟩
  | .hbm, ⟨67, _⟩ => ⟨S8x8192x8192, .f32⟩
  | .hbm, ⟨68, _⟩ => ⟨S8x8192x8192, .f32⟩
  | .hbm, ⟨69, _⟩ => ⟨S_, .f32⟩
  | .hbm, ⟨70, _⟩ => ⟨S8x8192, .f32⟩
  | .hbm, ⟨71, _⟩ => ⟨S8x8192x1, .f32⟩
  | .hbm, ⟨72, _⟩ => ⟨S8x8192x1, .f32⟩
  | .hbm, ⟨73, _⟩ => ⟨S8x8192x8192, .f32⟩
  | .hbm, ⟨74, _⟩ => ⟨S8x8192x8192, .f32⟩
  | .hbm, ⟨75, _⟩ => ⟨S_, .f32⟩
  | .hbm, ⟨76, _⟩ => ⟨S8x8192, .f32⟩
  | .hbm, ⟨77, _⟩ => ⟨S8x8192x8192, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192x8192, .f32⟩
  | .hbm, ⟨85, _⟩ => ⟨S8x8192x8192, .f32⟩
  | .hbm, ⟨86, _⟩ => ⟨S8x8192x96, .f32⟩
  | .hbm, ⟨87, _⟩ => ⟨S8192x8x96, .f32⟩
  | .hbm, ⟨88, _⟩ => ⟨S8x8192x96, .f32⟩
  | .hbm, ⟨89, _⟩ => ⟨S8192x8x96, .f32⟩
  | .hbm, ⟨90, _⟩ => ⟨S8x96x8192, .f32⟩
  | .hbm, ⟨91, _⟩ => ⟨S_, .i32⟩
  | .hbm, ⟨92, _⟩ => ⟨S_, .f32⟩
  | .hbm, ⟨93, _⟩ => ⟨S8x128x8192, .f32⟩
  | .hbm, ⟨94, _⟩ => ⟨S1024x8192, .f32⟩
  | .hbm, ⟨95, _⟩ => ⟨S8x96x8192, .f32⟩
  | .hbm, ⟨96, _⟩ => ⟨S_, .i32⟩
  | .hbm, ⟨97, _⟩ => ⟨S_, .f32⟩
  | .hbm, ⟨98, _⟩ => ⟨S8x128x8192, .f32⟩
  | .hbm, ⟨99, _⟩ => ⟨S1024x8192, .f32⟩
  | .hbm, ⟨100, _⟩ => ⟨S8x64x8192, .f32⟩
  | .hbm, ⟨101, _⟩ => ⟨S_, .i32⟩
  | .hbm, ⟨102, _⟩ => ⟨S_, .f32⟩
  | .hbm, ⟨103, _⟩ => ⟨S8x64x8192, .f32⟩
  | .hbm, ⟨104, _⟩ => ⟨S512x8192, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_call3_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_call4_v0 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]
-- ==== Kernel2.lean ====
abbrev S8192x1536 : Shape := ⟨2, ![8192, 1536]⟩
abbrev S8192x512 : Shape := ⟨2, ![8192, 512]⟩
abbrev S8192x256 : Shape := ⟨2, ![8192, 256]⟩
abbrev S8192x1024 : Shape := ⟨2, ![8192, 1024]⟩
abbrev S1x1024 : Shape := ⟨2, ![1, 1024]⟩
abbrev S1024x4352 : Shape := ⟨2, ![1024, 4352]⟩
abbrev S512x1536 : Shape := ⟨2, ![512, 1536]⟩
abbrev S512x512 : Shape := ⟨2, ![512, 512]⟩
abbrev S512x256 : Shape := ⟨2, ![512, 256]⟩
abbrev S512x1024 : Shape := ⟨2, ![512, 1024]⟩
abbrev S1024x1536 : Shape := ⟨2, ![1024, 1536]⟩
abbrev S1024x512 : Shape := ⟨2, ![1024, 512]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x512, .bf16⟩
  | .hbm, ⟨3, _⟩ => ⟨S8192x512, .bf16⟩
  | .hbm, ⟨4, _⟩ => ⟨S8192x256, .bf16⟩
  | .hbm, ⟨5, _⟩ => ⟨S8192x1024, .f32⟩
  | .hbm, ⟨6, _⟩ => ⟨S1x1024, .f32⟩
  | .hbm, ⟨7, _⟩ => ⟨S1024x4352, .bf16⟩
  | .hbm, ⟨8, _⟩ => ⟨S8192x1024, .f32⟩
  | .hbm, ⟨9, _⟩ => ⟨S8192x1024, .f32⟩
  | .hbm, ⟨10, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1024x4352, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4352 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S8192x1536 : Shape := ⟨2, ![8192, 1536]⟩
abbrev S8192x512 : Shape := ⟨2, ![8192, 512]⟩
abbrev S8192x256 : Shape := ⟨2, ![8192, 256]⟩
abbrev S8192x1024 : Shape := ⟨2, ![8192, 1024]⟩
abbrev S1x1024 : Shape := ⟨2, ![1, 1024]⟩
abbrev S1024x4352 : Shape := ⟨2, ![1024, 4352]⟩
abbrev S8192x4352 : Shape := ⟨2, ![8192, 4352]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x512, .bf16⟩
  | .hbm, ⟨3, _⟩ => ⟨S8192x512, .bf16⟩
  | .hbm, ⟨4, _⟩ => ⟨S8192x256, .bf16⟩
  | .hbm, ⟨5, _⟩ => ⟨S8192x1024, .f32⟩
  | .hbm, ⟨6, _⟩ => ⟨S1x1024, .f32⟩
  | .hbm, ⟨7, _⟩ => ⟨S1024x4352, .bf16⟩
  | .hbm, ⟨8, _⟩ => ⟨S8192x1024, .f32⟩
  | .hbm, ⟨9, _⟩ => ⟨S8192x1536, .f32⟩
  | .hbm, ⟨10, _⟩ => ⟨S8192x1536, .f32⟩
  | .hbm, ⟨11, _⟩ => ⟨S8192x512, .f32⟩
  | .hbm, ⟨12, _⟩ => ⟨S8192x512, .f32⟩
  | .hbm, ⟨13, _⟩ => ⟨S8192x256, .f32⟩
  | .hbm, ⟨14, _⟩ => ⟨S8192x4352, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1024x4352, .f32⟩
  | .hbm, ⟨35, _⟩ => ⟨S8192x4352, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x4352 : Shape := ⟨2, ![1024, 4352]⟩
abbrev S8192x4352 : Shape := ⟨2, ![8192, 4352]⟩
abbrev S1024x8192 : Shape := ⟨2, ![1024, 8192]⟩
abbrev S512x1024 : Shape := ⟨2, ![512, 1024]⟩
abbrev S512x4352 : Shape := ⟨2, ![512, 4352]⟩
abbrev S1024x512 : Shape := ⟨2, ![1024, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4352, .bf16⟩
  | .hbm, ⟨3, _⟩ => ⟨S8192x4352, .f32⟩
  | .hbm, ⟨4, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4352, .bf16⟩
  | .local _ .vmem, ⟨4, _⟩ => ⟨S512x4352, .f32⟩
  | .local _ .vmem, ⟨5, _⟩ => ⟨S512x4352, .f32⟩
  | .local _ .vmem, ⟨6, _⟩ => ⟨S1024x512, .bf16⟩
  | .local _ .vmem, ⟨7, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8192x1024 : Shape := ⟨2, ![8192, 1024]⟩
abbrev S1x1024 : Shape := ⟨2, ![1, 1024]⟩
abbrev S1024x4352 : Shape := ⟨2, ![1024, 4352]⟩
abbrev S_ : Shape := ⟨0, ![]⟩
abbrev S8192 : Shape := ⟨1, ![8192]⟩
abbrev S8192x1 : Shape := ⟨2, ![8192, 1]⟩
abbrev S8192x4352 : Shape := ⟨2, ![8192, 4352]⟩
abbrev S1024x8192 : Shape := ⟨2, ![1024, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4352, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x4352, .f32⟩
  | .hbm, ⟨19, _⟩ => ⟨S8192x4352, .f32⟩
  | .hbm, ⟨20, _⟩ => ⟨S1024x8192, .f32⟩
  | .hbm, ⟨21, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel4.lean ====
abbrev S1024x8192 : Shape := ⟨2, ![1024, 8192]⟩
abbrev S8192x1536 : Shape := ⟨2, ![8192, 1536]⟩
abbrev S8192x512 : Shape := ⟨2, ![8192, 512]⟩
abbrev S8192x256 : Shape := ⟨2, ![8192, 256]⟩
abbrev S1024x1536 : Shape := ⟨2, ![1024, 1536]⟩
abbrev S1024x512 : Shape := ⟨2, ![1024, 512]⟩
abbrev S1024x256 : Shape := ⟨2, ![1024, 256]⟩
abbrev S512x1536 : Shape := ⟨2, ![512, 1536]⟩
abbrev S512x512 : Shape := ⟨2, ![512, 512]⟩
abbrev S512x256 : Shape := ⟨2, ![512, 256]⟩

abbrev nBuf : Space → Nat
  | .hbm => 11
  | .vmem => 17
  | .smem => 0
  | _ => 0

abbrev bufTy : (tb : Table) → Fin (tcTables nBuf tb) → BufTy
  | .hbm, ⟨0, _⟩ => ⟨S1024x8192, .bf16⟩
  | .hbm, ⟨1, _⟩ => ⟨S8192x1536, .bf16⟩
  | .hbm, ⟨2, _⟩ => ⟨S8192x1536, .bf16⟩
  | .hbm, ⟨3, _⟩ => ⟨S8192x512, .bf16⟩
  | .hbm, ⟨4, _⟩ => ⟨S8192x512, .bf16⟩
  | .hbm, ⟨5, _⟩ => ⟨S8192x256, .bf16⟩
  | .hbm, ⟨6, _⟩ => ⟨S1024x1536, .f32⟩
  | .hbm, ⟨7, _⟩ => ⟨S1024x1536, .f32⟩
  | .hbm, ⟨8, _⟩ => ⟨S1024x512, .f32⟩
  | .hbm, ⟨9, _⟩ => ⟨S1024x512, .f32⟩
  | .hbm, ⟨10, _⟩ => ⟨S1024x256, .f32⟩
  | .local _ .vmem, ⟨0, _⟩ => ⟨S1024x512, .bf16⟩
  | .local _ .vmem, ⟨1, _⟩ => ⟨S1024x512, .bf16⟩
  | .local _ .vmem, ⟨2, _⟩ => ⟨S512x1536, .bf16⟩
  | .local _ .vmem, ⟨3, _⟩ => ⟨S512x1536, .bf16⟩
  | .local _ .vmem, ⟨4, _⟩ => ⟨S512x1536, .bf16⟩
  | .local _ .vmem, ⟨5, _⟩ => ⟨S512x1536, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S1024x1536, .f32⟩
  | .local _ .vmem, ⟨13, _⟩ => ⟨S1024x1536, .f32⟩
  | .local _ .vmem, ⟨14, _⟩ => ⟨S1024x512, .f32⟩
  | .local _ .vmem, ⟨15, _⟩ => ⟨S1024x512, .f32⟩
  | .local _ .vmem, ⟨16, _⟩ => ⟨S1024x256, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S1024x8192 : Shape := ⟨2, ![1024, 8192]⟩
abbrev S8192x1536 : Shape := ⟨2, ![8192, 1536]⟩
abbrev S8192x512 : Shape := ⟨2, ![8192, 512]⟩
abbrev S8192x256 : Shape := ⟨2, ![8192, 256]⟩
abbrev S8192x1024 : Shape := ⟨2, ![8192, 1024]⟩
abbrev S8192x4352 : Shape := ⟨2, ![8192, 4352]⟩
abbrev S_ : Shape := ⟨0, ![]⟩
abbrev S1024x4352 : Shape := ⟨2, ![1024, 4352]⟩
abbrev S4352x1024 : Shape := ⟨2, ![4352, 1024]⟩
abbrev S1024x1536 : Shape := ⟨2, ![1024, 1536]⟩
abbrev S1024x512 : Shape := ⟨2, ![1024, 512]⟩
abbrev S1024x256 : Shape := ⟨2, ![1024, 256]⟩

abbrev nBuf : Space → Nat
  | .hbm => 24
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1536, .bf16⟩
  | .hbm, ⟨2, _⟩ => ⟨S8192x1536, .bf16⟩
  | .hbm, ⟨3, _⟩ => ⟨S8192x512, .bf16⟩
  | .hbm, ⟨4, _⟩ => ⟨S8192x512, .bf16⟩
  | .hbm, ⟨5, _⟩ => ⟨S8192x256, .bf16⟩
  | .hbm, ⟨6, _⟩ => ⟨S1024x8192, .f32⟩
  | .hbm, ⟨7, _⟩ => ⟨S8192x1024, .f32⟩
  | .hbm, ⟨8, _⟩ => ⟨S8192x1536, .f32⟩
  | .hbm, ⟨9, _⟩ => ⟨S8192x1536, .f32⟩
  | .hbm, ⟨10, _⟩ => ⟨S8192x512, .f32⟩
  | .hbm, ⟨11, _⟩ => ⟨S8192x512, .f32⟩
  | .hbm, ⟨12, _⟩ => ⟨S8192x256, .f32⟩
  | .hbm, ⟨13, _⟩ => ⟨S8192x4352, .f32⟩
  | .hbm, ⟨14, _⟩ => ⟨S_, .f32⟩
  | .hbm, ⟨15, _⟩ => ⟨S1024x4352, .f32⟩
  | .hbm, ⟨16, _⟩ => ⟨S8192x4352, .f32⟩
  | .hbm, ⟨17, _⟩ => ⟨S4352x1024, .f32⟩
  | .hbm, ⟨18, _⟩ => ⟨S1024x4352, .f32⟩
  | .hbm, ⟨19, _⟩ => ⟨S1024x1536, .f32⟩
  | .hbm, ⟨20, _⟩ => ⟨S1024x1536, .f32⟩
  | .hbm, ⟨21, _⟩ => ⟨S1024x512, .f32⟩
  | .hbm, ⟨22, _⟩ => ⟨S1024x512, .f32⟩
  | .hbm, ⟨23, _⟩ => ⟨S1024x256, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S1536x8192 : Shape := ⟨2, ![1536, 8192]⟩
abbrev S8192x1024 : Shape := ⟨2, ![8192, 1024]⟩
abbrev S1536x1024 : Shape := ⟨2, ![1536, 1024]⟩
abbrev S1536x512 : Shape := ⟨2, ![1536, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1536x8192, .bf16⟩
  | .hbm, ⟨1, _⟩ => ⟨S8192x1024, .f32⟩
  | .hbm, ⟨2, _⟩ => ⟨S1536x1024, .f32⟩
  | .local _ .vmem, ⟨0, _⟩ => ⟨S1536x512, .bf16⟩
  | .local _ .vmem, ⟨1, _⟩ => ⟨S1536x512, .bf16⟩
  | .local _ .vmem, ⟨2, _⟩ => ⟨S512x1024, .f32⟩
  | .local _ .vmem, ⟨3, _⟩ => ⟨S512x1024, .f32⟩
  | .local _ .vmem, ⟨4, _⟩ => ⟨S1536x1024, .f32⟩
  | _, _ => ⟨S1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S1536x8192 : Shape := ⟨2, ![1536, 8192]⟩
abbrev S8192x1024 : Shape := ⟨2, ![8192, 1024]⟩
abbrev S8192x1536 : Shape := ⟨2, ![8192, 1536]⟩
abbrev S_ : Shape := ⟨0, ![]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S1536x8192, .bf16⟩
  | .hbm, ⟨1, _⟩ => ⟨S8192x1024, .f32⟩
  | .hbm, ⟨2, _⟩ => ⟨S1536x8192, .f32⟩
  | .hbm, ⟨3, _⟩ => ⟨S8192x1536, .f32⟩
  | .hbm, ⟨4, _⟩ => ⟨S_, .f32⟩
  | .hbm, ⟨5, _⟩ => ⟨S1536x1024, .f32⟩
  | .hbm, ⟨6, _⟩ => ⟨S8192x1024, .f32⟩
  | .hbm, ⟨7, _⟩ => ⟨S1024x1536, .f32⟩
  | .hbm, ⟨8, _⟩ => ⟨S1536x1024, .f32⟩
  | _, _ => ⟨S1536x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Step.lean ====
/-
  The kernel's inner step as ONE program of its row offset. For two heads, at the 512 queries that start at row `o`, the
  step forms the transposed scores, the probabilities and the scores' gradients, and adds three products: to `dv` and `dk`
  (the 512 keys of the grid point) and to `dq` (the 512 queries). The printed body repeats this text once per unrolled
  step; here it is written once.
-/
module

public import proofs.«01_k».proof.Proof.Gen.KernelIdeal.Skeleton
public import Idealize.ShloMosaic.Lib.VecWindow

@[expose] public section

noncomputable section

namespace Cert.KernelIdeal.Bwd

open Cert.KernelIdeal Cert.KernelIdeal.Facts₀
open Idealize.ShloMosaic Idealize.ShloMosaic.TcCoe
open Idealize.SL Idealize.SL.Sem

variable {F : FTy → Type} [FloatOps F] [Named F]

/-- The kernel's twelve operands at a grid point. -/
structure Refs where
  q : Memref sig .tc .vmem S8192x256 .bf16
  qt : Memref sig .tc .vmem S256x8192 .bf16
  k : Memref sig .tc .vmem S512x256 .bf16
  kt : Memref sig .tc .vmem S256x512 .bf16
  v : Memref sig .tc .vmem S512x128 .bf16
  od : Memref sig .tc .vmem S8192x128 .bf16
  odt : Memref sig .tc .vmem S128x8192 .bf16
  lse : Memref sig .tc .vmem S1x2x8192 .f32
  dl : Memref sig .tc .vmem S1x2x8192 .f32
  dq : Memref sig .tc .vmem S256x8192 .f32
  dk : Memref sig .tc .vmem S256x512 .f32
  dv : Memref sig .tc .vmem S128x512 .f32

variable (F) in
/-- What the body loads once: the keys, the transposed keys and the values of each of the two heads. -/
structure Halves where
  k0 : FVec F S512x128 .bf16
  k1 : FVec F S512x128 .bf16
  kt0 : FVec F S128x512 .bf16
  kt1 : FVec F S128x512 .bf16
  v0 : FVec F S512x64 .bf16
  v1 : FVec F S512x64 .bf16

/-! ## What a step computes from what it loads -/

/-- The transposed scores of one head: keys against queries. -/
def scoreT (k q : FVec F S512x128 .bf16) : FVec F S512x512 .f32 :=
  matmul dot_S512x128_S512x128_S512x512_1_1_0_0_n_n none k (shapeCast S512x128 q shapeCasts_S512x128_S512x128) (constant S512x512 .f32 0x00000000#32)

/-- Values against the output's gradients. -/
def doutT (v d : FVec F S512x64 .bf16) : FVec F S512x512 .f32 :=
  matmul dot_S512x64_S512x64_S512x512_1_1_0_0_n_n none v (shapeCast S512x64 d shapeCasts_S512x64_S512x64) (constant S512x512 .f32 0x00000000#32)

/-- A row statistic, one number for each query, over every key. -/
def rowsT (l : Vec F S1x1x512 .f32) : FVec F S512x512 .f32 :=
  broadcastTo S512x512 (shapeCast S1x512 l shapeCasts_S1x1x512_S1x512) broadcasts_S1x512_S512x512

/-- The probabilities, from the (masked) scores and the rows' log-sums. -/
def probT (s : FVec F S512x512 .f32) (l : Vec F S1x1x512 .f32) : FVec F S512x512 .f32 :=
  exp2 (subf s (rowsT l))

/-- The scores' gradients. -/
def gradT (p d : FVec F S512x512 .f32) (dl : Vec F S1x1x512 .f32) : FVec F S512x512 .bf16 :=
  truncf .bf16 (mulf p (subf d (rowsT dl))) bitsLt_bf16_f32

/-- `dv` after a step. -/
def dvAdd (x : Vec F S64x512 .f32) (dt : FVec F S64x512 .bf16) (p : FVec F S512x512 .f32) : FVec F S64x512 .f32 :=
  addf (shapeCast S64x512 x shapeCasts_S64x512_S64x512)
    (matmul dot_S64x512_S512x512_S64x512_1_1_0_0_n_n none (shapeCast S64x512 dt shapeCasts_S64x512_S64x512) (truncf .bf16 p bitsLt_bf16_f32) (constant S64x512 .f32 0x00000000#32))

/-- `dk` after a step. -/
def dkAdd (x : Vec F S128x512 .f32) (qt : FVec F S128x512 .bf16) (g : FVec F S512x512 .bf16) : FVec F S128x512 .f32 :=
  addf (shapeCast S128x512 x shapeCasts_S128x512_S128x512)
    (matmul dot_S128x512_S512x512_S128x512_1_1_0_0_n_n none (shapeCast S128x512 qt shapeCasts_S128x512_S128x512) g (constant S128x512 .f32 0x00000000#32))

/-- `dq` after a step. -/
def dqAdd (x : Vec F S128x512 .f32) (kt : FVec F S128x512 .bf16) (g : FVec F S512x512 .bf16) : FVec F S128x512 .f32 :=
  addf (shapeCast S128x512 x shapeCasts_S128x512_S128x512)
    (matmul dot_S128x512_S512x512_S128x512_1_0_0_1_n_n none kt g (constant S128x512 .f32 0x00000000#32))

/-- The causal mask of a step on the diagonal: a query sees the keys that are not after it. -/
def masked (s : FVec F S512x512 .f32) : FVec F S512x512 .f32 :=
  select (cmpi .sle (iota .tc S512x512 32 [0] iota_S512x512_d0_w32) (iota .tc S512x512 32 [1] iota_S512x512_d1_w32)) s
    (broadcast S512x512 (Named.named κ "mask" 0xF149F2CA#32 : F .f32))

/-! ## The step -/

/-- Bounds of a rectangle of two axes from the bound on each axis. -/
theorem inb2 {d off size : Fin 2 → ℕ} (h0 : off 0 + size 0 ≤ d 0) (h1 : off 1 + size 1 ≤ d 1) : ∀ a : Fin 2, off a + size a ≤ d a := by
  intro a; fin_cases a; exacts [h0, h1]

/-- Bounds of a rectangle of three axes from the bound on each axis. -/
theorem inb3 {d off size : Fin 3 → ℕ} (h0 : off 0 + size 0 ≤ d 0) (h1 : off 1 + size 1 ≤ d 1) (h2 : off 2 + size 2 ≤ d 2) :
    ∀ a : Fin 3, off a + size a ≤ d a := by
  intro a; fin_cases a; exacts [h0, h1, h2]

/-- The 512 query rows from `o`, at a head's columns. -/
abbrev qRect (o c : ℕ) (ho : o + 512 ≤ 8192) (hc : c + 128 ≤ 256) : Rect S8192x256 :=
  Rect.unit (s := S8192x256) ![o, c] S512x128.size (inb2 ho hc)
abbrev odRect (o c : ℕ) (ho : o + 512 ≤ 8192) (hc : c + 64 ≤ 128) : Rect S8192x128 :=
  Rect.unit (s := S8192x128) ![o, c] S512x64.size (inb2 ho hc)
abbrev statRect (h o : ℕ) (ho : o + 512 ≤ 8192) (hh : h + 1 ≤ 2) : Rect S1x2x8192 :=
  Rect.unit (s := S1x2x8192) ![0, h, o] S1x1x512.size (inb3 (le_refl 1) hh ho)
abbrev qtRect (r o : ℕ) (ho : o + 512 ≤ 8192) (hr : r + 128 ≤ 256) : Rect S256x8192 :=
  Rect.unit (s := S256x8192) ![r, o] S128x512.size (inb2 hr ho)
abbrev odtRect (r o : ℕ) (ho : o + 512 ≤ 8192) (hr : r + 64 ≤ 128) : Rect S128x8192 :=
  Rect.unit (s := S128x8192) ![r, o] S64x512.size (inb2 hr ho)
abbrev dvRect (r : ℕ) (hr : r + 64 ≤ 128) : Rect S128x512 :=
  Rect.unit (s := S128x512) ![r, 0] S64x512.size (inb2 hr (le_refl 512))
abbrev dkRect (r : ℕ) (hr : r + 128 ≤ 256) : Rect S256x512 :=
  Rect.unit (s := S256x512) ![r, 0] S128x512.size (inb2 hr (le_refl 512))

/-- The second half of a step, for one head: the probabilities, the gradients and the three sums. -/
def head (R : Refs) (o : ℕ) (ho : o + 512 ≤ 8192) (h : ℕ) (hh : h + 1 ≤ 2) (kt : FVec F S128x512 .bf16) (s d : FVec F S512x512 .f32) :
    Prog (TpuEff nD τ sig (Elt F) Λ₀ .tc) Unit := do
  let l : Vec F S1x1x512 .f32 ← Prog.lift (.load R.lse (statRect h o ho hh).toLoadRect (View.loadsAt_vmem h_S1x1x512))
  let dl : Vec F S1x1x512 .f32 ← Prog.lift (.load R.dl (statRect h o ho hh).toLoadRect (View.loadsAt_vmem h_S1x1x512))
  let qt : Vec F S128x512 .bf16 ← Prog.lift (.load R.qt (qtRect (128 * h) o ho (by omega)).toLoadRect (View.loadsAt_vmem h_S128x512))
  let odt : Vec F S64x512 .bf16 ← Prog.lift (.load R.odt (odtRect (64 * h) o ho (by omega)).toLoadRect (View.loadsAt_vmem h_S64x512))
  let dv : Vec F S64x512 .f32 ← Prog.lift (.load R.dv (dvRect (64 * h) (by omega)).toLoadRect (View.loadsAt_vmem h_S64x512))
  let _ ← Prog.lift (.load R.dv (dvRect (64 * h) (by omega)).toLoadRect (View.loadsAt_vmem h_S64x512))
  Prog.lift (.store R.dv (dvRect (64 * h) (by omega)) (dvAdd dv odt (probT s l)) Finset.univ (View.stores_vmem_bits_univ h_S64x512 rfl) (.inl rfl))
  let dk : Vec F S128x512 .f32 ← Prog.lift (.load R.dk (dkRect (128 * h) (by omega)).toLoadRect (View.loadsAt_vmem h_S128x512))
  let _ ← Prog.lift (.load R.dk (dkRect (128 * h) (by omega)).toLoadRect (View.loadsAt_vmem h_S128x512))
  Prog.lift (.store R.dk (dkRect (128 * h) (by omega)) (dkAdd dk qt (gradT (probT s l) d dl)) Finset.univ (View.stores_vmem_bits_univ h_S128x512 rfl) (.inl rfl))
  let dq : Vec F S128x512 .f32 ← Prog.lift (.load R.dq (qtRect (128 * h) o ho (by omega)).toLoadRect (View.loadsAt_vmem h_S128x512))
  let _ ← Prog.lift (.load R.dq (qtRect (128 * h) o ho (by omega)).toLoadRect (View.loadsAt_vmem h_S128x512))
  Prog.lift (.store R.dq (qtRect (128 * h) o ho (by omega)) (dqAdd dq kt (gradT (probT s l) d dl)) Finset.univ (View.stores_vmem_bits_univ h_S128x512 rfl) (.inl rfl))

/-- One step at the 512 queries from row `o`; `mk` is the mask put on the scores. -/
def step (R : Refs) (H : Halves F) (mk : FVec F S512x512 .f32 → FVec F S512x512 .f32) (o : ℕ) (ho : o + 512 ≤ 8192) :
    Prog (TpuEff nD τ sig (Elt F) Λ₀ .tc) Unit := do
  let q0 : Vec F S512x128 .bf16 ← Prog.lift (.load R.q (qRect o 0 ho (by decide)).toLoadRect (View.loadsAt_vmem h_S512x128))
  let d0 : Vec F S512x64 .bf16 ← Prog.lift (.load R.od (odRect o 0 ho (by decide)).toLoadRect (View.loadsAt_vmem h_S512x64))
  let q1 : Vec F S512x128 .bf16 ← Prog.lift (.load R.q (qRect o 128 ho (by decide)).toLoadRect (View.loadsAt_vmem h_S512x128))
  let d1 : Vec F S512x64 .bf16 ← Prog.lift (.load R.od (odRect o 64 ho (by decide)).toLoadRect (View.loadsAt_vmem h_S512x64))
  head R o ho 0 (by decide) H.kt0 (mk (scoreT H.k0 q0)) (doutT H.v0 d0)
  head R o ho 1 (by decide) H.kt1 (mk (scoreT H.k1 q1)) (doutT H.v1 d1)

/-- Steps without a mask, at the listed rows in order. -/
def steps (R : Refs) (H : Halves F) : List {o : ℕ // o + 512 ≤ 8192} → Prog (TpuEff nD τ sig (Elt F) Λ₀ .tc) Unit
  | [] => pure ()
  | o :: l => do
    step R H id o.1 o.2
    steps R H l

end Cert.KernelIdeal.Bwd

end
-- ==== Proof.Body.lean ====
/-
  The kernel's body as a list of steps: it clears the sums, loads the grid point's keys and values, runs the masked step
  on the diagonal and then the steps at the later rows (one, two, four and eights of them), and scales the sums.
-/
module

public import proofs.«01_k».proof.Proof.Step

@[expose] public section

noncomputable section

namespace Cert.KernelIdeal.Bwd

open Cert.KernelIdeal Cert.KernelIdeal.Facts₀
open Idealize.ShloMosaic Idealize.ShloMosaic.TcCoe
open Idealize.SL Idealize.SL.Sem

variable {F : FTy → Type} [FloatOps F] [Named F]

/-- The grid point's second coordinate, as the word the body compares: is it `n`? -/
def isRow (i : grid0.Coords) (n : BitVec 32) : BitVec 1 :=
  Scalar.cmpi .ne (Scalar.extui (Scalar.cmpi .eq (BitVec.ofNat 32 (i 1).val) n) : BitVec 32) 0#32

/-- The whole array of each of the three sums. -/
abbrev dqAll : Rect S256x8192 := Rect.unit (s := S256x8192) ![0, 0] S256x8192.size inb_S256x8192_S256x8192_0_0
abbrev dkAll : Rect S256x512 := Rect.unit (s := S256x512) ![0, 0] S256x512.size inb_S256x512_S256x512_0_0
abbrev dvAll : Rect S128x512 := Rect.unit (s := S128x512) ![0, 0] S128x512.size inb_S128x512_S128x512_0_0

/-- `dq` cleared at the first row of blocks. -/
def clear (R : Refs) (i : grid0.Coords) : Prog (TpuEff nD τ sig (Elt F) Λ₀ .tc) Unit :=
  if _h : isRow i 0#32 = 1#1 then do
    let _ ← Prog.lift (.load R.dq dqAll.toLoadRect (View.loadsAt_vmem h_S256x8192))
    Prog.lift (.store R.dq dqAll (broadcast S256x8192 (Scalar.ofBits .f32 0x00000000#32 : F .f32)) Finset.univ (View.stores_vmem_bits_univ h_S256x8192 rfl) (.inl rfl))
  else pure ()

/-- `dk` and `dv` cleared; the point's keys and values loaded, one half for each head. -/
def setup (R : Refs) : Prog (TpuEff nD τ sig (Elt F) Λ₀ .tc) (Halves F) := do
  let _ ← Prog.lift (.load R.dk dkAll.toLoadRect (View.loadsAt_vmem h_S256x512))
  Prog.lift (.store R.dk dkAll (broadcast S256x512 (Scalar.ofBits .f32 0x00000000#32 : F .f32)) Finset.univ (View.stores_vmem_bits_univ h_S256x512 rfl) (.inl rfl))
  let _ ← Prog.lift (.load R.dv dvAll.toLoadRect (View.loadsAt_vmem h_S128x512))
  Prog.lift (.store R.dv dvAll (broadcast S128x512 (Scalar.ofBits .f32 0x00000000#32 : F .f32)) Finset.univ (View.stores_vmem_bits_univ h_S128x512 rfl) (.inl rfl))
  let k0 : Vec F S512x128 .bf16 ← Prog.lift (.load R.k (Rect.unit (s := S512x256) ![0, 0] S512x128.size inb_S512x256_S512x128_0_0).toLoadRect (View.loadsAt_vmem h_S512x128))
  let k1 : Vec F S512x128 .bf16 ← Prog.lift (.load R.k (Rect.unit (s := S512x256) ![0, 128] S512x128.size inb_S512x256_S512x128_0_128).toLoadRect (View.loadsAt_vmem h_S512x128))
  let kt0 : Vec F S128x512 .bf16 ← Prog.lift (.load R.kt (Rect.unit (s := S256x512) ![0, 0] S128x512.size inb_S256x512_S128x512_0_0).toLoadRect (View.loadsAt_vmem h_S128x512))
  let kt1 : Vec F S128x512 .bf16 ← Prog.lift (.load R.kt (Rect.unit (s := S256x512) ![128, 0] S128x512.size inb_S256x512_S128x512_128_0).toLoadRect (View.loadsAt_vmem h_S128x512))
  let v0 : Vec F S512x64 .bf16 ← Prog.lift (.load R.v (Rect.unit (s := S512x128) ![0, 0] S512x64.size inb_S512x128_S512x64_0_0).toLoadRect (View.loadsAt_vmem h_S512x64))
  let v1 : Vec F S512x64 .bf16 ← Prog.lift (.load R.v (Rect.unit (s := S512x128) ![0, 64] S512x64.size inb_S512x128_S512x64_0_64).toLoadRect (View.loadsAt_vmem h_S512x64))
  pure ⟨shapeCast S512x128 k0 shapeCasts_S512x128_S512x128, shapeCast S512x128 k1 shapeCasts_S512x128_S512x128,
    shapeCast S128x512 kt0 shapeCasts_S128x512_S128x512, shapeCast S128x512 kt1 shapeCasts_S128x512_S128x512,
    shapeCast S512x64 v0 shapeCasts_S512x64_S512x64, shapeCast S512x64 v1 shapeCasts_S512x64_S512x64⟩

/-- `dk` scaled by log 2, and `dq` by the scores' factor at the last row of blocks. -/
def finish (R : Refs) (i : grid0.Coords) : Prog (TpuEff nD τ sig (Elt F) Λ₀ .tc) Unit := do
  let dk : Vec F S256x512 .f32 ← Prog.lift (.load R.dk dkAll.toLoadRect (View.loadsAt_vmem h_S256x512))
  let _ ← Prog.lift (.load R.dk dkAll.toLoadRect (View.loadsAt_vmem h_S256x512))
  Prog.lift (.store R.dk dkAll (mulf (shapeCast S256x512 dk shapeCasts_S256x512_S256x512) (broadcast S256x512 (Named.named κ "ln2" 0x3F317218#32 : F .f32)))
    Finset.univ (View.stores_vmem_bits_univ h_S256x512 rfl) (.inl rfl))
  if _h : isRow i 15#32 = 1#1 then do
    let dq : Vec F S256x8192 .f32 ← Prog.lift (.load R.dq dqAll.toLoadRect (View.loadsAt_vmem h_S256x8192))
    let _ ← Prog.lift (.load R.dq dqAll.toLoadRect (View.loadsAt_vmem h_S256x8192))
    Prog.lift (.store R.dq dqAll (mulf (shapeCast S256x8192 dq shapeCasts_S256x8192_S256x8192) (broadcast S256x8192 (Scalar.ofBits .f32 0x3DD105EC#32 : F .f32)))
      Finset.univ (View.stores_vmem_bits_univ h_S256x8192 rfl) (.inl rfl))
  else pure ()

/-- The rows of one trip of the first loop over eight steps, and of the second. -/
abbrev rows1 (i : grid0.Coords) (t : Fin (k0_t1_loop i).trips) : List {o : ℕ // o + 512 ≤ 8192} :=
  [⟨k0_off51 i t 0#32 0, k0_off51_inb i t 0 0⟩, ⟨k0_off51 i t 1#32 0, k0_off51_inb i t 1 0⟩, ⟨k0_off51 i t 2#32 0, k0_off51_inb i t 2 0⟩,
   ⟨k0_off51 i t 3#32 0, k0_off51_inb i t 3 0⟩, ⟨k0_off51 i t 4#32 0, k0_off51_inb i t 4 0⟩, ⟨k0_off51 i t 5#32 0, k0_off51_inb i t 5 0⟩,
   ⟨k0_off51 i t 6#32 0, k0_off51_inb i t 6 0⟩, ⟨k0_off51 i t 7#32 0, k0_off51_inb i t 7 0⟩]
abbrev rows2 (i : grid0.Coords) (t : Fin (k0_t2_loop i).trips) : List {o : ℕ // o + 512 ≤ 8192} :=
  [⟨k0_off61 i t 0#32 0, k0_off61_inb i t 0 0⟩, ⟨k0_off61 i t 1#32 0, k0_off61_inb i t 1 0⟩, ⟨k0_off61 i t 2#32 0, k0_off61_inb i t 2 0⟩,
   ⟨k0_off61 i t 3#32 0, k0_off61_inb i t 3 0⟩, ⟨k0_off61 i t 4#32 0, k0_off61_inb i t 4 0⟩, ⟨k0_off61 i t 5#32 0, k0_off61_inb i t 5 0⟩,
   ⟨k0_off61 i t 6#32 0, k0_off61_inb i t 6 0⟩, ⟨k0_off61 i t 7#32 0, k0_off61_inb i t 7 0⟩]

/-- One step, two steps and four steps, each if the number of rows that are left has that binary digit. -/
def one (R : Refs) (H : Halves F) (i : grid0.Coords) : Prog (TpuEff nD τ sig (Elt F) Λ₀ .tc) Unit :=
  if h : k0_cond2 i = 1#1 then steps R H [⟨k0_off11 i 0, k0_off11_inb i h 0⟩] else pure ()
def two (R : Refs) (H : Halves F) (i : grid0.Coords) : Prog (TpuEff nD τ sig (Elt F) Λ₀ .tc) Unit :=
  if h : k0_cond3 i = 1#1 then steps R H [⟨k0_off21 i 0, k0_off21_inb i h 0⟩, ⟨k0_off31 i 0, k0_off31_inb i h 0⟩] else pure ()
def four (R : Refs) (H : Halves F) (i : grid0.Coords) : Prog (TpuEff nD τ sig (Elt F) Λ₀ .tc) Unit :=
  if h : k0_cond4 i = 1#1 then
    steps R H [⟨k0_off41 i 0#32 0, k0_off41_inb i h 0 0⟩, ⟨k0_off41 i 1#32 0, k0_off41_inb i h 1 0⟩,
      ⟨k0_off41 i 2#32 0, k0_off41_inb i h 2 0⟩, ⟨k0_off41 i 3#32 0, k0_off41_inb i h 3 0⟩]
  else pure ()

/-- The two loops of eight steps a trip. -/
def eights1 (R : Refs) (H : Halves F) (i : grid0.Coords) : Prog (TpuEff nD τ sig (Elt F) Λ₀ .tc) Unit :=
  Scf.Loop.for (k0_t1_loop i) (k0_t1_ok i) () fun t _ => steps R H (rows1 i t)
def eights2 (R : Refs) (H : Halves F) (i : grid0.Coords) : Prog (TpuEff nD τ sig (Elt F) Λ₀ .tc) Unit :=
  Scf.Loop.for (k0_t2_loop i) (k0_t2_ok i) () fun t _ => steps R H (rows2 i t)

/-- The body. -/
def body (R : Refs) (i : grid0.Coords) : Prog (TpuEff nD τ sig (Elt F) Λ₀ .tc) Unit := do
  clear R i
  let H ← setup R
  step R H masked (k0_off1 i 0) (k0_off1_inb i 0)
  one R H i
  two R H i
  four R H i
  eights1 R H i
  eights2 R H i
  finish R i

end Cert.KernelIdeal.Bwd

end
-- ==== Proof.Runs.lean ====
/-
  Running the step on values. The body's twelve buffers are owned at plain arrays; a program `Runs` from the three sums `s`
  to `s'` and answer `a` if from those buffers it reaches any goal that follows from the buffers at `s'`. The rules here are
  those of a sequential program: answer, then, load, store, choice, loop.
-/
module

public import proofs.«01_k».proof.Proof.Body
public import proofs.«01_k».proof.Proof.Gen.KernelIdeal.Frame
public import Idealize.ShloMosaic.Lib.Pipeline.Frame
public import Idealize.ShloMosaic.Lib.Tactic
public import Idealize.ShloMosaic.Lib.Updates.Loop

@[expose] public section

noncomputable section

namespace Cert.KernelIdeal.Bwd

open Cert.KernelIdeal Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (F) in
/-- The nine inputs' values at a grid point. -/
structure Ins where
  q : Vec F S8192x256 .bf16
  qt : Vec F S256x8192 .bf16
  k : Vec F S512x256 .bf16
  kt : Vec F S256x512 .bf16
  v : Vec F S512x128 .bf16
  od : Vec F S8192x128 .bf16
  odt : Vec F S128x8192 .bf16
  lse : Vec F S1x2x8192 .f32
  dl : Vec F S1x2x8192 .f32

variable (F) in
/-- The three sums. -/
structure St where
  dq : Vec F S256x8192 .f32
  dk : Vec F S256x512 .f32
  dv : Vec F S128x512 .f32

/-- The core owns the nine inputs. -/
def ownIns (c : Dev nD) (R : Refs) (I : Ins F) : sProp 𝕄 :=
  iprop(owns (c : Thread nD τ) R.q fullShare I.q ∗ owns (c : Thread nD τ) R.qt fullShare I.qt ∗ owns (c : Thread nD τ) R.k fullShare I.k
    ∗ owns (c : Thread nD τ) R.kt fullShare I.kt ∗ owns (c : Thread nD τ) R.v fullShare I.v ∗ owns (c : Thread nD τ) R.od fullShare I.od
    ∗ owns (c : Thread nD τ) R.odt fullShare I.odt ∗ owns (c : Thread nD τ) R.lse fullShare I.lse ∗ owns (c : Thread nD τ) R.dl fullShare I.dl)

/-- The core owns the three sums. -/
def ownSt (c : Dev nD) (R : Refs) (s : St F) : sProp 𝕄 :=
  iprop(owns (c : Thread nD τ) R.dq fullShare s.dq ∗ owns (c : Thread nD τ) R.dk fullShare s.dk ∗ owns (c : Thread nD τ) R.dv fullShare s.dv)

def own (c : Dev nD) (R : Refs) (I : Ins F) (s : St F) : sProp 𝕄 := iprop(ownIns c R I ∗ ownSt c R s)

/-- The program runs from the sums `s` to the sums `s'`, answering `a`. -/
structure Runs (c : Dev nD) (R : Refs) (I : Ins F) {α : Type} (p : Prog (TpuEff nD τ sig (Elt F) Λ₀ .tc) α) (s : St F) (a : α) (s' : St F) : Prop where
  run : ∀ Q : α → sProp 𝕄, iprop(own c R I s ∗ (own c R I s' -∗ Q a)) ⊢ wp frame (wpE (defs₀ (F := F)) Variants.none (c : Thread nD τ) none) Set.univ p Q

section

variable {c : Dev nD} {R : Refs} {I : Ins F} {s s' s'' : St F}

theorem Runs.pure {α : Type} (a : α) : Runs c R I (Pure.pure a) s a s := by
  constructor; intro Q
  rw [wp_pure]
  iintro ⟨H, K⟩
  imodintro
  iapply K; iexact H

theorem Runs.bind {α β : Type} {p : Prog (TpuEff nD τ sig (Elt F) Λ₀ .tc) α} {k : α → Prog (TpuEff nD τ sig (Elt F) Λ₀ .tc) β} {a : α} {b : β}
    (h : Runs c R I p s a s') (h' : Runs c R I (k a) s' b s'') : Runs c R I (p >>= k) s b s'' := by
  constructor; intro Q
  rw [wp_bind]
  refine BIBase.Entails.trans ?_ (h.run _)
  iintro ⟨H, K⟩
  isplitl [H]; · iexact H
  iintro H
  iapply (h'.run Q)
  isplitl [H]; · iexact H
  iexact K

/-- A choice, by cases. -/
theorem Runs.dite {α : Type} {P : Prop} [Decidable P] {p : P → Prog (TpuEff nD τ sig (Elt F) Λ₀ .tc) α} {q : ¬ P → Prog (TpuEff nD τ sig (Elt F) Λ₀ .tc) α} {a : α}
    (h : ∀ x, Runs c R I (p x) s a s') (h' : ∀ x, Runs c R I (q x) s a s') : Runs c R I (if x : P then p x else q x) s a s' := by
  split
  · exact h _
  · exact h' _

/-- A buffer owned at `X` is loaded through a window of `X`. -/
theorem wp_load_owns (c : Dev nD) {sh : Shape} {e : EltTy} (m : Memref sig .tc .vmem sh e) (X : sh.Idx → Elt F e) {off size : Fin sh.rank → ℕ}
    (inb : ∀ a, off a + size a ≤ sh.size a) (hl : m.view.LoadsAt (Rect.unit (s := sh) off size inb).toLoadRect) (Q : _ → sProp 𝕄) :
    iprop(owns (c : Thread nD τ) m fullShare X ∗ (owns (c : Thread nD τ) m fullShare X -∗ Q (VecWindow.window X off size inb)))
      ⊢ wp frame (wpE (defs₀ (F := F)) Variants.none (c : Thread nD τ) none) Set.univ (Prog.lift (.load m (Rect.unit (s := sh) off size inb).toLoadRect hl)) Q := by
  unfold owns
  iintro ⟨⟨%f, %hf, H⟩, K⟩
  iapply (wp_load Variants.none (c : Thread nD τ) none Set.univ (m := m) (S := m.view.set) (View.setOn_subset_set _ _)) $$ H
  iintro H
  rw [wp_ret, View.readAt_unit m.view f inb rfl inb, hf]
  imodintro
  iapply K
  iexists f
  isplitr [H]
  · ipureintro; exact hf
  · iexact H

/-- A buffer owned at `X`, stored to at a window, is owned at `X` with that window put. -/
theorem wp_store_owns (c : Dev nD) {sh : Shape} {e : EltTy} (m : Memref sig .tc .vmem sh e) (X : sh.Idx → Elt F e) {off size : Fin sh.rank → ℕ}
    (inb : ∀ a, off a + size a ≤ sh.size a) (w : (Rect.unit (s := sh) off size inb).shape.Idx → Elt F e) (hx : (m.access (Rect.unit (s := sh) off size inb)).Stores Finset.univ)
    (hm : (Finset.univ : Finset (Rect.unit (s := sh) off size inb).shape.Idx) = Finset.univ ∨ ∀ a, (Rect.unit (s := sh) off size inb).stride a = 1) (Q : _ → sProp 𝕄) :
    iprop(owns (c : Thread nD τ) m fullShare X ∗ (owns (c : Thread nD τ) m fullShare (VecWindow.put X off size w) -∗ Q ⟨⟩))
      ⊢ wp frame (wpE (defs₀ (F := F)) Variants.none (c : Thread nD τ) none) Set.univ (Prog.lift (.store m (Rect.unit (s := sh) off size inb) w Finset.univ hx hm)) Q := by
  unfold owns
  iintro ⟨⟨%f, %hf, H⟩, K⟩
  iapply (wp_store Variants.none (c : Thread nD τ) none Set.univ (m := m) (r := Rect.unit (s := sh) off size inb) (S := m.view.set)
    ((m.setOn_access_subset_setOn _ _).trans (View.setOn_subset_set _ _))) $$ H
  iintro H
  rw [wp_ret]
  imodintro
  iapply K
  iexists _
  isplitr [H]
  · ipureintro
    rotate_left
    · exact (m.access (Rect.unit (s := sh) off size inb)).write (Elt F) f w Finset.univ
    · have := View.read_writes_cons_put m.view f inb w [] rfl
      rw [View.writes_nil, hf] at this
      exact this
  · iexact H

end

end Cert.KernelIdeal.Bwd

end
-- ==== Proof.RunsStep.lean ====
/-
  What a step leaves: each load of the body reads a window of an input or of a sum, each store puts a window of a sum, and one
  step takes the three sums to `stepSt`.
-/
module

public import proofs.«01_k».proof.Proof.Runs

@[expose] public section

noncomputable section

namespace Cert.KernelIdeal.Bwd

open Cert.KernelIdeal Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Taking one buffer out -/

/-- The first conjunct, to be given back changed. -/
theorem out_left (P P' Q : sProp 𝕄) : iprop(P ∗ Q) ⊢ iprop(P ∗ (P' -∗ P' ∗ Q)) := by
  iintro ⟨H, K⟩
  isplitl [H]; · iexact H
  iintro H
  isplitl [H]; · iexact H
  iexact K

/-- The last conjunct. -/
theorem out_last (P P' : sProp 𝕄) : P ⊢ iprop(P ∗ (P' -∗ P')) := by
  iintro H
  isplitl [H]; · iexact H
  iintro H; iexact H

/-- One further in. -/
theorem out_right (P : sProp 𝕄) {Q Q' X Y : sProp 𝕄} (h : Q ⊢ iprop(X ∗ (Y -∗ Q'))) : iprop(P ∗ Q) ⊢ iprop(X ∗ (Y -∗ P ∗ Q')) := by
  refine (sep_mono_right h).trans ?_
  iintro ⟨H, HX, K⟩
  isplitl [HX]; · iexact HX
  iintro HY
  isplitl [H]; · iexact H
  iapply K; iexact HY

/-- Inside the first conjunct. -/
theorem out_in (P : sProp 𝕄) {Q Q' X Y : sProp 𝕄} (h : Q ⊢ iprop(X ∗ (Y -∗ Q'))) : iprop(Q ∗ P) ⊢ iprop(X ∗ (Y -∗ Q' ∗ P)) := by
  refine (sep_mono_left h).trans ?_
  iintro ⟨⟨HX, K⟩, H⟩
  isplitl [HX]; · iexact HX
  iintro HY
  isplitr [H]
  · iapply K; iexact HY
  · iexact H

section

variable {c : Dev nD} {R : Refs} {I : Ins F} {s : St F}

/-- The buffer `m` holds `X`. -/
def Holds (c : Dev nD) (R : Refs) (I : Ins F) (s : St F) {sh : Shape} {e : EltTy} (m : Memref sig .tc .vmem sh e) (X : sh.Idx → Elt F e) : Prop :=
  own c R I s ⊢ iprop(owns (c : Thread nD τ) m fullShare X ∗ (owns (c : Thread nD τ) m fullShare X -∗ own c R I s))

theorem holds_q : Holds c R I s R.q I.q := out_in _ (out_left _ _ _)
theorem holds_qt : Holds c R I s R.qt I.qt := out_in _ (out_right _ (out_left _ _ _))
theorem holds_k : Holds c R I s R.k I.k := out_in _ (out_right _ (out_right _ (out_left _ _ _)))
theorem holds_kt : Holds c R I s R.kt I.kt := out_in _ (out_right _ (out_right _ (out_right _ (out_left _ _ _))))
theorem holds_v : Holds c R I s R.v I.v := out_in _ (out_right _ (out_right _ (out_right _ (out_right _ (out_left _ _ _)))))
theorem holds_od : Holds c R I s R.od I.od := out_in _ (out_right _ (out_right _ (out_right _ (out_right _ (out_right _ (out_left _ _ _))))))
theorem holds_odt : Holds c R I s R.odt I.odt :=
  out_in _ (out_right _ (out_right _ (out_right _ (out_right _ (out_right _ (out_right _ (out_left _ _ _)))))))
theorem holds_lse : Holds c R I s R.lse I.lse :=
  out_in _ (out_right _ (out_right _ (out_right _ (out_right _ (out_right _ (out_right _ (out_right _ (out_left _ _ _))))))))
theorem holds_dl : Holds c R I s R.dl I.dl :=
  out_in _ (out_right _ (out_right _ (out_right _ (out_right _ (out_right _ (out_right _ (out_right _ (out_right _ (out_last _ _)))))))))

/-- The sums, to be given back changed. -/
theorem out_dq (x : Vec F S256x8192 .f32) :
    own c R I s ⊢ iprop(owns (c : Thread nD τ) R.dq fullShare s.dq ∗ (owns (c : Thread nD τ) R.dq fullShare x -∗ own c R I ⟨x, s.dk, s.dv⟩)) :=
  out_right _ (out_left _ _ _)
theorem out_dk (x : Vec F S256x512 .f32) :
    own c R I s ⊢ iprop(owns (c : Thread nD τ) R.dk fullShare s.dk ∗ (owns (c : Thread nD τ) R.dk fullShare x -∗ own c R I ⟨s.dq, x, s.dv⟩)) :=
  out_right _ (out_right _ (out_left _ _ _))
theorem out_dv (x : Vec F S128x512 .f32) :
    own c R I s ⊢ iprop(owns (c : Thread nD τ) R.dv fullShare s.dv ∗ (owns (c : Thread nD τ) R.dv fullShare x -∗ own c R I ⟨s.dq, s.dk, x⟩)) :=
  out_right _ (out_right _ (out_right _ (out_last _ _)))

theorem holds_dq : Holds c R I s R.dq s.dq := out_dq s.dq
theorem holds_dk : Holds c R I s R.dk s.dk := out_dk s.dk
theorem holds_dv : Holds c R I s R.dv s.dv := out_dv s.dv

/-- A load reads a window. -/
theorem Runs.load {sh : Shape} {e : EltTy} {m : Memref sig .tc .vmem sh e} {X : sh.Idx → Elt F e} (hX : Holds c R I s m X)
    {off size : Fin sh.rank → ℕ} (inb : ∀ a, off a + size a ≤ sh.size a) (hl : m.view.LoadsAt (Rect.unit (s := sh) off size inb).toLoadRect) :
    Runs c R I (Prog.lift (.load m (Rect.unit (s := sh) off size inb).toLoadRect hl)) s (VecWindow.window X off size inb) s := by
  constructor; intro Q
  refine BIBase.Entails.trans ?_ (wp_load_owns c m X inb hl Q)
  refine (sep_mono_left hX).trans ?_
  iintro ⟨⟨H, B⟩, K⟩
  isplitl [H]; · iexact H
  iintro H
  iapply K; iapply B; iexact H

/-- A store puts one. -/
theorem Runs.store {sh : Shape} {e : EltTy} {m : Memref sig .tc .vmem sh e} {X : sh.Idx → Elt F e} {s' : St F}
    {off size : Fin sh.rank → ℕ} (inb : ∀ a, off a + size a ≤ sh.size a) (w : (Rect.unit (s := sh) off size inb).shape.Idx → Elt F e)
    (hX : own c R I s ⊢ iprop(owns (c : Thread nD τ) m fullShare X ∗ (owns (c : Thread nD τ) m fullShare (VecWindow.put X off size w) -∗ own c R I s')))
    (hx : (m.access (Rect.unit (s := sh) off size inb)).Stores Finset.univ)
    (hm : (Finset.univ : Finset (Rect.unit (s := sh) off size inb).shape.Idx) = Finset.univ ∨ ∀ a, (Rect.unit (s := sh) off size inb).stride a = 1) :
    Runs c R I (Prog.lift (.store m (Rect.unit (s := sh) off size inb) w Finset.univ hx hm)) s ⟨⟩ s' := by
  constructor; intro Q
  refine BIBase.Entails.trans ?_ (wp_store_owns c m X inb w hx hm Q)
  refine (sep_mono_left hX).trans ?_
  iintro ⟨⟨H, B⟩, K⟩
  isplitl [H]; · iexact H
  iintro H
  iapply K; iapply B; iexact H

end

/-! ## A step -/

/-- A window of an array. -/
abbrev win {α : Type} {s : Shape} (x : s.Idx → α) (r : Rect s) : r.shape.Idx → α := fun y => x (r.emb y)

/-- The probabilities and the scores' gradients of one head, from its scores and its products of values and gradients. -/
def pOf (I : Ins F) (o : ℕ) (ho : o + 512 ≤ 8192) (h : ℕ) (hh : h + 1 ≤ 2) (sc : FVec F S512x512 .f32) : FVec F S512x512 .f32 :=
  probT sc (win I.lse (statRect h o ho hh))
def gOf (I : Ins F) (o : ℕ) (ho : o + 512 ≤ 8192) (h : ℕ) (hh : h + 1 ≤ 2) (sc d : FVec F S512x512 .f32) : FVec F S512x512 .bf16 :=
  gradT (pOf I o ho h hh sc) d (win I.dl (statRect h o ho hh))

/-- The sums after one head's half of a step. -/
def headSt (I : Ins F) (o : ℕ) (ho : o + 512 ≤ 8192) (h : ℕ) (hh : h + 1 ≤ 2) (kt : FVec F S128x512 .bf16) (sc d : FVec F S512x512 .f32) (s : St F) : St F where
  dq := VecWindow.put s.dq ![128 * h, o] S128x512.size
    (dqAdd (win s.dq (qtRect (128 * h) o ho (by omega))) kt (gOf I o ho h hh sc d))
  dk := VecWindow.put s.dk ![128 * h, 0] S128x512.size
    (dkAdd (win s.dk (dkRect (128 * h) (by omega))) (win I.qt (qtRect (128 * h) o ho (by omega))) (gOf I o ho h hh sc d))
  dv := VecWindow.put s.dv ![64 * h, 0] S64x512.size
    (dvAdd (win s.dv (dvRect (64 * h) (by omega))) (win I.odt (odtRect (64 * h) o ho (by omega))) (pOf I o ho h hh sc))

/-- The sums after a step. -/
def stepSt (I : Ins F) (H : Halves F) (mk : FVec F S512x512 .f32 → FVec F S512x512 .f32) (o : ℕ) (ho : o + 512 ≤ 8192) (s : St F) : St F :=
  headSt I o ho 1 (by decide) H.kt1 (mk (scoreT H.k1 (win I.q (qRect o 128 ho (by decide))))) (doutT H.v1 (win I.od (odRect o 64 ho (by decide))))
    (headSt I o ho 0 (by decide) H.kt0 (mk (scoreT H.k0 (win I.q (qRect o 0 ho (by decide))))) (doutT H.v0 (win I.od (odRect o 0 ho (by decide)))) s)

/-- The sums after steps at the listed rows. -/
def stepsSt (I : Ins F) (H : Halves F) (l : List {o : ℕ // o + 512 ≤ 8192}) (s : St F) : St F :=
  l.foldl (fun s o => stepSt I H id o.1 o.2 s) s

section

variable (c : Dev nD) (R : Refs) (I : Ins F)

theorem runs_head (o : ℕ) (ho : o + 512 ≤ 8192) (h : ℕ) (hh : h + 1 ≤ 2) (kt : FVec F S128x512 .bf16) (sc d : FVec F S512x512 .f32) (s : St F) :
    Runs c R I (head R o ho h hh kt sc d) s () (headSt I o ho h hh kt sc d s) := by
  unfold head
  refine .bind (.load holds_lse ..) (.bind (.load holds_dl ..) (.bind (.load holds_qt ..) (.bind (.load holds_odt ..) ?_)))
  refine .bind (.load holds_dv ..) (.bind (.load holds_dv ..) (.bind (.store _ _ (out_dv _) ..) ?_))
  refine .bind (.load holds_dk ..) (.bind (.load holds_dk ..) (.bind (.store _ _ (out_dk _) ..) ?_))
  exact .bind (.load holds_dq ..) (.bind (.load holds_dq ..) (.store _ _ (out_dq _) ..))

theorem runs_step (H : Halves F) (mk : FVec F S512x512 .f32 → FVec F S512x512 .f32) (o : ℕ) (ho : o + 512 ≤ 8192) (s : St F) :
    Runs c R I (step R H mk o ho) s () (stepSt I H mk o ho s) := by
  unfold step
  refine .bind (.load holds_q ..) (.bind (.load holds_od ..) (.bind (.load holds_q ..) (.bind (.load holds_od ..) ?_)))
  exact .bind (runs_head ..) (runs_head ..)

theorem runs_steps (H : Halves F) (l : List {o : ℕ // o + 512 ≤ 8192}) (s : St F) : Runs c R I (steps R H l) s () (stepsSt I H l s) := by
  induction l generalizing s with
  | nil => exact .pure _
  | cons o l ih => exact .bind (runs_step ..) (ih _)

end

end Cert.KernelIdeal.Bwd

end
-- ==== Proof.Rows.lean ====
/-
  The rows the body's steps start at: with the keys of block `j`, the masked step is at row `512 * j` and the steps after it are,
  in order, at `512 * (j + 1)`, …, `512 * 15`.
-/
module

public import proofs.«01_k».proof.Proof.Body

@[expose] public section

noncomputable section

namespace Cert.KernelIdeal.Bwd

open Cert.KernelIdeal Cert.KernelIdeal.Facts₀
open Idealize.ShloMosaic

/-- Row `512 * b`. -/
def rowAt (b : Fin 16) : {o : ℕ // o + 512 ≤ 8192} := ⟨512 * b.val, by omega⟩

/-- The blocks after `j`, in order. -/
def later (j : Fin 16) : List (Fin 16) := (List.finRange 16).drop (j.val + 1)

/-- The rows of the steps after the masked one, as the body lists them. -/
def allRows (i : grid0.Coords) : List {o : ℕ // o + 512 ≤ 8192} :=
  (if h : k0_cond2 i = 1#1 then [⟨k0_off11 i 0, k0_off11_inb i h 0⟩] else [])
  ++ (if h : k0_cond3 i = 1#1 then [⟨k0_off21 i 0, k0_off21_inb i h 0⟩, ⟨k0_off31 i 0, k0_off31_inb i h 0⟩] else [])
  ++ (if h : k0_cond4 i = 1#1 then
      [⟨k0_off41 i 0#32 0, k0_off41_inb i h 0 0⟩, ⟨k0_off41 i 1#32 0, k0_off41_inb i h 1 0⟩,
        ⟨k0_off41 i 2#32 0, k0_off41_inb i h 2 0⟩, ⟨k0_off41 i 3#32 0, k0_off41_inb i h 3 0⟩]
    else [])
  ++ (List.finRange (k0_t1_loop i).trips).flatMap (rows1 i)
  ++ (List.finRange (k0_t2_loop i).trips).flatMap (rows2 i)

/-- The point's key block. -/
def blk (i : grid0.Coords) : Fin 16 := i 1

/-- The rows' numbers, checked at every grid point. -/
theorem allRows_val : ∀ i : grid0.Coords, (allRows i).map Subtype.val = (later (blk i)).map fun b => 512 * b.val := by
  decide +kernel

theorem allRows_eq (i : grid0.Coords) : allRows i = (later (blk i)).map rowAt := by
  apply List.map_injective_iff.mpr Subtype.val_injective
  rw [allRows_val, List.map_map]; rfl

/-- The masked step's row. -/
theorem firstRow : ∀ i : grid0.Coords, k0_off1 i 0 = 512 * (blk i).val := by
  decide +kernel

end Cert.KernelIdeal.Bwd

end
-- ==== Proof.RunsBody.lean ====
/-
  What the body leaves at a grid point: the three sums after the masked step on the diagonal and the steps at the later rows, scaled.
-/
module

public import proofs.«01_k».proof.Proof.RunsStep
public import proofs.«01_k».proof.Proof.Rows

@[expose] public section

noncomputable section

namespace Cert.KernelIdeal.Bwd

open Cert.KernelIdeal Cert.KernelIdeal.Facts₀
open Idealize.ShloMosaic Idealize.ShloMosaic.TcCoe
open Idealize.SL.Sem

variable {F : FTy → Type} [FloatOps F] [Named F]

/-- A put of the array's own sizes is the payload. -/
theorem put_all {α : Type} {s : Shape} (x : s.Idx → α) (off : Fin s.rank → ℕ) (h : ∀ a, off a = 0) (w : s.Idx → α) :
    VecWindow.put x off s.size w = w := by
  funext y
  unfold VecWindow.put
  rw [dif_pos fun a => by have := h a; have := (y a).isLt; omega]
  exact congrArg w (funext fun a => Fin.ext (by have := h a; show (y a).val - off a = _; omega))

/-- A window of the array's own sizes is the array. -/
theorem window_all {α : Type} {s : Shape} (x : s.Idx → α) (off : Fin s.rank → ℕ) (h : ∀ a, off a = 0) (inb : ∀ a, off a + s.size a ≤ s.size a) :
    VecWindow.window x off s.size inb = x :=
  funext fun y => congrArg x (funext fun a => Fin.ext (by have := h a; show off a + 1 * (y a).val = _; omega))

theorem zero2 : ∀ a : Fin 2, (![0, 0] : Fin 2 → ℕ) a = 0 := by decide

/-- An array of zeros. -/
abbrev zeros (s : Shape) : FVec F s .f32 := broadcast s (Scalar.ofBits .f32 0x00000000#32 : F .f32)

/-- The halves of the point's keys and values. -/
def halves (I : Ins F) : Halves F :=
  ⟨shapeCast S512x128 (win I.k (Rect.unit (s := S512x256) ![0, 0] S512x128.size inb_S512x256_S512x128_0_0)) shapeCasts_S512x128_S512x128,
    shapeCast S512x128 (win I.k (Rect.unit (s := S512x256) ![0, 128] S512x128.size inb_S512x256_S512x128_0_128)) shapeCasts_S512x128_S512x128,
    shapeCast S128x512 (win I.kt (Rect.unit (s := S256x512) ![0, 0] S128x512.size inb_S256x512_S128x512_0_0)) shapeCasts_S128x512_S128x512,
    shapeCast S128x512 (win I.kt (Rect.unit (s := S256x512) ![128, 0] S128x512.size inb_S256x512_S128x512_128_0)) shapeCasts_S128x512_S128x512,
    shapeCast S512x64 (win I.v (Rect.unit (s := S512x128) ![0, 0] S512x64.size inb_S512x128_S512x64_0_0)) shapeCasts_S512x64_S512x64,
    shapeCast S512x64 (win I.v (Rect.unit (s := S512x128) ![0, 64] S512x64.size inb_S512x128_S512x64_0_64)) shapeCasts_S512x64_S512x64⟩

/-- The sums at the point's start: `dq` kept but at the first block, `dk` and `dv` cleared. -/
def startSt (i : grid0.Coords) (dq : Vec F S256x8192 .f32) : St F :=
  ⟨if isRow i 0#32 = 1#1 then zeros _ else dq, zeros _, zeros _⟩

/-- The sums before the scaling. -/
def sumSt (I : Ins F) (i : grid0.Coords) (dq : Vec F S256x8192 .f32) : St F :=
  stepsSt I (halves I) ((later (blk i)).map rowAt)
    (stepSt I (halves I) masked (rowAt (blk i)).1 (rowAt (blk i)).2 (startSt i dq))

/-- The sums scaled. -/
def scaleSt (i : grid0.Coords) (s : St F) : St F where
  dq := if isRow i 15#32 = 1#1 then
      mulf (shapeCast S256x8192 s.dq shapeCasts_S256x8192_S256x8192) (broadcast S256x8192 (Scalar.ofBits .f32 0x3DD105EC#32 : F .f32))
    else s.dq
  dk := mulf (shapeCast S256x512 s.dk shapeCasts_S256x512_S256x512) (broadcast S256x512 (Named.named κ "ln2" 0x3F317218#32 : F .f32))
  dv := s.dv

/-- The sums the body leaves. -/
def bodySt (I : Ins F) (i : grid0.Coords) (dq : Vec F S256x8192 .f32) : St F := scaleSt i (sumSt I i dq)

variable (c : Dev nD) (R : Refs) (I : Ins F)

/-- The sums named in another way. -/
theorem Runs.of_eq {c : Dev nD} {R : Refs} {I : Ins F} {α : Type} {p : Prog (TpuEff nD τ sig (Elt F) Λ₀ .tc) α} {s s' s'' : St F} {a : α}
    (h : Runs c R I p s a s') (e : s' = s'') : Runs c R I p s a s'' := e ▸ h

theorem runs_clear (i : grid0.Coords) (s : St F) :
    Runs c R I (clear R i) s () ⟨if isRow i 0#32 = 1#1 then zeros _ else s.dq, s.dk, s.dv⟩ := by
  unfold clear
  refine .dite (fun h => ?_) fun h => ?_
  · rw [if_pos h]
    refine .bind (.load holds_dq ..) ((Runs.store _ _ (out_dq _) ..).of_eq ?_)
    rw [put_all _ _ zero2]
  · rw [if_neg h]; exact .pure _

theorem runs_setup (s : St F) : Runs c R I (setup R) s (halves I) ⟨s.dq, zeros _, zeros _⟩ := by
  unfold setup
  refine .bind (.load holds_dk ..) (.bind ((Runs.store _ _ (out_dk _) ..).of_eq (s'' := ⟨s.dq, zeros _, s.dv⟩) (by rw [put_all _ _ zero2])) ?_)
  refine .bind (.load holds_dv ..) (.bind ((Runs.store _ _ (out_dv _) ..).of_eq (s'' := ⟨s.dq, zeros _, zeros _⟩) (by rw [put_all _ _ zero2])) ?_)
  refine .bind (.load holds_k ..) (.bind (.load holds_k ..) (.bind (.load holds_kt ..) (.bind (.load holds_kt ..) ?_)))
  exact .bind (.load holds_v ..) (.bind (.load holds_v ..) (.pure _))

theorem runs_finish (i : grid0.Coords) (s : St F) : Runs c R I (finish R i) s () (scaleSt i s) := by
  unfold finish scaleSt
  refine .bind (.load holds_dk ..) (.bind (.load holds_dk ..) (.bind ((Runs.store _ _ (out_dk _) ..).of_eq (s'' := ⟨s.dq, _, s.dv⟩)
    (by rw [put_all _ _ zero2, window_all _ _ zero2])) ?_))
  refine .dite (fun h => ?_) fun h => ?_
  · rw [if_pos h]
    refine .bind (.load holds_dq ..) (.bind (.load holds_dq ..) ((Runs.store _ _ (out_dq _) ..).of_eq ?_))
    rw [put_all _ _ zero2, window_all _ _ zero2]
  · rw [if_neg h]; exact .pure _

/-- A loop whose trips are steps. -/
theorem runs_for (H : Halves F) (l : Scf.Loop 32) (hl : l.OK) (rows : Fin l.trips → List {o : ℕ // o + 512 ≤ 8192}) (s : St F) :
    Runs c R I (Scf.Loop.for l hl () fun t _ => steps R H (rows t)) s () (stepsSt I H ((List.finRange l.trips).flatMap rows) s) := by
  show Runs c R I (Scf.for ..) _ _ _
  rw [Scf.for_eq]
  generalize List.finRange (Scf.trips l.lb l.ub l.st) = ts
  induction ts generalizing s with
  | nil => exact .pure _
  | cons t ts ih =>
    rw [Scf.forFrom_cons, List.flatMap_cons, stepsSt, List.foldl_append]
    exact .bind (runs_steps ..) (ih _)

/-- Steps behind a condition. -/
theorem runs_if (H : Halves F) {P : Prop} [Decidable P] (l : P → List {o : ℕ // o + 512 ≤ 8192}) (s : St F) :
    Runs c R I (if h : P then steps R H (l h) else pure ()) s () (stepsSt I H (if h : P then l h else []) s) := by
  refine .dite (fun h => ?_) fun h => ?_
  · rw [dif_pos h]; exact runs_steps ..
  · rw [dif_neg h]; exact .pure _

/-- A step's row may be written in another way. -/
theorem stepSt_row (H : Halves F) (mk : FVec F S512x512 .f32 → FVec F S512x512 .f32) {o o' : ℕ} (h : o = o') (ho : o + 512 ≤ 8192) (ho' : o' + 512 ≤ 8192)
    (s : St F) : stepSt I H mk o ho s = stepSt I H mk o' ho' s := by
  subst h; rfl

/-- The body, from any sums to `bodySt`. -/
theorem runs_body (i : grid0.Coords) (s : St F) : Runs c R I (body R i) s () (bodySt I i s.dq) := by
  unfold body
  refine .bind (runs_clear ..) (.bind (runs_setup ..) (.bind ((runs_step ..).of_eq (stepSt_row _ _ _ (firstRow i) _ (rowAt (blk i)).2 _)) ?_))
  refine .bind (runs_if c R I _ _ _) (.bind (runs_if c R I _ _ _) (.bind (runs_if c R I _ _ _) (.bind (runs_for ..) (.bind (runs_for ..) ((runs_finish ..).of_eq ?_)))))
  refine congrArg (scaleSt i) ?_
  rw [sumSt, ← allRows_eq]
  simp only [allRows, stepsSt, List.foldl_append]
  rfl

end Cert.KernelIdeal.Bwd

end
-- ==== Proof.Trips.lean ====
/-
  The printed bodies of the two loops: one trip is the eight steps at that trip's rows.
-/
module

public import proofs.«01_k».proof.Proof.Body

@[expose] public section

noncomputable section

namespace Cert.KernelIdeal.Bwd

open Cert.KernelIdeal Cert.KernelIdeal.Facts₀ Cert.KernelIdeal.Gen
open Idealize.ShloMosaic Idealize.ShloMosaic.TcCoe
open Idealize.SL Idealize.SL.Sem

variable {F : FTy → Type} [FloatOps F] [Named F]

set_option maxRecDepth 65536 in
/-- A trip of the first loop. -/
theorem trip1_eq (R : Refs) (k0 k1 : FVec F S512x128 .bf16) (kt0 kt1 : FVec F S128x512 .bf16) (v0 v1 : FVec F S512x64 .bf16)
    (i : grid0.Coords) (h2 h3 h4 h5 h6 h7 h8 h9 h10 h11 h12 h13) (w : BitVec 32) (t : Fin (k0_t1_loop i).trips) :
    k0_t1_body i R.q h2 R.qt h3 R.k h4 R.kt h5 R.v h6 R.od h7 R.odt h8 R.lse h9 R.dl h10 R.dq h11 R.dk h12 R.dv h13 k0 k1 kt0 kt1 v0 v1 w t () = steps R ⟨k0, k1, kt0, kt1, v0, v1⟩ (rows1 i t) := rfl

set_option maxRecDepth 65536 in
/-- A trip of the second loop. -/
theorem trip2_eq (R : Refs) (k0 k1 : FVec F S512x128 .bf16) (kt0 kt1 : FVec F S128x512 .bf16) (v0 v1 : FVec F S512x64 .bf16)
    (i : grid0.Coords) (h2 h3 h4 h5 h6 h7 h8 h9 h10 h11 h12 h13) (w w' : BitVec 32) (t : Fin (k0_t2_loop i).trips) :
    k0_t2_body i R.q h2 R.qt h3 R.k h4 R.kt h5 R.v h6 R.od h7 R.odt h8 R.lse h9 R.dl h10 R.dq h11 R.dk h12 R.dv h13 k0 k1 kt0 kt1 v0 v1 w w' t () = steps R ⟨k0, k1, kt0, kt1, v0, v1⟩ (rows2 i t) := rfl

end Cert.KernelIdeal.Bwd

end
-- ==== Proof.Printed.lean ====
/-
  The printed body is the list of steps of Proof/Body.lean. The printed text puts what follows a conditional into both of its
  branches; the lemmas here walk over effects and pull a conditional's continuation out again.
-/
module

public import proofs.«01_k».proof.Proof.Trips

@[expose] public section

noncomputable section

namespace Cert.KernelIdeal.Bwd

open Cert.KernelIdeal Cert.KernelIdeal.Facts₀ Cert.KernelIdeal.Gen
open Idealize.ShloMosaic Idealize.ShloMosaic.TcCoe
open Idealize.SL Idealize.SL.Sem

universe v

variable {F : FTy → Type} [FloatOps F] [Named F]

/-- One effect, then programs that agree on every answer. -/
theorem op_congr {E : Type → Type v} {α β : Type} (e : E β) {k k' : β → Prog E α} (h : ∀ x, k x = k' x) : Prog.op e k = Prog.op e k' :=
  congrArg _ (funext h)

/-- A conditional whose branches both go on with `y`: `y` runs after it. -/
theorem join {E : Type → Type v} {α β : Type} {c : Prop} {_ : Decidable c} {x : c → Prog E α} {a : c → Prog E PUnit} {y : Prog E α}
    {k : α → Prog E β} {k' : PUnit → Prog E β} (ha : ∀ h, x h = (a h >>= fun _ => y)) (hk : (y >>= k) = k' ⟨⟩) :
    ((if h : c then x h else y) >>= k) = ((if h : c then a h else pure ⟨⟩) >>= k') := by
  split
  · rw [ha, bind_assoc]; exact congrArg _ (funext fun _ => hk)
  · rw [pure_bind]; exact hk

/-- The same at the end of a program. -/
theorem join_end {E : Type → Type v} {c : Prop} {_ : Decidable c} {x : c → Prog E PUnit} {a : c → Prog E PUnit}
    (ha : ∀ h, x h = (a h >>= fun _ => pure ⟨⟩)) :
    (if h : c then x h else pure ⟨⟩) = (if h : c then a h else pure ⟨⟩) := by
  split
  · rw [ha, bind_pure_unit]
  · rfl

/-- Programs that agree, then programs that agree. -/
theorem then_congr {E : Type → Type v} {α β : Type} {p p' : Prog E α} {k k' : α → Prog E β} (hp : p = p') (hk : ∀ x, k x = k' x) :
    (p >>= k) = (p' >>= k') := by
  rw [hp, funext hk]

/-- A loop carrying nothing, from its trips. -/
theorem for_congr {E : Type → Type v} {w : ℕ} (l : Scf.Loop w) (hl : l.OK) {b b' : Fin l.trips → Unit → Prog E Unit} (h : ∀ t, b t () = b' t ()) :
    Scf.Loop.for l hl () b = Scf.Loop.for l hl () b' :=
  congrArg _ (funext fun t => funext fun _ => h t)

/-- Up to the first conditional step: the sums cleared, the keys and values loaded, the diagonal step, then the one step. The
    continuations `K0`, `K1`, `K2` are the printed parts in between; what `K` gets is the keys and values, and numbers. -/
theorem parts56_59 (R : Refs) (i : grid0.Coords) (h2 h3 h4 h5 h6 h7 h8 h9 h10 h11 h12 h13) {β : Type} :
    ∃ x, ∀ (K0 : _ → Prog (TpuEff nD τ sig (Elt F) Λ₀ .tc) β) (K1 : _ → _ → _ → _ → _ → _ → _ → _ → _ → _ → _ → _ → Prog (TpuEff nD τ sig (Elt F) Λ₀ .tc) β)
        (K2 : _ → _ → _ → _ → _ → _ → _ → _ → _ → _ → _ → _ → Prog (TpuEff nD τ sig (Elt F) Λ₀ .tc) β)
        (K : _ → _ → _ → _ → _ → _ → _ → _ → Prog (TpuEff nD τ sig (Elt F) Λ₀ .tc) β),
      (∀ arg1 v9 v11 v13 v15 v17 v19 v21 v23 v29 v30, K0 ⟨arg1, v9, v11, v13, v15, v17, v19, v21, v23, v29, v30⟩ =
        (k0_part57 (F := F) i R.q h2 R.qt h3 R.k h4 R.kt h5 R.v h6 R.od h7 R.odt h8 R.lse h9 R.dl h10 R.dq h11 R.dk h12 R.dv h13 v9 v13 v19 v21 v23 v29 v30 >>= K1 arg1 v9 v11 v13 v15 v17 v19 v21 v23 v29 v30)) →
      (∀ arg1 v9 v11 v13 v15 v17 v19 v21 v23 v29 v30 v42 v43 v56 v59 v69, K1 arg1 v9 v11 v13 v15 v17 v19 v21 v23 v29 v30 ⟨v42, v43, v56, v59, v69⟩ =
        (k0_part58 (F := F) i R.q h2 R.qt h3 R.k h4 R.kt h5 R.v h6 R.od h7 R.odt h8 R.lse h9 R.dl h10 R.dq h11 R.dk h12 R.dv h13 v15 v23 v42 v43 v56 v59 v69 >>= K2 arg1 v9 v11 v13 v15 v17 v19 v21 v23 v29 v30)) →
      (∀ arg1 v9 v11 v13 v15 v17 v19 v21 v23 v29 v30 v93 v96 v107, K2 arg1 v9 v11 v13 v15 v17 v19 v21 v23 v29 v30 ⟨v93, v96, v107⟩ =
        (k0_part59 (F := F) i R.q h2 R.qt h3 R.k h4 R.kt h5 R.v h6 R.od h7 R.odt h8 R.lse h9 R.dl h10 R.dq h11 R.dk h12 R.dv h13 arg1 v11 v13 v15 v17 v19 v21 v23 v93 v96 v107 >>= K arg1 v11 v13 v15 v17 v19 v21)) →
      (k0_part56 (F := F) i R.q h2 R.qt h3 R.k h4 R.kt h5 R.v h6 R.od h7 R.odt h8 R.lse h9 R.dl h10 R.dq h11 R.dk h12 R.dv h13 >>= K0) =
      (clear R i >>= fun _ => setup R >>= fun H => step R H masked (k0_off1 i 0) (Gen.k0_off1_inb i 0) >>= fun _ => one R H i >>= fun _ =>
        K (BitVec.ofNat 32 (i 1).val) H.k0 H.k1 H.kt0 H.kt1 H.v0 H.v1 x) := by
  apply Exists.intro
  intro K0 K1 K2 K e0 e1 e2
  refine join (fun _ => rfl) ?_
  iterate 12 refine op_congr _ fun _ => ?_
  refine (e0 _ _ _ _ _ _ _ _ _ _ _).trans ?_
  repeat refine op_congr _ fun _ => ?_
  refine (e1 _ _ _ _ _ _ _ _ _ _ _ _ _ _ _ _).trans ?_
  repeat refine op_congr _ fun _ => ?_
  refine (e2 _ _ _ _ _ _ _ _ _ _ _ _ _ _).trans ?_
  repeat refine op_congr _ fun _ => ?_
  exact join (fun _ => rfl) rfl

/-- The two steps. -/
theorem part60 (R : Refs) (i : grid0.Coords) (h2 h3 h4 h5 h6 h7 h8 h9 h10 h11 h12 h13) {β : Type} (k0 k1 : FVec F S512x128 .bf16) (kt0 kt1 : FVec F S128x512 .bf16)
    (v0 v1 : FVec F S512x64 .bf16) (a b c : BitVec 32) :
    ∃ x, ∀ K : _ → Prog (TpuEff nD τ sig (Elt F) Λ₀ .tc) β,
      (k0_part60 (F := F) i R.q h2 R.qt h3 R.k h4 R.kt h5 R.v h6 R.od h7 R.odt h8 R.lse h9 R.dl h10 R.dq h11 R.dk h12 R.dv h13 k0 k1 kt0 kt1 v0 v1 a b c >>= K) = (two R ⟨k0, k1, kt0, kt1, v0, v1⟩ i >>= fun _ => K x) := by
  apply Exists.intro
  intro K
  exact join (fun _ => rfl) rfl

/-- Numbers only. -/
theorem part61 (R : Refs) (i : grid0.Coords) (h2 h3 h4 h5 h6 h7 h8 h9 h10 h11 h12 h13) {β : Type} (a b c d e f g : BitVec 32) :
    ∃ x, ∀ K : _ → Prog (TpuEff nD τ sig (Elt F) Λ₀ .tc) β, (k0_part61 (F := F) i R.q h2 R.qt h3 R.k h4 R.kt h5 R.v h6 R.od h7 R.odt h8 R.lse h9 R.dl h10 R.dq h11 R.dk h12 R.dv h13 a b c d e f g >>= K) = K x := by
  apply Exists.intro
  intro K
  rfl

/-- The four steps. -/
theorem part62 (R : Refs) (i : grid0.Coords) (h2 h3 h4 h5 h6 h7 h8 h9 h10 h11 h12 h13) {β : Type} (k0 k1 : FVec F S512x128 .bf16) (kt0 kt1 : FVec F S128x512 .bf16)
    (v0 v1 : FVec F S512x64 .bf16) (a b c d : BitVec 32) :
    ∃ x, ∀ K : _ → Prog (TpuEff nD τ sig (Elt F) Λ₀ .tc) β,
      (k0_part62 (F := F) i R.q h2 R.qt h3 R.k h4 R.kt h5 R.v h6 R.od h7 R.odt h8 R.lse h9 R.dl h10 R.dq h11 R.dk h12 R.dv h13 k0 k1 kt0 kt1 v0 v1 a b c d >>= K) = (four R ⟨k0, k1, kt0, kt1, v0, v1⟩ i >>= fun _ => K x) := by
  apply Exists.intro
  intro K
  exact join (fun _ => rfl) rfl

/-- The printed body is `body`. -/
theorem body_eq (R : Refs) (i : grid0.Coords) (h2 h3 h4 h5 h6 h7 h8 h9 h10 h11 h12 h13) :
    cc0_mla_attn_bwd (F := F) i R.q h2 R.qt h3 R.k h4 R.kt h5 R.v h6 R.od h7 R.odt h8 R.lse h9 R.dl h10 R.dq h11 R.dk h12 R.dv h13 = body R i := by
  rw [cc0_mla_attn_bwd_eq_skeleton]
  unfold cc0_mla_attn_bwd_skel body
  obtain ⟨x, hx⟩ := parts56_59 (F := F) (β := PUnit) R i h2 h3 h4 h5 h6 h7 h8 h9 h10 h11 h12 h13
  apply Eq.trans
  ·
    apply hx
    · intro _ _ _ _ _ _ _ _ _ _ _; rfl
    · intro _ _ _ _ _ _ _ _ _ _ _ _ _ _ _ _; rfl
    · intro _ _ _ _ _ _ _ _ _ _ _ _ _ _; rfl
  refine then_congr rfl fun _ => then_congr rfl fun H => then_congr rfl fun _ => then_congr rfl fun _ => ?_
  obtain ⟨x2, hx2⟩ := part60 (F := F) (β := PUnit) R i h2 h3 h4 h5 h6 h7 h8 h9 h10 h11 h12 h13 H.k0 H.k1 H.kt0 H.kt1 H.v0 H.v1 x.1 x.2.1 x.2.2
  refine (hx2 _).trans (then_congr rfl fun _ => ?_)
  obtain ⟨x3, hx3⟩ := part61 (F := F) (β := PUnit) R i h2 h3 h4 h5 h6 h7 h8 h9 h10 h11 h12 h13 x.1 x2.1 x2.2.1 x2.2.2.1 x2.2.2.2.1 x2.2.2.2.2.1 x2.2.2.2.2.2
  refine (hx3 _).trans ?_
  obtain ⟨x4, hx4⟩ := part62 (F := F) (β := PUnit) R i h2 h3 h4 h5 h6 h7 h8 h9 h10 h11 h12 h13 H.k0 H.k1 H.kt0 H.kt1 H.v0 H.v1 x.1 x3.1 x3.2.1 x3.2.2
  refine (hx4 _).trans (then_congr rfl fun _ => ?_)
  refine then_congr (for_congr _ _ fun t => trip1_eq R _ _ _ _ _ _ i h2 h3 h4 h5 h6 h7 h8 h9 h10 h11 h12 h13 _ t) fun _ => ?_
  refine then_congr (for_congr _ _ fun t => trip2_eq R _ _ _ _ _ _ i h2 h3 h4 h5 h6 h7 h8 h9 h10 h11 h12 h13 _ _ t) fun _ => ?_
  refine op_congr _ fun _ => op_congr _ fun _ => op_congr _ fun _ => ?_
  exact join_end fun _ => rfl

end Cert.KernelIdeal.Bwd

end
-- ==== Proof.Data.lean ====
/-
  The proof data of the launch: what every window's buffer holds after the body at each grid point. The inputs keep their blocks;
  the sums are `bodySt` of them, `dq` from what the point before left.
-/
module

public import proofs.«01_k».proof.Proof.RunsBody
public import proofs.«01_k».proof.Proof.Printed

@[expose] public section

noncomputable section

namespace Cert.KernelIdeal.Bwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ)

/-- The operands at point `t`. -/
noncomputable def refsAt (t : Fin cfg0.N) : Refs where
  q := win0_0.stage (cfg0.slots t 0)
  qt := win0_1.stage (cfg0.slots t 1)
  k := win0_2.stage (cfg0.slots t 2)
  kt := win0_3.stage (cfg0.slots t 3)
  v := win0_4.stage (cfg0.slots t 4)
  od := win0_5.stage (cfg0.slots t 5)
  odt := win0_6.stage (cfg0.slots t 6)
  lse := win0_7.stage (cfg0.slots t 7)
  dl := win0_8.stage (cfg0.slots t 8)
  dq := win0_9.stage (cfg0.slots t 9)
  dk := win0_10.stage (cfg0.slots t 10)
  dv := win0_11.stage (cfg0.slots t 11)

/-- The inputs' blocks at point `t`. -/
noncomputable def insAt (c : Dev nD) (t : Fin cfg0.N) : Ins F where
  q := iblk m c 0 t
  qt := iblk m c 1 t
  k := iblk m c 2 t
  kt := iblk m c 3 t
  v := iblk m c 4 t
  od := iblk m c 5 t
  odt := iblk m c 6 t
  lse := iblk m c 7 t
  dl := iblk m c 8 t

/-- The sums after point `n`; before the first point `dq` may be anything, so zeros. -/
noncomputable def stAt (c : Dev nD) : (n : ℕ) → n < cfg0.N → St F
  | 0, h => bodySt (insAt m c ⟨0, h⟩) (grid0.coords ⟨0, h⟩) (zeros _)
  | n + 1, h => bodySt (insAt m c ⟨n + 1, h⟩) (grid0.coords ⟨n + 1, h⟩) (stAt c n (Nat.lt_of_succ_lt h)).dq

/-- The proof data. -/
noncomputable def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => (stAt m c t.val t.isLt).dq
    | 10 => (stAt m c t.val t.isLt).dk
    | 11 => (stAt m c t.val t.isLt).dv
  Φ _ := Pipeline.ΦA spec0 c
  q _ := fullShare
  owed _ := 0

variable (c : Dev nD) (t : Fin cfg0.N)

/-- The data read back, window by window. -/
theorem dats_A (w : Fin cfg0.W) : (dats m 0 c).A w = V m c (Pipeline.arrRef spec0 w) := by unfold dats; with_reducible rfl
theorem after_0 : (dats m 0 c).after 0 t = iblk m c 0 t := by unfold dats; with_reducible rfl
theorem after_1 : (dats m 0 c).after 1 t = iblk m c 1 t := by unfold dats; with_reducible rfl
theorem after_2 : (dats m 0 c).after 2 t = iblk m c 2 t := by unfold dats; with_reducible rfl
theorem after_3 : (dats m 0 c).after 3 t = iblk m c 3 t := by unfold dats; with_reducible rfl
theorem after_4 : (dats m 0 c).after 4 t = iblk m c 4 t := by unfold dats; with_reducible rfl
theorem after_5 : (dats m 0 c).after 5 t = iblk m c 5 t := by unfold dats; with_reducible rfl
theorem after_6 : (dats m 0 c).after 6 t = iblk m c 6 t := by unfold dats; with_reducible rfl
theorem after_7 : (dats m 0 c).after 7 t = iblk m c 7 t := by unfold dats; with_reducible rfl
theorem after_8 : (dats m 0 c).after 8 t = iblk m c 8 t := by unfold dats; with_reducible rfl
theorem after_9 : (dats m 0 c).after 9 t = (stAt m c t.val t.isLt).dq := by unfold dats; with_reducible rfl
theorem after_10 : (dats m 0 c).after 10 t = (stAt m c t.val t.isLt).dk := by unfold dats; with_reducible rfl
theorem after_11 : (dats m 0 c).after 11 t = (stAt m c t.val t.isLt).dv := by unfold dats; with_reducible rfl
theorem before_0 (d) : (dats m 0 c).before 0 t d = iblk m c 0 t := before0_0_of m _ (dats_A m c _) (after_0 m c) t d
theorem before_1 (d) : (dats m 0 c).before 1 t d = iblk m c 1 t := before0_1_of m _ (dats_A m c _) (after_1 m c) t d
theorem before_2 (d) : (dats m 0 c).before 2 t d = iblk m c 2 t := before0_2_of m _ (dats_A m c _) (after_2 m c) t d
theorem before_3 (d) : (dats m 0 c).before 3 t d = iblk m c 3 t := before0_3_of m _ (dats_A m c _) (after_3 m c) t d
theorem before_4 (d) : (dats m 0 c).before 4 t d = iblk m c 4 t := before0_4_of m _ (dats_A m c _) (after_4 m c) t d
theorem before_5 (d) : (dats m 0 c).before 5 t d = iblk m c 5 t := before0_5_of m _ (dats_A m c _) (after_5 m c) t d
theorem before_6 (d) : (dats m 0 c).before 6 t d = iblk m c 6 t := before0_6_of m _ (dats_A m c _) (after_6 m c) t d
theorem before_7 (d) : (dats m 0 c).before 7 t d = iblk m c 7 t := before0_7_of m _ (dats_A m c _) (after_7 m c) t d
theorem before_8 (d) : (dats m 0 c).before 8 t d = iblk m c 8 t := before0_8_of m _ (dats_A m c _) (after_8 m c) t d

/-- The first block of a row of points is where `dq` is cleared. -/
theorem isRow_zero : ∀ t : Fin cfg0.N, t.val % 16 = 0 → isRow (grid0.coords t) 0#32 = 1#1 :=
  (by decide +kernel : ∀ t : Fin grid0.N, t.val % 16 = 0 → isRow (grid0.coords t) 0#32 = 1#1)

/-- There the body does not read `dq`. -/
theorem bodySt_first (I : Ins F) (t : Fin cfg0.N) (h : t.val % 16 = 0) (d d' : Vec F S256x8192 .f32) :
    bodySt I (grid0.coords t) d = bodySt I (grid0.coords t) d' := by
  unfold bodySt sumSt startSt
  rw [if_pos (isRow_zero t h), if_pos (isRow_zero t h)]

/-- What the body finds in `dq`'s buffer gives the sums of the point. -/
theorem stAt_eq (d) :
    bodySt (insAt m c t) (grid0.coords t) ((dats m 0 c).before 9 t d) = stAt m c t.val t.isLt := by
  obtain ⟨n, hn⟩ := t
  cases n with
  | zero => exact bodySt_first _ ⟨0, hn⟩ rfl _ _
  | succ n =>
    by_cases h : (n + 1) % 16 = 0
    · exact bodySt_first _ ⟨n + 1, hn⟩ h _ _
    · have hfl : (cfg0.win 9).flush ⟨n + 1 - 1, Nat.lt_of_le_of_lt (Nat.sub_le _ _) hn⟩ = false := by
        rw [← Bool.not_eq_true, flush0_9]; show ¬ (n + 1 - 1) % 16 = 15; omega
      have e := (dats m 0 c).before_out_kept 9 rfl ⟨n + 1, hn⟩ (Nat.succ_ne_zero n) hfl (fun _ => rfl) (fun _ _ => rfl) d
      rw [e, after_9]; rfl

/-- The buffers the body is called with at point `t`, and those it returns. -/
noncomputable def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))
noncomputable def bodyPost : sProp 𝕄 :=
  iprop((dats m 0 c).Φ t.castSucc ∗ (dats m 0 c).owesAt () t.castSucc
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- What the body owns at the point, buffer by buffer. -/
theorem own_at (s : St F) : own c (refsAt t) (insAt m c t) s = iprop((
    owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t))
    ∗ owns (c : Thread nD τ) (st0_9 t) fullShare s.dq
    ∗ owns (c : Thread nD τ) (st0_10 t) fullShare s.dk
    ∗ owns (c : Thread nD τ) (st0_11 t) fullShare s.dv) := by
  unfold own ownIns ownSt refsAt insAt
  with_reducible rfl

/-- The body at a point. -/
theorem sound_body :
    bodyPre m c t ⊢ wp frame (wpE (defs₀ (F := F)) Variants.none (c : Thread nD τ) none) Set.univ (bodyAt0 t) (fun _ => bodyPost m c t) := by
  have hb : bodyAt0 (F := F) t = body (refsAt t) (grid0.coords t) := body_eq (refsAt t) _ _ _ _ _ _ _ _ _ _ _ _ _
  rw [hb]
  unfold bodyPre bodyPost
  simp only [before_0, before_1, before_2, before_3, before_4, before_5, before_6, before_7, before_8, after_0, after_1, after_2, after_3, after_4, after_5, after_6, after_7, after_8, after_9, after_10, after_11]
  iintro ⟨HΦ, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩⟩
  iapply ((runs_body c (refsAt t) (insAt m c t) (grid0.coords t)
    ⟨(dats m 0 c).before 9 t e9, (dats m 0 c).before 10 t e10, (dats m 0 c).before 11 t e11⟩).run _)
  rw [stAt_eq m c t e9, own_at, own_at]
  isplitl [H0 H1 H2 H3 H4 H5 H6 H7 H8 H9 H10 H11]
  · isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · isplitl [H9]; · iexact H9
      isplitl [H10]; · iexact H10
      iexact H11
  · iintro ⟨⟨H0, H1, H2, H3, H4, H5, H6, H7, H8⟩, H9, H10, H11⟩
    isplitl [HΦ]; · iexact HΦ
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at the point is the body. -/
theorem defs₀_row (t : Fin cfg0.N) : defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

variable (ρ : Dev nD → PrngReg)

set_option backward.isDefEq.respectTransparency.types false in
/-- The run: from any memory, every execution ends with the arrays as the proof data write them back, the other buffers as the
    region found them, and the counters at zero. -/
theorem run_main :
    θ_run defs (onTc (τ := τ) (main (F := F))) (s₀ m ρ) (fun r => Pipeline.FramePost cfgs (dats m) 0 (V m) r ∧ r.2.sem = fun _ => 0) :=
  Pipeline.θ_run_frame cfgs (dats m) 0 launch0 defs₀ Variants.none m ρ main (hbody := fun c => (body_obligation m c).loose)
    (hshare := fun c => (dats m 0 c).share_full fun _ => rfl) (howed := fun _ _ => rfl) (V := V m) (hmain := hmain m Variants.none)
    (hA := fun c w => dats_A m c w) (hΦ := fun _ _ => rfl) (Q' := _) (hQ' := fun _ h => h)

end Cert.KernelIdeal.Bwd

end
-- ==== Proof.Frame.lean ====
/-
  The kernel's run with its arguments unchanged, its counters at zero and its three sums as the launch wrote them back.
-/
module

public import proofs.«01_k».proof.Proof.Data

@[expose] public section

noncomputable section

namespace Cert.KernelIdeal.Bwd

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- A run: the three written arrays, the arguments and the counters. -/
theorem run : θ_run defs (onTc (τ := τ) (main (F := F))) ⟨m, fun _ => 0, ρ⟩ (fun r => (∀ c : Dev nD,
      (r.2.mem ((c.tc : Thread nD τ).loc main_v48_0) = (dats m 0 c).arrAt 9 cfg0.N
      ∧ r.2.mem ((c.tc : Thread nD τ).loc main_v48_1) = (dats m 0 c).arrAt 10 cfg0.N
      ∧ r.2.mem ((c.tc : Thread nD τ).loc main_v48_2) = (dats m 0 c).arrAt 11 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c =>
    ⟨⟨(h.1 c).1 9, (h.1 c).1 10, (h.1 c).1 11⟩,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Bwd

end
-- ==== Proof.Word.Trips.lean ====
/-
  The printed bodies of the two loops: one trip is the eight steps at that trip's rows.
-/
module

public import proofs.«01_k».proof.Proof.Word.Body

@[expose] public section

noncomputable section

namespace Cert.Kernel.Bwd

open Cert.Kernel Cert.Kernel.Facts₀ Cert.Kernel.Gen
open Idealize.ShloMosaic Idealize.ShloMosaic.TcCoe
open Idealize.SL Idealize.SL.Sem

variable {F : FTy → Type} [FloatOps F]

set_option maxRecDepth 65536 in
/-- A trip of the first loop. -/
theorem trip1_eq (R : Refs) (k0 k1 : FVec F S512x128 .bf16) (kt0 kt1 : FVec F S128x512 .bf16) (v0 v1 : FVec F S512x64 .bf16)
    (i : grid0.Coords) (h2 h3 h4 h5 h6 h7 h8 h9 h10 h11 h12 h13) (w : BitVec 32) (t : Fin (k0_t1_loop i).trips) :
    k0_t1_body i R.q h2 R.qt h3 R.k h4 R.kt h5 R.v h6 R.od h7 R.odt h8 R.lse h9 R.dl h10 R.dq h11 R.dk h12 R.dv h13 k0 k1 kt0 kt1 v0 v1 w t () = steps R ⟨k0, k1, kt0, kt1, v0, v1⟩ (rows1 i t) := rfl

set_option maxRecDepth 65536 in
/-- A trip of the second loop. -/
theorem trip2_eq (R : Refs) (k0 k1 : FVec F S512x128 .bf16) (kt0 kt1 : FVec F S128x512 .bf16) (v0 v1 : FVec F S512x64 .bf16)
    (i : grid0.Coords) (h2 h3 h4 h5 h6 h7 h8 h9 h10 h11 h12 h13) (w w' : BitVec 32) (t : Fin (k0_t2_loop i).trips) :
    k0_t2_body i R.q h2 R.qt h3 R.k h4 R.kt h5 R.v h6 R.od h7 R.odt h8 R.lse h9 R.dl h10 R.dq h11 R.dk h12 R.dv h13 k0 k1 kt0 kt1 v0 v1 w w' t () = steps R ⟨k0, k1, kt0, kt1, v0, v1⟩ (rows2 i t) := rfl

end Cert.Kernel.Bwd

end
-- ==== Proof.Claims.lean ====
/-
  The frames of the three programs and what the idealization replaced.
-/
module

public import proofs.«01_k».proof.Defs
public import proofs.«01_k».proof.Proof.Frame
public import proofs.«01_k».proof.Proof.Word.Frame
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel's frame. -/
theorem frame_kernel : Cert.quiescent_Kernel (hKernel := Cert.Kernel.Gen.facts) := fun m ρ _ =>
  (θ_run _ _ _).mono (fun _ h => ⟨fun c => (h.1 c).2, h.2⟩) (Cert.Kernel.Bwd.run (F := Bits) m ρ)

/-- The idealized kernel's frame. -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.Bwd.run (F := Ideal) m ρ)

/-- The reference's frame. -/
theorem frame_reference : Cert.quiescent_ReferenceIdeal (hReferenceIdeal := Cert.ReferenceIdeal.Gen.facts) := fun m ρ _ =>
  (θ_run _ _ _).mono (fun r h => ⟨fun c => (h c).2.2.2, sem_eq_zero_of_no_sems (by decide) r.2⟩) (Cert.ReferenceIdeal.Value.run (F := Ideal) m ρ)

/-- The two named constants: the mask is −∞ and `ln2` is log 2. -/
theorem preserves : Cert.preserves_Kernel_KernelIdeal :=
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

end Cert.Proof

end
-- ==== Proof.Attn.lean ====
/-
  The mathematics of the attention's gradient over the reals. Everything is a function of natural numbers, zero outside the arrays, so
  that a padded lane is just a zero. `H` is a head, `r` a query, `κ` a key, `d` a lane.
-/
module

public import Mathlib.Analysis.SpecialFunctions.Log.Basic
public import Mathlib.Analysis.SpecialFunctions.Pow.Real
public import Mathlib.Data.EReal.Operations
public import Idealize.ShloMosaic.PureOps.Ideal

@[expose] public section

noncomputable section

namespace Cert.Attn

open Idealize.ShloMosaic

/-- The inputs as reals: queries, keys, values, the output's gradient (row, head, lane), the scores' scale, and for each head and query
    the number that the scores are shifted by. -/
structure Inp where
  q : ℕ → ℕ → ℕ → ℝ
  k : ℕ → ℕ → ℕ → ℝ
  v : ℕ → ℕ → ℕ → ℝ
  o : ℕ → ℕ → ℕ → ℝ
  c : ℝ
  M : ℕ → ℕ → ℝ

variable (A : Inp)

/-- A score. -/
def sc (H r κ : ℕ) : ℝ := (∑ d ∈ Finset.range 96, A.q r H d * A.k κ H d) * A.c
/-- Its exponential, of the keys that the query sees. -/
def E (H r κ : ℕ) : ℝ := if κ ≤ r then Real.exp (sc A H r κ - A.M H r) else 0
/-- A query's sum of exponentials. -/
def Ls (H r : ℕ) : ℝ := ∑ κ ∈ Finset.range 8192, E A H r κ
/-- The probabilities. -/
def P (H r κ : ℕ) : ℝ := E A H r κ / Ls A H r
/-- The gradient of the output against a value. -/
def Dv (H r κ : ℕ) : ℝ := ∑ d ∈ Finset.range 64, A.o r H d * A.v κ H d
/-- A query's sum of the output times its gradient. -/
def De (H r : ℕ) : ℝ := ∑ κ ∈ Finset.range 8192, P A H r κ * Dv A H r κ
/-- The gradient of a score. -/
def G (H r κ : ℕ) : ℝ := P A H r κ * (Dv A H r κ - De A H r)

/-- The gradients of the queries, keys and values. -/
def dq (H d r : ℕ) : ℝ := ∑ κ ∈ Finset.range 8192, G A H r κ * A.c * A.k κ H d
def dk (H d κ : ℕ) : ℝ := ∑ r ∈ Finset.range 8192, G A H r κ * A.c * A.q r H d
def dv (H d κ : ℕ) : ℝ := ∑ r ∈ Finset.range 8192, A.o r H d * P A H r κ

theorem E_nonneg (H r κ : ℕ) : 0 ≤ E A H r κ := by
  unfold E; split
  · exact (Real.exp_pos _).le
  · exact le_refl 0

/-- A query sees itself, so its sum is positive. -/
theorem Ls_pos (H : ℕ) {r : ℕ} (hr : r < 8192) : 0 < Ls A H r := by
  refine Finset.sum_pos' (fun κ _ => E_nonneg A H r κ) ⟨r, Finset.mem_range.mpr hr, ?_⟩
  unfold E; rw [if_pos (le_refl r)]; exact Real.exp_pos _

/-- A later key has no probability and no gradient. -/
theorem P_later {H r κ : ℕ} (h : r < κ) : P A H r κ = 0 := by
  unfold P E; rw [if_neg (by omega), zero_div]
theorem G_later {H r κ : ℕ} (h : r < κ) : G A H r κ = 0 := by
  unfold G; rw [P_later A h, zero_mul]

/-! ## Sums of embedded reals -/

/-- A sum of reals, embedded. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A sum over `Fin n` whose terms are embedded reals. -/
theorem sum_fin {n : ℕ} (g : Fin n → EReal) (f : ℕ → ℝ) (h : ∀ i : Fin n, g i = (f i : EReal)) :
    ∑ i, g i = ((∑ i ∈ Finset.range n, f i : ℝ) : EReal) := by
  rw [Finset.sum_range, coe_sum]; exact Finset.sum_congr rfl fun i _ => h i

/-- A sum over 8192 positions, as sixteen blocks of 512. -/
theorem sum_blocks (f : ℕ → ℝ) : ∑ i ∈ Finset.range 8192, f i = ∑ b ∈ Finset.range 16, ∑ x ∈ Finset.range 512, f (512 * b + x) := by
  have : ∀ n, ∑ i ∈ Finset.range (512 * n), f i = ∑ b ∈ Finset.range n, ∑ x ∈ Finset.range 512, f (512 * b + x) := by
    intro n
    induction n with
    | zero => rfl
    | succ n ih => rw [show 512 * (n + 1) = 512 * n + 512 by omega, Finset.sum_range_add, ih, Finset.sum_range_succ _ n]
  exact this 16

/-- Lanes past the last real one add nothing. -/
theorem sum_pad {m n : ℕ} (h : m ≤ n) (f : ℕ → ℝ) (hf : ∀ i, m ≤ i → f i = 0) : ∑ i ∈ Finset.range n, f i = ∑ i ∈ Finset.range m, f i := by
  refine (Finset.sum_subset (Finset.range_mono h) fun i _ hi => hf i ?_).symm
  simpa using hi

/-! ## The kernel's powers of two -/

theorem log2_pos : (0 : ℝ) < Real.log 2 := Real.log_pos one_lt_two

/-- The power of two whose exponent is the score less the shift and the logarithm of the sum, all over log 2, is the probability. -/
theorem pow_two {x m l : ℝ} (hl : 0 < l) :
    Real.rpow 2 (x / Real.log 2 - (m + Real.log l) / Real.log 2) = Real.exp (x - m) / l := by
  have h2 := log2_pos.ne'
  refine (Real.rpow_def_of_pos two_pos _).trans ?_
  rw [ show Real.log 2 * (x / Real.log 2 - (m + Real.log l) / Real.log 2) = (x - m) - Real.log l by field_simp; ring,
    Real.exp_sub, Real.exp_log hl]

/-- What the kernel computes for a key that the query sees. -/
theorem exp2_seen {H r κ : ℕ} (hr : r < 8192) (h : κ ≤ r) :
    Ideal.exp2 (((sc A H r κ / Real.log 2 : ℝ) : EReal) - (((A.M H r + Real.log (Ls A H r)) / Real.log 2 : ℝ) : EReal)) = (P A H r κ : EReal) := by
  rw [← EReal.coe_sub, Ideal.exp2_coe, pow_two (Ls_pos A H hr)]
  unfold P E; rw [if_pos h]

/-- What the kernel computes for a key that the mask hides. -/
theorem exp2_hidden {H r κ : ℕ} (h : ¬κ ≤ r) (x : ℝ) : Ideal.exp2 ((⊥ : EReal) - (x : EReal)) = (P A H r κ : EReal) := by
  rw [P_later A (by omega)]; rfl

end Cert.Attn

end
-- ==== Proof.Inputs.lean ====
/-
  The attention that four arrays of finite numbers describe: rows by heads by lanes. The scores of a query are shifted by the greatest of
  those that the query sees.
-/
module

public import proofs.«01_k».proof.Proof.Attn
public import Idealize.ShloMosaic.Lib.Pointwise

@[expose] public section

noncomputable section

namespace Cert.Attn

open Idealize.ShloMosaic

/-- An array of rows by heads by `n` lanes. -/
abbrev Arr (n : ℕ) : Type := (⟨3, ![8192, 8, n]⟩ : Shape).Idx → EReal

/-- Every entry is a real number. -/
def Reals {n : ℕ} (x : Arr n) : Prop := ∀ i, x i = ((x i).toReal : EReal)

/-- The entries as reals, zero outside the array. -/
def ext {n : ℕ} (x : Arr n) (r h d : ℕ) : ℝ :=
  if hh : r < 8192 ∧ h < 8 ∧ d < n then (x (ix3 ⟨r, hh.1⟩ ⟨h, hh.2.1⟩ ⟨d, hh.2.2⟩)).toReal else 0

theorem ext_at {n : ℕ} {x : Arr n} (hx : Reals x) (r : Fin 8192) (h : Fin 8) (d : Fin n) : x (ix3 r h d) = ((ext x r h d : ℝ) : EReal) := by
  unfold ext
  rw [dif_pos ⟨r.isLt, h.isLt, d.isLt⟩]
  exact hx _

theorem ext_zero {n : ℕ} (x : Arr n) (r h d : ℕ) (hd : n ≤ d) : ext x r h d = 0 := by
  unfold ext
  rw [dif_neg fun hh => absurd hh.2.2 (not_lt.mpr hd)]

/-- The scores' scale. -/
def scale : ℝ := (Ideal.ofBits .f32 0x3DD105EC#32).toReal
theorem scale_eq : Ideal.ofBits .f32 0x3DD105EC#32 = ((scale : ℝ) : EReal) := by
  unfold scale
  simp [Ideal.ofBits, Ideal.ieee, -EReal.coe_mul]

theorem neg_inf : Ideal.ofBits .f32 0xFF800000#32 = (⊥ : EReal) := by simp [Ideal.ofBits, Ideal.ieee]
theorem one_lit : Ideal.ofBits .f32 0x3F800000#32 = (1 : EReal) := by simp [Ideal.ofBits, Ideal.ieee, -EReal.coe_mul]; norm_num
theorem two_lit : Ideal.ofBits .f32 0x40000000#32 = ((2 : ℝ) : EReal) := by simp [Ideal.ofBits, Ideal.ieee, -EReal.coe_mul]; norm_num

variable (q k : Arr 96) (v o : Arr 64)

def raw : Inp where
  q := ext q
  k := ext k
  v := ext v
  o := ext o
  c := scale
  M := fun _ _ => 0

def inp : Inp where
  q := ext q
  k := ext k
  v := ext v
  o := ext o
  c := scale
  M := fun H r => (Finset.range (r + 1)).sup' ⟨0, Finset.mem_range.mpr (Nat.succ_pos r)⟩ fun κ => sc (raw q k v o) H r κ

variable {q k : Arr 96} {v o : Arr 64}

/-- A masked score. -/
def msc (A : Inp) (H r κ : ℕ) : EReal := if κ ≤ r then ((sc A H r κ : ℝ) : EReal) else ⊥

/-- The greatest masked score. -/
theorem fold_max (H : ℕ) (r : Fin 8192) :
    Finset.univ.fold max (⊥ : EReal) (fun κ : Fin 8192 => msc (inp q k v o) H r κ) = (((inp q k v o).M H r : ℝ) : EReal) := by
  show Finset.univ.sup _ = _
  refine le_antisymm (Finset.sup_le fun κ _ => ?_) ?_
  · unfold msc
    split
    · rename_i h
      exact EReal.coe_le_coe_iff.mpr (Finset.le_sup' (fun κ => sc (raw q k v o) H r κ) (Finset.mem_range.mpr (Nat.lt_succ_of_le h)))
    · exact bot_le
  · obtain ⟨κ, hκ, e⟩ := Finset.exists_mem_eq_sup' (s := Finset.range (r.val + 1)) ⟨0, Finset.mem_range.mpr (Nat.succ_pos r)⟩
      fun κ => sc (raw q k v o) H r κ
    have hκ' : κ ≤ r.val := Nat.lt_succ_iff.mp (Finset.mem_range.mp hκ)
    refine le_trans (le_of_eq ?_) (Finset.le_sup (f := fun κ : Fin 8192 => msc (inp q k v o) H r κ)
      (Finset.mem_univ (⟨κ, lt_of_le_of_lt hκ' r.isLt⟩ : Fin 8192)))
    show _ = msc (inp q k v o) H r κ
    unfold msc
    rw [if_pos hκ']
    exact congrArg Real.toEReal e

/-- Its exponential. -/
theorem exp_msc (A : Inp) (H r κ : ℕ) : Ideal.exp (msc A H r κ - ((A.M H r : ℝ) : EReal)) = ((E A H r κ : ℝ) : EReal) := by
  unfold msc E
  split
  · rw [← EReal.coe_sub, Ideal.exp_coe]
  · rw [EReal.bot_sub, Ideal.exp_bot, EReal.coe_zero]

/-- The sum of the exponentials. -/
theorem sum_exp (A : Inp) (H r : ℕ) : ∑ κ : Fin 8192, ((E A H r κ : ℝ) : EReal) = ((Ls A H r : ℝ) : EReal) :=
  sum_fin _ (fun κ => E A H r κ) fun _ => rfl

theorem div_real (x : ℝ) {y : ℝ} (hy : y ≠ 0) : Ideal.div (x : EReal) (y : EReal) = ((x / y : ℝ) : EReal) := by
  rw [Ideal.div_coe hy, ← EReal.coe_mul, mul_one_div]

/-- A probability. -/
theorem div_sum (A : Inp) (H : ℕ) {r : ℕ} (hr : r < 8192) (κ : ℕ) :
    Ideal.div ((E A H r κ : ℝ) : EReal) ((Ls A H r : ℝ) : EReal) = ((P A H r κ : ℝ) : EReal) := div_real _ (Ls_pos A H hr).ne'

/-- A score from the arrays' entries. -/
theorem sc_real (hq : Reals q) (hk : Reals k) (h : Fin 8) (r κ : Fin 8192) :
    (∑ d : Fin 96, q (ix3 r h d) * k (ix3 κ h d)) * ((scale : ℝ) : EReal) = ((sc (inp q k v o) h r κ : ℝ) : EReal) := by
  rw [sum_fin _ (fun d => ext q r h d * ext k κ h d) fun d => by rw [ext_at hq, ext_at hk, EReal.coe_mul], ← EReal.coe_mul]
  rfl

end Cert.Attn

end
-- ==== Proof.Finite.lean ====
/-
  The precondition `finite_inputs`: it says that every entry of the four arrays is a real number.
-/
module

public import proofs.«01_k».proof.Defs
public import proofs.«01_k».proof.Proof.Inputs
public import Idealize.ShloMosaic.Lib.ReduceAll

@[expose] public section

noncomputable section

namespace Cert.Proof

open Idealize.ShloMosaic
open Cert.Attn (Arr Reals neg_inf)

/-- The side conditions of the precondition's predicate. -/
theorem pre_facts : Cert.Pre_finite_inputs.Facts where
  bcast_S_S8192x8x96 := by decide
  reducesTo_S8192x8x96_S_d0_1_2 := by decide
  h_S_ := by decide
  bcast_S_S8192x8x64 := by decide
  reducesTo_S8192x8x64_S_d0_1_2 := by decide

theorem pos_inf : Ideal.ofBits .f32 0x7F800000#32 = (⊤ : EReal) := by simp [Ideal.ofBits, Ideal.ieee]

instance : Subsingleton Cert.Pre_finite_inputs.S_.Idx := ⟨fun _ _ => funext fun a => a.elim0⟩

/-- An entry strictly between the infinities is a real number. -/
theorem entry_real (y : EReal) (h : IntOp.andi (Ideal.cmp .ogt y (Ideal.ofBits .f32 0xFF800000#32)) (Ideal.cmp .olt y (Ideal.ofBits .f32 0x7F800000#32)) = 1#1) :
    y = (y.toReal : EReal) := by
  obtain ⟨h1, h2⟩ := IntOp.andi_eq_one.1 h
  rw [neg_inf] at h1
  rw [pos_inf] at h2
  refine (EReal.coe_toReal ?_ ?_).symm
  · rintro rfl
    simp [Ideal.cmp] at h2
  · rintro rfl
    simp [Ideal.cmp] at h1

/-- An array that passes the test, of either width. -/
theorem arr_real {n : ℕ} (x : Arr n) (y : (⟨3, ![8192, 8, n]⟩ : Shape).Idx → BitVec 1) (init : Cert.Pre_finite_inputs.S_.Idx → BitVec 1)
    (hr : (⟨3, ![8192, 8, n]⟩ : Shape).ReducesTo [0, 1, 2] Cert.Pre_finite_inputs.S_) (hu : 0 < Cert.Pre_finite_inputs.S_.numel)
    (hy : ∀ i, y i = IntOp.andi (Ideal.cmp .ogt (x i) (Ideal.ofBits .f32 0xFF800000#32)) (Ideal.cmp .olt (x i) (Ideal.ofBits .f32 0x7F800000#32)))
    (e : Host.reduce IntOp.andi y init hr hu ix0 = 1#1) : Reals x := fun i =>
  entry_real (x i) ((hy i).symm.trans (Host.reduce_andi_all y init hr hu ix0 e i))

/-- The precondition's meaning. -/
theorem finite_real (x0 x1 : Arr 96) (x2 x3 : Arr 64)
    (e : letI := pre_facts; Cert.Pre_finite_inputs.fn (F := Ideal) x0 x1 x2 x3 = fun _ => 1#1) :
    Reals x0 ∧ Reals x1 ∧ Reals x2 ∧ Reals x3 := by
  have e := congrFun e ix0
  unfold Cert.Pre_finite_inputs.fn Cert.Pre_finite_inputs.fn_part1 at e
  obtain ⟨e, e3⟩ := IntOp.andi_eq_one.1 e
  obtain ⟨e, e2⟩ := IntOp.andi_eq_one.1 e
  obtain ⟨e0, e1⟩ := IntOp.andi_eq_one.1 e
  exact ⟨arr_real x0 _ _ _ _ (fun _ => rfl) e0, arr_real x1 _ _ _ _ (fun _ => rfl) e1, arr_real x2 _ _ _ _ (fun _ => rfl) e2,
    arr_real x3 _ _ _ _ (fun _ => rfl) e3⟩

end Cert.Proof

end
-- ==== Proof.StepAt.lean ====
/-
  What a step computes, read at an index, over the extended reals.
-/
module

public import proofs.«01_k».proof.Proof.RunsBody
public import Idealize.ShloMosaic.Lib.Pointwise
public import Idealize.ShloMosaic.Lib.WordCmp

@[expose] public section

noncomputable section

namespace Cert.KernelIdeal.Bwd

open Cert.KernelIdeal Cert.KernelIdeal.Facts₀
open Idealize.ShloMosaic Idealize.ShloMosaic.TcCoe

/-- The scores of one head: the keys' rows times the queries' rows. -/
theorem scoreT_at (k q : FVec Ideal S512x128 .bf16) (κ r : Fin 512) :
    scoreT (F := Ideal) k q (ix2 κ r) = ∑ d : Fin 128, k (ix2 κ d) * q (ix2 r d) := by
  pointwise [scoreT]

/-- The values' rows times the rows of the output's gradient. -/
theorem doutT_at (v d : FVec Ideal S512x64 .bf16) (κ r : Fin 512) :
    doutT (F := Ideal) v d (ix2 κ r) = ∑ x : Fin 64, v (ix2 κ x) * d (ix2 r x) := by
  pointwise [doutT]

theorem probT_at (s : FVec Ideal S512x512 .f32) (l : Vec Ideal S1x1x512 .f32) (κ r : Fin 512) :
    probT (F := Ideal) s l (ix2 κ r) = Ideal.exp2 (s (ix2 κ r) - l (ix3 0 0 r)) := by
  pointwise [probT, rowsT]
  rfl

theorem gradT_at (p d : FVec Ideal S512x512 .f32) (dl : Vec Ideal S1x1x512 .f32) (κ r : Fin 512) :
    gradT (F := Ideal) p d dl (ix2 κ r) = p (ix2 κ r) * (d (ix2 κ r) - dl (ix3 0 0 r)) := by
  pointwise [gradT, rowsT]

theorem dvAdd_at (x : Vec Ideal S64x512 .f32) (dt : FVec Ideal S64x512 .bf16) (p : FVec Ideal S512x512 .f32) (a : Fin 64) (κ : Fin 512) :
    dvAdd (F := Ideal) x dt p (ix2 a κ) = x (ix2 a κ) + ∑ r : Fin 512, dt (ix2 a r) * p (ix2 κ r) := by
  pointwise [dvAdd]

theorem dkAdd_at (x : Vec Ideal S128x512 .f32) (qt : FVec Ideal S128x512 .bf16) (g : FVec Ideal S512x512 .bf16) (a : Fin 128) (κ : Fin 512) :
    dkAdd (F := Ideal) x qt g (ix2 a κ) = x (ix2 a κ) + ∑ r : Fin 512, qt (ix2 a r) * g (ix2 κ r) := by
  pointwise [dkAdd]

theorem dqAdd_at (x : Vec Ideal S128x512 .f32) (kt : FVec Ideal S128x512 .bf16) (g : FVec Ideal S512x512 .bf16) (a : Fin 128) (r : Fin 512) :
    dqAdd (F := Ideal) x kt g (ix2 a r) = x (ix2 a r) + ∑ κ : Fin 512, kt (ix2 a κ) * g (ix2 κ r) := by
  pointwise [dqAdd]

/-- The mask: a key after the query gets −∞. -/
theorem masked_at (s : FVec Ideal S512x512 .f32) (κ r : Fin 512) :
    masked (F := Ideal) s (ix2 κ r) = if κ.val ≤ r.val then s (ix2 κ r) else (⊥ : EReal) := by
  have hm : (Named.named Cert.KernelIdeal.κ "mask" 0xF149F2CA#32 : Ideal .f32) = (⊥ : EReal) := rfl
  pointwise [masked, hm]
  rw [WordCmp.cmpi_sle_ofNat (show κ.val < 2 ^ (32 - 1) by omega) (show r.val < 2 ^ (32 - 1) by omega)]
  by_cases h : κ.val ≤ r.val
  · rw [if_pos h, decide_eq_true h]; rfl
  · rw [if_neg h, decide_eq_false h]; rfl

/-- A put of two axes at an index. -/
theorem put2 {α : Type} {n0 n1 m0 m1 : ℕ} (x : (⟨2, ![n0, n1]⟩ : Shape).Idx → α) (o0 o1 : ℕ)
    (w : (⟨2, ![m0, m1]⟩ : Shape).Idx → α) (a : Fin n0) (b : Fin n1) :
    VecWindow.put (s := ⟨2, ![n0, n1]⟩) x ![o0, o1] (⟨2, ![m0, m1]⟩ : Shape).size w (ix2 a b)
      = if h : (o0 ≤ a.val ∧ a.val < o0 + m0) ∧ (o1 ≤ b.val ∧ b.val < o1 + m1) then w (ix2 ⟨a.val - o0, by omega⟩ ⟨b.val - o1, by omega⟩) else x (ix2 a b) := by
  unfold VecWindow.put
  by_cases h : (o0 ≤ a.val ∧ a.val < o0 + m0) ∧ (o1 ≤ b.val ∧ b.val < o1 + m1)
  · rw [dif_pos h, dif_pos (by intro d; fin_cases d; exacts [h.1, h.2])]
    refine congrArg w (funext fun d => ?_)
    fin_cases d <;> rfl
  · rw [dif_neg h, dif_neg fun hd => h ⟨hd 0, hd 1⟩]

/-! ## What the body loads once, at an index -/

section

variable (I : Ins Ideal)

theorem k0_at (κ : Fin 512) (d : Fin 128) : (halves I).k0 (ix2 κ d) = I.k (ix2 κ ⟨d.val, by omega⟩) := by
  unfold halves; pointwise; refine congrArg I.k (funext fun a => ?_); fin_cases a <;> exact Fin.ext (by simp [Rect.emb, Rect.unit])
theorem k1_at (κ : Fin 512) (d : Fin 128) : (halves I).k1 (ix2 κ d) = I.k (ix2 κ ⟨128 + d.val, by omega⟩) := by
  unfold halves; pointwise; refine congrArg I.k (funext fun a => ?_); fin_cases a <;> exact Fin.ext (by simp [Rect.emb, Rect.unit])
theorem kt0_at (d : Fin 128) (κ : Fin 512) : (halves I).kt0 (ix2 d κ) = I.kt (ix2 ⟨d.val, by omega⟩ κ) := by
  unfold halves; pointwise; refine congrArg I.kt (funext fun a => ?_); fin_cases a <;> exact Fin.ext (by simp [Rect.emb, Rect.unit])
theorem kt1_at (d : Fin 128) (κ : Fin 512) : (halves I).kt1 (ix2 d κ) = I.kt (ix2 ⟨128 + d.val, by omega⟩ κ) := by
  unfold halves; pointwise; refine congrArg I.kt (funext fun a => ?_); fin_cases a <;> exact Fin.ext (by simp [Rect.emb, Rect.unit])
theorem v0_at (κ : Fin 512) (d : Fin 64) : (halves I).v0 (ix2 κ d) = I.v (ix2 κ ⟨d.val, by omega⟩) := by
  unfold halves; pointwise; refine congrArg I.v (funext fun a => ?_); fin_cases a <;> exact Fin.ext (by simp [Rect.emb, Rect.unit])
theorem v1_at (κ : Fin 512) (d : Fin 64) : (halves I).v1 (ix2 κ d) = I.v (ix2 κ ⟨64 + d.val, by omega⟩) := by
  unfold halves; pointwise; refine congrArg I.v (funext fun a => ?_); fin_cases a <;> exact Fin.ext (by simp [Rect.emb, Rect.unit])

end

/-- A window of two axes at an index. -/
theorem win2 {α : Type} {n0 n1 m0 m1 : ℕ} (x : (⟨2, ![n0, n1]⟩ : Shape).Idx → α) (o0 o1 : ℕ)
    (inb : ∀ a, (![o0, o1] : Fin 2 → ℕ) a + (⟨2, ![m0, m1]⟩ : Shape).size a ≤ (⟨2, ![n0, n1]⟩ : Shape).size a) (a : Fin m0) (b : Fin m1) :
    win x (Rect.unit (s := ⟨2, ![n0, n1]⟩) ![o0, o1] (⟨2, ![m0, m1]⟩ : Shape).size inb) (ix2 a b)
      = x (ix2 ⟨o0 + a.val, by have h : o0 + m0 ≤ n0 := inb 0; omega⟩ ⟨o1 + b.val, by have h : o1 + m1 ≤ n1 := inb 1; omega⟩) := by
  refine congrArg x (funext fun d => Fin.ext ?_)
  fin_cases d
  · show o0 + 1 * a.val = o0 + a.val; omega
  · show o1 + 1 * b.val = o1 + b.val; omega

/-- A row statistic's window at an index. -/
theorem winStat_at {α : Type} (x : S1x2x8192.Idx → α) (h o : ℕ) (ho : o + 512 ≤ 8192) (hh : h + 1 ≤ 2) (r : Fin 512) :
    win x (statRect h o ho hh) (ix3 0 0 r) = x (ix3 0 ⟨h, by omega⟩ ⟨o + r.val, by omega⟩) := by
  refine congrArg x (funext fun d => Fin.ext ?_)
  fin_cases d
  · rfl
  · show h + 1 * 0 = h; omega
  · show o + 1 * r.val = o + r.val; omega

end Cert.KernelIdeal.Bwd

end
-- ==== Proof.StepReal.lean ====
/-
  A step over the reals: if the grid point's operands are the attention's arrays, each step adds to the three sums the products of the
  probabilities and of the scores' gradients at its 512 queries.
-/
module

public import proofs.«01_k».proof.Proof.StepAt
public import proofs.«01_k».proof.Proof.Attn

@[expose] public section

noncomputable section

namespace Cert.KernelIdeal.Bwd

open Cert.KernelIdeal Cert.KernelIdeal.Facts₀
open Idealize.ShloMosaic Idealize.ShloMosaic.TcCoe
open Cert.Attn (Inp)

/-- The operands of the point of heads `2 * p`, `2 * p + 1` and keys from `512 * j` are those of the attention `A`. -/
structure InsOf (A : Inp) (p j : ℕ) (I : Ins Ideal) : Prop where
  q : ∀ (r : Fin 8192) (a : Fin 256), I.q (ix2 r a) = ((A.q r (2 * p + a.val / 128) (a.val % 128) * A.c / Real.log 2 : ℝ) : EReal)
  qt : ∀ (a : Fin 256) (r : Fin 8192), I.qt (ix2 a r) = ((A.q r (2 * p + a.val / 128) (a.val % 128) * A.c / Real.log 2 : ℝ) : EReal)
  k : ∀ (κ : Fin 512) (a : Fin 256), I.k (ix2 κ a) = ((A.k (512 * j + κ.val) (2 * p + a.val / 128) (a.val % 128) : ℝ) : EReal)
  kt : ∀ (a : Fin 256) (κ : Fin 512), I.kt (ix2 a κ) = ((A.k (512 * j + κ.val) (2 * p + a.val / 128) (a.val % 128) : ℝ) : EReal)
  v : ∀ (κ : Fin 512) (a : Fin 128), I.v (ix2 κ a) = ((A.v (512 * j + κ.val) (2 * p + a.val / 64) (a.val % 64) : ℝ) : EReal)
  od : ∀ (r : Fin 8192) (a : Fin 128), I.od (ix2 r a) = ((A.o r (2 * p + a.val / 64) (a.val % 64) : ℝ) : EReal)
  odt : ∀ (a : Fin 128) (r : Fin 8192), I.odt (ix2 a r) = ((A.o r (2 * p + a.val / 64) (a.val % 64) : ℝ) : EReal)
  lse : ∀ (h : Fin 2) (r : Fin 8192), I.lse (ix3 0 h r)
    = (((A.M (2 * p + h.val) r + Real.log (Attn.Ls A (2 * p + h.val) r)) / Real.log 2 : ℝ) : EReal)
  dl : ∀ (h : Fin 2) (r : Fin 8192), I.dl (ix3 0 h r) = ((Attn.De A (2 * p + h.val) r : ℝ) : EReal)

/-- What the step at the queries from `o` adds to `dv`, `dk` and `dq`. -/
def dvB (A : Inp) (p j o a κ : ℕ) : ℝ :=
  ∑ r ∈ Finset.range 512, A.o (o + r) (2 * p + a / 64) (a % 64) * Attn.P A (2 * p + a / 64) (o + r) (512 * j + κ)
def dkB (A : Inp) (p j o a κ : ℕ) : ℝ :=
  ∑ r ∈ Finset.range 512, A.q (o + r) (2 * p + a / 128) (a % 128) * A.c / Real.log 2 * Attn.G A (2 * p + a / 128) (o + r) (512 * j + κ)
def dqB (A : Inp) (p j a r : ℕ) : ℝ :=
  ∑ κ ∈ Finset.range 512, A.k (512 * j + κ) (2 * p + a / 128) (a % 128) * Attn.G A (2 * p + a / 128) r (512 * j + κ)

variable {A : Inp} {p j : ℕ} {I : Ins Ideal}

/-- The mask goes with the step on the diagonal, and the other steps are past it. -/
def MaskOf (j o : ℕ) (mk : FVec Ideal S512x512 .f32 → FVec Ideal S512x512 .f32) : Prop :=
  mk = masked ∧ o = 512 * j ∨ mk = id ∧ 512 * j + 512 ≤ o

section

variable (hI : InsOf A p j I) (hq0 : ∀ r h d, 96 ≤ d → A.q r h d = 0) (o : ℕ) (ho : o + 512 ≤ 8192) (h : ℕ) (hh : h + 1 ≤ 2)
include hI hq0

/-- The scores over log 2, from the head's keys and queries. -/
theorem score_real {k q : FVec Ideal S512x128 .bf16}
    (hk : ∀ (κ : Fin 512) (d : Fin 128), k (ix2 κ d) = ((A.k (512 * j + κ.val) (2 * p + h) d : ℝ) : EReal))
    (hq : ∀ (r : Fin 512) (d : Fin 128), q (ix2 r d) = ((A.q (o + r.val) (2 * p + h) d * A.c / Real.log 2 : ℝ) : EReal)) (κ r : Fin 512) :
    scoreT (F := Ideal) k q (ix2 κ r) = ((Attn.sc A (2 * p + h) (o + r.val) (512 * j + κ.val) / Real.log 2 : ℝ) : EReal) := by
  rw [scoreT_at, Attn.sum_fin _ (fun d => A.k (512 * j + κ.val) (2 * p + h) d * (A.q (o + r.val) (2 * p + h) d * A.c / Real.log 2))
    fun d => by rw [hk, hq, ← EReal.coe_mul]]
  congr 1
  rw [Attn.sum_pad (m := 96) (by omega) _ fun d hd => by rw [hq0 _ _ _ hd]; ring]
  unfold Attn.sc
  rw [Finset.sum_mul, Finset.sum_div]
  exact Finset.sum_congr rfl fun d _ => by ring

omit hq0 in
/-- The probabilities. -/
theorem p_real {mk : FVec Ideal S512x512 .f32 → FVec Ideal S512x512 .f32} (hm : MaskOf j o mk) {sc : FVec Ideal S512x512 .f32}
    (hs : ∀ κ r : Fin 512, sc (ix2 κ r) = ((Attn.sc A (2 * p + h) (o + r.val) (512 * j + κ.val) / Real.log 2 : ℝ) : EReal)) (κ r : Fin 512) :
    pOf I o ho h hh (mk sc) (ix2 κ r) = ((Attn.P A (2 * p + h) (o + r.val) (512 * j + κ.val) : ℝ) : EReal) := by
  unfold pOf
  rw [probT_at, winStat_at, hI.lse]
  rcases hm with ⟨rfl, e⟩ | ⟨rfl, e⟩
  · rw [masked_at]
    by_cases hc : κ.val ≤ r.val
    · rw [if_pos hc, hs]; exact Attn.exp2_seen A (by omega) (by omega)
    · rw [if_neg hc]; exact Attn.exp2_hidden A (by omega) _
  · rw [id, hs]; exact Attn.exp2_seen A (by omega) (by omega)

omit hq0 in
/-- The gradients of the scores. -/
theorem g_real {sc d : FVec Ideal S512x512 .f32}
    (hp : ∀ κ r : Fin 512, pOf I o ho h hh sc (ix2 κ r) = ((Attn.P A (2 * p + h) (o + r.val) (512 * j + κ.val) : ℝ) : EReal))
    (hd : ∀ κ r : Fin 512, d (ix2 κ r) = ((Attn.Dv A (2 * p + h) (o + r.val) (512 * j + κ.val) : ℝ) : EReal)) (κ r : Fin 512) :
    gOf I o ho h hh sc d (ix2 κ r) = ((Attn.G A (2 * p + h) (o + r.val) (512 * j + κ.val) : ℝ) : EReal) := by
  unfold gOf
  rw [gradT_at, winStat_at, hI.dl, hp, hd, ← EReal.coe_sub, ← EReal.coe_mul]
  rfl

omit hI hq0 in
/-- The values against the output's gradient. -/
theorem dout_real {v d : FVec Ideal S512x64 .bf16}
    (hv : ∀ (κ : Fin 512) (x : Fin 64), v (ix2 κ x) = ((A.v (512 * j + κ.val) (2 * p + h) x : ℝ) : EReal))
    (hd : ∀ (r : Fin 512) (x : Fin 64), d (ix2 r x) = ((A.o (o + r.val) (2 * p + h) x : ℝ) : EReal)) (κ r : Fin 512) :
    doutT (F := Ideal) v d (ix2 κ r) = ((Attn.Dv A (2 * p + h) (o + r.val) (512 * j + κ.val) : ℝ) : EReal) := by
  rw [doutT_at, Attn.sum_fin _ (fun x => A.v (512 * j + κ.val) (2 * p + h) x * A.o (o + r.val) (2 * p + h) x)
    fun d => by rw [hv, hd, ← EReal.coe_mul]]
  congr 1
  exact Finset.sum_congr rfl fun x _ => mul_comm _ _

end

/-! ## One head's half of a step -/

section

variable (hI : InsOf A p j I) (o : ℕ) (ho : o + 512 ≤ 8192) (h : ℕ) (hh : h + 1 ≤ 2) {kt : FVec Ideal S128x512 .bf16} {sc d : FVec Ideal S512x512 .f32}
  (hp : ∀ κ r : Fin 512, pOf I o ho h hh sc (ix2 κ r) = ((Attn.P A (2 * p + h) (o + r.val) (512 * j + κ.val) : ℝ) : EReal))
  (hg : ∀ κ r : Fin 512, gOf I o ho h hh sc d (ix2 κ r) = ((Attn.G A (2 * p + h) (o + r.val) (512 * j + κ.val) : ℝ) : EReal))
  (hkt : ∀ (a : Fin 128) (κ : Fin 512), kt (ix2 a κ) = ((A.k (512 * j + κ.val) (2 * p + h) a : ℝ) : EReal)) (s : St Ideal)

include hI hp in
theorem head_dv (a : Fin 128) (κ : Fin 512) :
    (headSt I o ho h hh kt sc d s).dv (ix2 a κ) = if a.val / 64 = h then s.dv (ix2 a κ) + ((dvB A p j o a κ : ℝ) : EReal) else s.dv (ix2 a κ) := by
  unfold headSt
  refine (put2 (n0 := 128) (n1 := 512) (m0 := 64) (m1 := 512) _ _ _ _ a κ).trans ?_
  by_cases e : a.val / 64 = h
  · rw [dif_pos (by omega), if_pos e, dvAdd_at, win2]
    congr 1
    · congr 1; exact congrArg₂ ix2 (Fin.ext (by show 64 * h + (a.val - 64 * h) = a.val; omega)) (Fin.ext (by show 0 + (κ.val - 0) = κ.val; omega))
    · refine (Attn.sum_fin _ (fun r => A.o (o + r) (2 * p + a.val / 64) (a.val % 64) * Attn.P A (2 * p + a.val / 64) (o + r) (512 * j + κ)) fun r => ?_)
      rw [win2, hI.odt, hp, ← EReal.coe_mul]
      have e1 : (64 * h + (a.val - 64 * h)) / 64 = a.val / 64 := by omega
      have e2 : (64 * h + (a.val - 64 * h)) % 64 = a.val % 64 := by omega
      subst e
      simp only [e1, e2, Nat.sub_zero]
  · rw [dif_neg (by omega), if_neg e]

include hI hg in
theorem head_dk (a : Fin 256) (κ : Fin 512) :
    (headSt I o ho h hh kt sc d s).dk (ix2 a κ) = if a.val / 128 = h then s.dk (ix2 a κ) + ((dkB A p j o a κ : ℝ) : EReal) else s.dk (ix2 a κ) := by
  unfold headSt
  refine (put2 (n0 := 256) (n1 := 512) (m0 := 128) (m1 := 512) _ _ _ _ a κ).trans ?_
  by_cases e : a.val / 128 = h
  · rw [dif_pos (by omega), if_pos e, dkAdd_at, win2]
    congr 1
    · congr 1; exact congrArg₂ ix2 (Fin.ext (by show 128 * h + (a.val - 128 * h) = a.val; omega)) (Fin.ext (by show 0 + (κ.val - 0) = κ.val; omega))
    · refine (Attn.sum_fin _ (fun r => A.q (o + r) (2 * p + a.val / 128) (a.val % 128) * A.c / Real.log 2 * Attn.G A (2 * p + a.val / 128) (o + r) (512 * j + κ)) fun r => ?_)
      rw [win2, hI.qt, hg, ← EReal.coe_mul]
      have e1 : (128 * h + (a.val - 128 * h)) / 128 = a.val / 128 := by omega
      have e2 : (128 * h + (a.val - 128 * h)) % 128 = a.val % 128 := by omega
      subst e
      simp only [e1, e2, Nat.sub_zero]
  · rw [dif_neg (by omega), if_neg e]

include hg hkt in
theorem head_dq (a : Fin 256) (r : Fin 8192) :
    (headSt I o ho h hh kt sc d s).dq (ix2 a r)
      = if a.val / 128 = h ∧ o ≤ r.val ∧ r.val < o + 512 then s.dq (ix2 a r) + ((dqB A p j a r : ℝ) : EReal) else s.dq (ix2 a r) := by
  unfold headSt
  refine (put2 (n0 := 256) (n1 := 8192) (m0 := 128) (m1 := 512) _ _ _ _ a r).trans ?_
  by_cases e : a.val / 128 = h ∧ o ≤ r.val ∧ r.val < o + 512
  · rw [dif_pos (by omega), if_pos e, dqAdd_at, win2]
    congr 1
    · congr 1; exact congrArg₂ ix2 (Fin.ext (by show 128 * h + (a.val - 128 * h) = a.val; omega)) (Fin.ext (by show o + (r.val - o) = r.val; omega))
    · refine (Attn.sum_fin _ (fun κ => A.k (512 * j + κ) (2 * p + a.val / 128) (a.val % 128) * Attn.G A (2 * p + a.val / 128) r (512 * j + κ)) fun κ => ?_)
      rw [hkt, hg, ← EReal.coe_mul]
      have e1 : a.val - 128 * h = a.val % 128 := by omega
      have e2 : o + (r.val - o) = r.val := by omega
      obtain ⟨rfl, -, -⟩ := e
      simp only [e1, e2]
  · rw [dif_neg (by omega), if_neg e]

end

/-! ## A step -/

/-- A step's effect on the three sums. -/
theorem step_real (hI : InsOf A p j I) (hq0 : ∀ r h d, 96 ≤ d → A.q r h d = 0) (o : ℕ) (ho : o + 512 ≤ 8192)
    {mk : FVec Ideal S512x512 .f32 → FVec Ideal S512x512 .f32} (hm : MaskOf j o mk) (s : St Ideal) :
    (∀ (a : Fin 128) (κ : Fin 512), (stepSt I (halves I) mk o ho s).dv (ix2 a κ) = s.dv (ix2 a κ) + ((dvB A p j o a κ : ℝ) : EReal))
    ∧ (∀ (a : Fin 256) (κ : Fin 512), (stepSt I (halves I) mk o ho s).dk (ix2 a κ) = s.dk (ix2 a κ) + ((dkB A p j o a κ : ℝ) : EReal))
    ∧ (∀ (a : Fin 256) (r : Fin 8192), (stepSt I (halves I) mk o ho s).dq (ix2 a r)
        = if o ≤ r.val ∧ r.val < o + 512 then s.dq (ix2 a r) + ((dqB A p j a r : ℝ) : EReal) else s.dq (ix2 a r)) := by
  have d0 : ∀ d : Fin 128, d.val / 128 = 0 ∧ d.val % 128 = d.val := fun d => by omega
  have d1 : ∀ d : Fin 128, (128 + d.val) / 128 = 1 ∧ (128 + d.val) % 128 = d.val := fun d => by omega
  have x0 : ∀ d : Fin 64, d.val / 64 = 0 ∧ d.val % 64 = d.val := fun d => by omega
  have x1 : ∀ d : Fin 64, (64 + d.val) / 64 = 1 ∧ (64 + d.val) % 64 = d.val := fun d => by omega
  -- head 0
  have s0 := score_real (h := 0) hI hq0 o (k := (halves I).k0) (q := win I.q (qRect o 0 ho (by decide)))
    (fun κ d => by rw [k0_at, hI.k]; simp only [(d0 d).1, (d0 d).2]) (fun r d => by rw [win2, hI.q]; simp only [Nat.zero_add, (d0 d).1, (d0 d).2])
  have p0 := p_real hI o ho 0 (by decide) hm s0
  have o0 := dout_real (A := A) (p := p) (j := j) o 0 (v := (halves I).v0) (d := win I.od (odRect o 0 ho (by decide)))
    (fun κ d => by rw [v0_at, hI.v]; simp only [(x0 d).1, (x0 d).2]) (fun r d => by rw [win2, hI.od]; simp only [Nat.zero_add, (x0 d).1, (x0 d).2])
  have g0 := g_real hI o ho 0 (by decide) p0 o0
  have k0 : ∀ (a : Fin 128) (κ : Fin 512), (halves I).kt0 (ix2 a κ) = ((A.k (512 * j + κ.val) (2 * p + 0) a : ℝ) : EReal) :=
    fun a κ => by rw [kt0_at, hI.kt]; simp only [(d0 a).1, (d0 a).2]
  -- head 1
  have s1 := score_real (h := 1) hI hq0 o (k := (halves I).k1) (q := win I.q (qRect o 128 ho (by decide)))
    (fun κ d => by rw [k1_at, hI.k]; simp only [(d1 d).1, (d1 d).2]) (fun r d => by rw [win2, hI.q]; simp only [(d1 d).1, (d1 d).2])
  have p1 := p_real hI o ho 1 (by decide) hm s1
  have o1 := dout_real (A := A) (p := p) (j := j) o 1 (v := (halves I).v1) (d := win I.od (odRect o 64 ho (by decide)))
    (fun κ d => by rw [v1_at, hI.v]; simp only [(x1 d).1, (x1 d).2]) (fun r d => by rw [win2, hI.od]; simp only [(x1 d).1, (x1 d).2])
  have g1 := g_real hI o ho 1 (by decide) p1 o1
  have k1 : ∀ (a : Fin 128) (κ : Fin 512), (halves I).kt1 (ix2 a κ) = ((A.k (512 * j + κ.val) (2 * p + 1) a : ℝ) : EReal) :=
    fun a κ => by rw [kt1_at, hI.kt]; simp only [(d1 a).1, (d1 a).2]
  refine ⟨fun a κ => ?_, fun a κ => ?_, fun a r => ?_⟩
  · unfold stepSt
    rw [head_dv hI o ho 1 (by decide) p1, head_dv hI o ho 0 (by decide) p0]
    by_cases e : a.val / 64 = 1
    · rw [if_pos e, if_neg (by omega)]
    · rw [if_neg e, if_pos (by omega)]
  · unfold stepSt
    rw [head_dk hI o ho 1 (by decide) g1, head_dk hI o ho 0 (by decide) g0]
    by_cases e : a.val / 128 = 1
    · rw [if_pos e, if_neg (by omega)]
    · rw [if_neg e, if_pos (by omega)]
  · unfold stepSt
    rw [head_dq o ho 1 (by decide) g1 k1, head_dq o ho 0 (by decide) g0 k0]
    by_cases e : a.val / 128 = 1
    · simp only [e, true_and, if_neg (show ¬(1 = 0 ∧ o ≤ r.val ∧ r.val < o + 512) by omega)]
    · have e' : a.val / 128 = 0 := by omega
      simp only [e', true_and, if_neg (show ¬(0 = 1 ∧ o ≤ r.val ∧ r.val < o + 512) by omega)]

end Cert.KernelIdeal.Bwd

end
-- ==== Proof.BodyReal.lean ====
/-
  The body over the reals: what a grid point's three sums hold, and `dq` after each point of a row of points.
-/
module

public import proofs.«01_k».proof.Proof.StepReal
public import proofs.«01_k».proof.Proof.Data

@[expose] public section

noncomputable section

namespace Cert.KernelIdeal.Bwd

open Cert.KernelIdeal Cert.KernelIdeal.Facts₀ Cert.KernelIdeal.Gen
open Idealize.ShloMosaic Idealize.ShloMosaic.TcCoe
open Cert.Attn (Inp)

variable {A : Inp} {p : ℕ} {I : Ins Ideal}

/-! ## The blocks of a grid point -/

theorem mem_later : ∀ j b : Fin 16, b ∈ later j ↔ j < b := by decide +kernel
theorem later_nodup : ∀ j : Fin 16, (later j).Nodup := by decide +kernel
theorem split_at : ∀ j : Fin 16, List.finRange 16 = (List.finRange 16).take j.val ++ j :: later j := by decide +kernel
theorem take_lt : ∀ j : Fin 16, ∀ b ∈ (List.finRange 16).take j.val, b < j := by decide +kernel

/-- A sum over the blocks from `j` is one over all blocks, where the blocks before `j` add nothing. -/
theorem sum_from (j : Fin 16) (f : ℕ → ℝ) (hf : ∀ b, b < j.val → f b = 0) : f j + ((later j).map fun b => f b.val).sum = ∑ b ∈ Finset.range 16, f b := by
  rw [Finset.sum_range, Fin.sum_univ_def, split_at j, List.map_append, List.sum_append, List.map_cons, List.sum_cons]
  refine (zero_add _).symm.trans (congrArg (· + _) (List.sum_eq_zero fun x hx => ?_).symm)
  obtain ⟨b, hb, rfl⟩ := List.mem_map.mp hx
  exact hf _ (take_lt j b hb)

/-! ## What a step adds at blocks before the keys: nothing -/

theorem dvB_before {j b : ℕ} (h : b < j) (a κ : ℕ) : dvB A p j (512 * b) a κ = 0 :=
  Finset.sum_eq_zero fun r hr => by have := Finset.mem_range.mp hr; rw [Attn.P_later A (by omega), mul_zero]
theorem dkB_before {j b : ℕ} (h : b < j) (a κ : ℕ) : dkB A p j (512 * b) a κ = 0 :=
  Finset.sum_eq_zero fun r hr => by have := Finset.mem_range.mp hr; rw [Attn.G_later A (by omega), mul_zero]
theorem dqB_before {j r : ℕ} (h : r / 512 < j) (a : ℕ) : dqB A p j a r = 0 :=
  Finset.sum_eq_zero fun κ _ => by rw [Attn.G_later A (by omega), mul_zero]

/-- `dv` and `dk` start at zero. -/
theorem startSt_dv (i : grid0.Coords) (dq : Vec Ideal S256x8192 .f32) : (startSt i dq).dv = zeros (F := Ideal) S128x512 := by unfold startSt; with_reducible rfl
theorem startSt_dk (i : grid0.Coords) (dq : Vec Ideal S256x8192 .f32) : (startSt i dq).dk = zeros (F := Ideal) S256x512 := by unfold startSt; with_reducible rfl

/-! ## The steps after the diagonal -/

section

variable {j : Fin 16} (hI : InsOf A p j.val I) (hq0 : ∀ r h d, 96 ≤ d → A.q r h d = 0)
include hI hq0

/-- The steps at the listed blocks. -/
theorem steps_real (l : List (Fin 16)) (hl : ∀ b ∈ l, j < b) (hn : l.Nodup) (s : St Ideal) :
    (∀ (a : Fin 128) (κ : Fin 512), (stepsSt I (halves I) (l.map rowAt) s).dv (ix2 a κ)
        = s.dv (ix2 a κ) + (((l.map fun b => dvB A p j (512 * b.val) a κ).sum : ℝ) : EReal))
    ∧ (∀ (a : Fin 256) (κ : Fin 512), (stepsSt I (halves I) (l.map rowAt) s).dk (ix2 a κ)
        = s.dk (ix2 a κ) + (((l.map fun b => dkB A p j (512 * b.val) a κ).sum : ℝ) : EReal))
    ∧ (∀ (a : Fin 256) (r : Fin 8192), (stepsSt I (halves I) (l.map rowAt) s).dq (ix2 a r)
        = if (⟨r.val / 512, by omega⟩ : Fin 16) ∈ l then s.dq (ix2 a r) + ((dqB A p j a r : ℝ) : EReal) else s.dq (ix2 a r)) := by
  induction l generalizing s with
  | nil =>
    refine ⟨fun a κ => ?_, fun a κ => ?_, fun a r => ?_⟩
    · simp [stepsSt]
    · simp [stepsSt]
    · simp [stepsSt]
  | cons b l ih =>
    have hb := hl b List.mem_cons_self
    have hnb := List.nodup_cons.mp hn
    obtain ⟨e1, e2, e3⟩ := step_real hI hq0 (rowAt b).1 (rowAt b).2 (mk := id)
      (.inr ⟨rfl, by show 512 * j.val + 512 ≤ 512 * b.val; have : j.val < b.val := hb; omega⟩) s
    obtain ⟨i1, i2, i3⟩ := ih (fun x hx => hl x (List.mem_cons_of_mem _ hx)) hnb.2 (stepSt I (halves I) id (rowAt b).1 (rowAt b).2 s)
    have hc : stepsSt I (halves I) ((b :: l).map rowAt) s = stepsSt I (halves I) (l.map rowAt) (stepSt I (halves I) id (rowAt b).1 (rowAt b).2 s) := rfl
    rw [hc]
    refine ⟨fun a κ => ?_, fun a κ => ?_, fun a r => ?_⟩
    · rw [i1, e1, List.map_cons, List.sum_cons, EReal.coe_add, add_assoc]; rfl
    · rw [i2, e2, List.map_cons, List.sum_cons, EReal.coe_add, add_assoc]; rfl
    · rw [i3, e3]
      have hr : (rowAt b).1 = 512 * b.val := rfl
      by_cases hrb : (⟨r.val / 512, by omega⟩ : Fin 16) = b
      · have hv : r.val / 512 = b.val := congrArg Fin.val hrb
        have h1 : (rowAt b).1 ≤ r.val ∧ r.val < (rowAt b).1 + 512 := by rw [hr]; omega
        simp only [hrb, hnb.1, h1, if_false, List.mem_cons_self, if_true, and_self]
      · have hv : ¬r.val / 512 = b.val := fun e => hrb (Fin.ext e)
        have h1 : ¬((rowAt b).1 ≤ r.val ∧ r.val < (rowAt b).1 + 512) := by rw [hr]; omega
        simp only [h1, if_false, List.mem_cons, hrb, false_or]

/-- The sums of a grid point before the scaling. -/
theorem sum_real (i : grid0.Coords) (hi : blk i = j) (dq : Vec Ideal S256x8192 .f32) :
    (∀ (a : Fin 128) (κ : Fin 512), (sumSt I i dq).dv (ix2 a κ) = ((∑ b ∈ Finset.range 16, dvB A p j (512 * b) a κ : ℝ) : EReal))
    ∧ (∀ (a : Fin 256) (κ : Fin 512), (sumSt I i dq).dk (ix2 a κ) = ((∑ b ∈ Finset.range 16, dkB A p j (512 * b) a κ : ℝ) : EReal))
    ∧ (∀ (a : Fin 256) (r : Fin 8192), (sumSt I i dq).dq (ix2 a r) = (startSt i dq).dq (ix2 a r) + ((dqB A p j a r : ℝ) : EReal)) := by
  subst hi
  obtain ⟨e1, e2, e3⟩ := step_real hI hq0 (rowAt (blk i)).1 (rowAt (blk i)).2 (mk := masked) (.inl ⟨rfl, rfl⟩) (startSt i dq)
  obtain ⟨i1, i2, i3⟩ := steps_real hI hq0 (later (blk i)) (fun b hb => (mem_later _ _).mp hb) (later_nodup _)
    (stepSt I (halves I) masked (rowAt (blk i)).1 (rowAt (blk i)).2 (startSt i dq))
  have z : ∀ {s : Shape} (x : s.Idx), zeros (F := Ideal) s x = (0 : EReal) := fun x => Ideal.ofBits_zero_f32
  have hr : (rowAt (blk i)).1 = 512 * (blk i).val := rfl
  unfold sumSt
  refine ⟨fun a κ => ?_, fun a κ => ?_, fun a r => ?_⟩
  · rw [i1, e1, startSt_dv, z, zero_add, ← EReal.coe_add, hr,
      sum_from (blk i) (fun b => dvB A p (blk i) (512 * b) a κ) fun b hb => dvB_before hb _ _]
  · rw [i2, e2, startSt_dk, z, zero_add, ← EReal.coe_add, hr,
      sum_from (blk i) (fun b => dkB A p (blk i) (512 * b) a κ) fun b hb => dkB_before hb _ _]
  · rw [i3, e3, hr]
    by_cases h1 : r.val / 512 < (blk i).val
    · rw [if_neg (by rw [mem_later]; show ¬ (blk i).val < r.val / 512; omega), if_neg (by omega), dqB_before h1, EReal.coe_zero, add_zero]
    · by_cases h2 : (blk i).val < r.val / 512
      · rw [if_pos (by rw [mem_later]; exact h2), if_neg (by omega)]
      · rw [if_neg (by rw [mem_later]; exact h2), if_pos (by omega)]

/-- The sums that the body leaves. -/
theorem body_real (hc : Ideal.ofBits .f32 0x3DD105EC#32 = ((A.c : ℝ) : EReal)) (i : grid0.Coords) (hi : blk i = j) (dq : Vec Ideal S256x8192 .f32) :
    (∀ (a : Fin 128) (κ : Fin 512), (bodySt I i dq).dv (ix2 a κ) = ((Attn.dv A (2 * p + a.val / 64) (a.val % 64) (512 * j.val + κ.val) : ℝ) : EReal))
    ∧ (∀ (a : Fin 256) (κ : Fin 512), (bodySt I i dq).dk (ix2 a κ) = ((Attn.dk A (2 * p + a.val / 128) (a.val % 128) (512 * j.val + κ.val) : ℝ) : EReal))
    ∧ (∀ (a : Fin 256) (r : Fin 8192), (bodySt I i dq).dq (ix2 a r)
        = ((startSt i dq).dq (ix2 a r) + ((dqB A p j a r : ℝ) : EReal)) * (if isRow i 15#32 = 1#1 then ((A.c : ℝ) : EReal) else 1)) := by
  obtain ⟨e1, e2, e3⟩ := sum_real hI hq0 i hi dq
  have hln : (Named.named Cert.KernelIdeal.κ "ln2" 0x3F317218#32 : Ideal .f32) = ((Real.log 2 : ℝ) : EReal) := rfl
  refine ⟨fun a κ => ?_, fun a κ => ?_, fun a r => ?_⟩
  · refine (e1 a κ).trans (congrArg Real.toEReal ?_)
    unfold Attn.dv dvB
    rw [Attn.sum_blocks]
  · have : (bodySt I i dq).dk (ix2 a κ) = (sumSt I i dq).dk (ix2 a κ) * ((Real.log 2 : ℝ) : EReal) := by
      unfold bodySt scaleSt; pointwise [hln]
    rw [this, e2, ← EReal.coe_mul]
    refine congrArg Real.toEReal ?_
    unfold Attn.dk dkB
    rw [Attn.sum_blocks, Finset.sum_mul]
    refine Finset.sum_congr rfl fun b _ => ?_
    rw [Finset.sum_mul]
    refine Finset.sum_congr rfl fun r _ => ?_
    have := Attn.log2_pos.ne'
    field_simp
  · have : (bodySt I i dq).dq (ix2 a r) = (sumSt I i dq).dq (ix2 a r) * (if isRow i 15#32 = 1#1 then ((A.c : ℝ) : EReal) else 1) := by
      unfold bodySt scaleSt
      by_cases h : isRow i 15#32 = 1#1
      · rw [if_pos h, if_pos h, ← hc]; pointwise
      · rw [if_neg h, if_neg h, mul_one]
    rw [this, e3]

end

/-! ## `dq` along a row of points -/

theorem isRow_iff : ∀ t : Fin grid0.N, (isRow (grid0.coords t) 0#32 = 1#1 ↔ t.val % 16 = 0) ∧ (isRow (grid0.coords t) 15#32 = 1#1 ↔ t.val % 16 = 15)
    ∧ (blk (grid0.coords t)).val = t.val % 16 := by decide +kernel

variable (m : (ℓ : Loc nD τ sig) → Buf (Elt Ideal) ℓ) (c : Dev nD)

/-- The sums of a point are the body's, from some `dq`. -/
theorem stAt_body (n : ℕ) (h : n < cfg0.N) : ∃ dq, stAt m c n h = bodySt (insAt m c ⟨n, h⟩) (grid0.coords ⟨n, h⟩) dq
    ∧ ∀ k (hk : k < cfg0.N), n = k + 1 → dq = (stAt m c k hk).dq := by
  cases n with
  | zero => exact ⟨zeros (F := Ideal) S256x8192, by rw [stAt], fun k _ e => absurd e (Nat.succ_ne_zero k).symm⟩
  | succ n =>
    refine ⟨(stAt m c n (Nat.lt_of_succ_lt h)).dq, by rw [stAt], fun k hk e => ?_⟩
    obtain rfl : n = k := Nat.succ_injective e
    with_reducible rfl

section

variable (hI : ∀ t : Fin cfg0.N, InsOf A (t.val / 16) (t.val % 16) (insAt m c t)) (hq0 : ∀ r h d, 96 ≤ d → A.q r h d = 0)
  (hc : Ideal.ofBits .f32 0x3DD105EC#32 = ((A.c : ℝ) : EReal))
include hI hq0 hc

/-- `dv` and `dk` at a point. -/
theorem stAt_real (n : ℕ) (h : n < cfg0.N) :
    (∀ (a : Fin 128) (κ : Fin 512), (stAt m c n h).dv (ix2 a κ) = ((Attn.dv A (2 * (n / 16) + a.val / 64) (a.val % 64) (512 * (n % 16) + κ.val) : ℝ) : EReal))
    ∧ (∀ (a : Fin 256) (κ : Fin 512), (stAt m c n h).dk (ix2 a κ) = ((Attn.dk A (2 * (n / 16) + a.val / 128) (a.val % 128) (512 * (n % 16) + κ.val) : ℝ) : EReal)) := by
  obtain ⟨d, e, -⟩ := stAt_body m c n h
  obtain ⟨e1, e2, -⟩ := body_real (j := ⟨n % 16, by omega⟩) (hI ⟨n, h⟩) hq0 hc (grid0.coords ⟨n, h⟩) (Fin.ext (isRow_iff ⟨n, h⟩).2.2) d
  rw [e]
  exact ⟨e1, e2⟩

/-- `dq` after point `j` of a row of points. -/
theorem stAt_dq (p : ℕ) (hp : p < 4) (j : ℕ) (hj : j < 16) (h : 16 * p + j < cfg0.N) (a : Fin 256) (r : Fin 8192) :
    (stAt m c (16 * p + j) h).dq (ix2 a r)
      = (((∑ b ∈ Finset.range (j + 1), dqB A p b a r) * (if j = 15 then A.c else 1) : ℝ) : EReal) := by
  induction j with
  | zero =>
    obtain ⟨d, e, -⟩ := stAt_body m c (16 * p + 0) h
    obtain ⟨-, -, e3⟩ := body_real (j := ⟨(16 * p + 0) % 16, by omega⟩) (hI ⟨16 * p + 0, h⟩) hq0 hc (grid0.coords ⟨16 * p + 0, h⟩)
      (Fin.ext (isRow_iff ⟨_, h⟩).2.2) d
    have z : ∀ {s : Shape} (x : s.Idx), zeros (F := Ideal) s x = (0 : EReal) := fun x => Ideal.ofBits_zero_f32
    rw [e, e3, if_neg (by rw [(isRow_iff ⟨_, h⟩).2.1]; show ¬ (16 * p + 0) % 16 = 15; omega)]
    unfold startSt
    rw [if_pos ((isRow_iff ⟨_, h⟩).1.mpr (by show (16 * p + 0) % 16 = 0; omega))]
    dsimp only
    rw [z, zero_add, mul_one, if_neg (by omega), mul_one]
    simp only [show (16 * p + 0) / 16 = p by omega, show (16 * p + 0) % 16 = 0 by omega, zero_add, Finset.sum_range_one]
  | succ j ih =>
    obtain ⟨d, e, ed⟩ := stAt_body m c (16 * p + (j + 1)) h
    obtain ⟨-, -, e3⟩ := body_real (j := ⟨(16 * p + (j + 1)) % 16, by omega⟩) (hI ⟨16 * p + (j + 1), h⟩) hq0 hc (grid0.coords ⟨16 * p + (j + 1), h⟩)
      (Fin.ext (isRow_iff ⟨_, h⟩).2.2) d
    have hk : 16 * p + j < cfg0.N := Nat.lt_of_succ_lt h
    have ed' := ed _ hk rfl
    have := ih (by omega) hk
    rw [if_neg (by omega), mul_one] at this
    rw [e, e3]
    unfold startSt
    rw [if_neg (by rw [(isRow_iff ⟨_, h⟩).1]; show ¬ (16 * p + (j + 1)) % 16 = 0; omega)]
    have hd : d (ix2 a r) = ((∑ b ∈ Finset.range (j + 1), dqB A p b a r : ℝ) : EReal) := by rw [ed']; exact this
    dsimp only
    rw [hd, ← EReal.coe_add]
    have e1 : (16 * p + (j + 1)) / 16 = p := by omega
    have e2 : (16 * p + (j + 1)) % 16 = j + 1 := by omega
    simp only [e1, e2, ← Finset.sum_range_succ]
    have hif : (isRow (grid0.coords ⟨16 * p + (j + 1), h⟩) 15#32 = 1#1) ↔ j + 1 = 15 := by
      rw [(isRow_iff ⟨_, h⟩).2.1]; show (16 * p + (j + 1)) % 16 = 15 ↔ _; omega
    by_cases h15 : j + 1 = 15
    · rw [if_pos (hif.mpr h15), if_pos h15, EReal.coe_mul]
    · rw [if_neg fun x => h15 (hif.mp x), if_neg h15, mul_one, mul_one]

/-- `dq` at the last point of a row of points. -/
theorem stAt_dq_last (p : ℕ) (hp : p < 4) (h : 16 * p + 15 < cfg0.N) (a : Fin 256) (r : Fin 8192) :
    (stAt m c (16 * p + 15) h).dq (ix2 a r) = ((Attn.dq A (2 * p + a.val / 128) (a.val % 128) r : ℝ) : EReal) := by
  refine (stAt_dq m c hI hq0 hc p hp 15 (by omega) h a r).trans (congrArg Real.toEReal ?_)
  rw [if_pos rfl]
  unfold Attn.dq dqB
  rw [Attn.sum_blocks, Finset.sum_mul]
  refine Finset.sum_congr rfl fun b _ => ?_
  rw [Finset.sum_mul]
  exact Finset.sum_congr rfl fun κ _ => by ring

end

end Cert.KernelIdeal.Bwd

end
-- ==== Proof.Arrays.lean ====
/-
  The three arrays that the kernel leaves, over the reals: the gradients of the attention's q, k and v, transposed.
-/
module

public import proofs.«01_k».proof.Proof.BodyReal
public import Idealize.ShloMosaic.Lib.Pipeline.ValueKit

@[expose] public section

noncomputable section

namespace Cert.KernelIdeal.Bwd

open Cert.KernelIdeal Cert.KernelIdeal.Facts₀ Cert.KernelIdeal.Gen
open Idealize.ShloMosaic Idealize.ShloMosaic.TcCoe
open Cert.Attn (Inp)

theorem congrArg₃ {α β γ δ : Type} (f : α → β → γ → δ) {a a' b b' c c'} (h₁ : a = a') (h₂ : b = b') (h₃ : c = c') : f a b c = f a' b' c' := by
  subst h₁ h₂ h₃; rfl

/-- Row `128 * H + d` of the array holds lane `d` of head `H` (64 lanes a head for `dv`). -/
def dqArr (A : Inp) : S1024x8192.Idx → EReal := fun i => ((Attn.dq A ((i 0).val / 128) ((i 0).val % 128) (i 1).val : ℝ) : EReal)
def dkArr (A : Inp) : S1024x8192.Idx → EReal := fun i => ((Attn.dk A ((i 0).val / 128) ((i 0).val % 128) (i 1).val : ℝ) : EReal)
def dvArr (A : Inp) : S512x8192.Idx → EReal := fun i => ((Attn.dv A ((i 0).val / 64) ((i 0).val % 64) (i 1).val : ℝ) : EReal)

theorem index_9 : ∀ t : Fin cfg0.N, (cfg0.win 9).index t = ![t.val / 16, 0] := (by decide +kernel : ∀ t : Fin grid0.N, win0_9.index t = ![t.val / 16, 0])
theorem index_10 : ∀ t : Fin cfg0.N, (cfg0.win 10).index t = ![t.val / 16, t.val % 16] := (by decide +kernel : ∀ t : Fin grid0.N, win0_10.index t = ![t.val / 16, t.val % 16])
theorem index_11 : ∀ t : Fin cfg0.N, (cfg0.win 11).index t = ![t.val / 16, t.val % 16] := (by decide +kernel : ∀ t : Fin grid0.N, win0_11.index t = ![t.val / 16, t.val % 16])

variable {A : Inp} (m : (ℓ : Loc nD τ sig) → Buf (Elt Ideal) ℓ) (c : Dev nD)
  (hI : ∀ t : Fin cfg0.N, InsOf A (t.val / 16) (t.val % 16) (insAt m c t)) (hq0 : ∀ r h d, 96 ≤ d → A.q r h d = 0)
  (hc : Ideal.ofBits .f32 0x3DD105EC#32 = ((A.c : ℝ) : EReal))
include hI hq0 hc

/-- `dq` at the last point of each row of points. -/
theorem last_dq (n : ℕ) (h : n < cfg0.N) (h15 : n % 16 = 15) (a : Fin 256) (r : Fin 8192) :
    (stAt m c n h).dq (ix2 a r) = ((Attn.dq A (2 * (n / 16) + a.val / 128) (a.val % 128) r : ℝ) : EReal) := by
  have h64 : n < 64 := h
  obtain ⟨p, rfl⟩ : ∃ p, n = 16 * p + 15 := ⟨n / 16, by omega⟩
  rw [show (16 * p + 15) / 16 = p by omega]
  exact stAt_dq_last m c hI hq0 hc p (by omega) h a r

/-- The array of `dq`. -/
theorem arr_9 : (dats m 0 c).arrAt 9 cfg0.N = dqArr A := by
  refine (dats m 0 c).arrAt_eq_of_covers 9 _ (by decide +kernel) fun t hf y => ?_
  blk_simp
  rw [after_9]
  have last := last_dq m c hI hq0 hc t.val t.isLt ((flush0_9 t).mp hf)
  have key : ∀ y : S256x8192.Idx, (stAt m c t.val t.isLt).dq y
      = ((Attn.dq A (2 * (t.val / 16) + (y 0).val / 128) ((y 0).val % 128) ((y 1).val) : ℝ) : EReal) := by
    intro y
    have := last (y 0) (y 1)
    rwa [ix2_eta (n0 := 256) (n1 := 8192) y] at this
  refine (key y).trans (congrArg Real.toEReal ?_)
  have e0 : ((((cfg0.win 9).blk t).view.emb y) 0).val = t.val / 16 * 256 + (y 0).val := by
    blk_simp
    rw [show win0_9.index t 0 = t.val / 16 from congrFun (index_9 t) 0]
  have e1 : ((((cfg0.win 9).blk t).view.emb y) 1).val = (y 1).val := by
    blk_simp
    try rw [show win0_9.index t 1 = 0 from congrFun (index_9 t) 1, Nat.zero_mul, Nat.zero_add]
  rw [e0, e1]
  refine congrArg₃ (Attn.dq A) ?_ ?_ ?_ <;> omega

/-- The array of `dk`. -/
theorem arr_10 : (dats m 0 c).arrAt 10 cfg0.N = dkArr A := by
  refine (dats m 0 c).arrAt_eq_of_covers 10 _ (by decide +kernel) fun t hf y => ?_
  blk_simp
  rw [after_10]
  have key : ∀ y : S256x512.Idx, (stAt m c t.val t.isLt).dk y
      = ((Attn.dk A (2 * (t.val / 16) + (y 0).val / 128) ((y 0).val % 128) (512 * (t.val % 16) + (y 1).val) : ℝ) : EReal) := by
    intro y
    have := (stAt_real m c hI hq0 hc t.val t.isLt).2 (y 0) (y 1)
    rwa [ix2_eta (n0 := 256) (n1 := 512) y] at this
  refine (key y).trans (congrArg Real.toEReal ?_)
  have e0 : ((((cfg0.win 10).blk t).view.emb y) 0).val = t.val / 16 * 256 + (y 0).val := by
    blk_simp
    rw [show win0_10.index t 0 = t.val / 16 from congrFun (index_10 t) 0]
  have e1 : ((((cfg0.win 10).blk t).view.emb y) 1).val = t.val % 16 * 512 + (y 1).val := by
    blk_simp
    try rw [show win0_10.index t 1 = t.val % 16 from congrFun (index_10 t) 1]
  rw [e0, e1]
  refine congrArg₃ (Attn.dk A) ?_ ?_ ?_ <;> omega

/-- The array of `dv`. -/
theorem arr_11 : (dats m 0 c).arrAt 11 cfg0.N = dvArr A := by
  refine (dats m 0 c).arrAt_eq_of_covers 11 _ (by decide +kernel) fun t hf y => ?_
  blk_simp
  rw [after_11]
  have key : ∀ y : S128x512.Idx, (stAt m c t.val t.isLt).dv y
      = ((Attn.dv A (2 * (t.val / 16) + (y 0).val / 64) ((y 0).val % 64) (512 * (t.val % 16) + (y 1).val) : ℝ) : EReal) := by
    intro y
    have := (stAt_real m c hI hq0 hc t.val t.isLt).1 (y 0) (y 1)
    rwa [ix2_eta (n0 := 128) (n1 := 512) y] at this
  refine (key y).trans (congrArg Real.toEReal ?_)
  have e0 : ((((cfg0.win 11).blk t).view.emb y) 0).val = t.val / 16 * 128 + (y 0).val := by
    blk_simp
    rw [show win0_11.index t 0 = t.val / 16 from congrFun (index_11 t) 0]
  have e1 : ((((cfg0.win 11).blk t).view.emb y) 1).val = t.val % 16 * 512 + (y 1).val := by
    blk_simp
    try rw [show win0_11.index t 1 = t.val % 16 from congrFun (index_11 t) 1]
  rw [e0, e1]
  refine congrArg₃ (Attn.dv A) ?_ ?_ ?_ <;> omega

end Cert.KernelIdeal.Bwd

end
-- ==== Proof.HostFns.lean ====
/-
  What the host lines before the kernel compute from the masked scores: each query's log of the sum of exponentials over log 2, and its
  sum of the output times the output's gradient; read at an index.
-/
module

public import proofs.«01_k».proof.Proof.Arrays
public import Idealize.ShloMosaic.Lib.Pointwise

@[expose] public section

noncomputable section

namespace Cert.KernelIdeal.Bwd

open Cert.KernelIdeal Cert.KernelIdeal.Facts₀
open Idealize.ShloMosaic Idealize.ShloMosaic.TcCoe

variable (x : FVec Ideal S8x8192x8192 .f32) (l : FVec Ideal S_ .f32) (v o : FVec Ideal S8192x8x64 .f32)

/-- The greatest masked score of each head and query. -/
def maxs : FVec Ideal S8x8192 .f32 := Host.reduce FloatOps.maximumf x (constant S_ .f32 0xFF800000#32) reducesTo_S8x8192x8192_S8x8192_d2 h_S_
def maxs1 (y : FVec Ideal S8x8192 .f32) : FVec Ideal S8x8192x1 .f32 := broadcastInDim S8x8192x1 ![0, 1] bcast_S8x8192_S8x8192x1_0_1 y
/-- The exponentials of the scores less the greatest. -/
def exps : FVec Ideal S8x8192x8192 .f32 :=
  Host.exp (subf x (broadcastInDim S8x8192x8192 ![0, 1, 2] bcast_S8x8192x1_S8x8192x8192_0_1_2 (maxs1 (maxs x))))
def sums : FVec Ideal S8x8192 .f32 := Host.reduceAdd (exps x) (constant S_ .f32 0x00000000#32) reducesTo_S8x8192x8192_S8x8192_d2 h_S_
def probs : FVec Ideal S8x8192x8192 .f32 :=
  Host.divf (exps x) (broadcastInDim S8x8192x8192 ![0, 1, 2] bcast_S8x8192x1_S8x8192x8192_0_1_2 (maxs1 (sums x)))
def outs : FVec Ideal S8x8192x64 .f32 := Host.dotGeneral dot_S8x8192x8192_S8192x8x64_S8x8192x64_2_0_1_2_0_1 none (probs x) v
def lses : FVec Ideal S4x2x8192 .f32 :=
  shapeCast S4x2x8192 (Host.divf (addf (maxs1 (maxs x)) (Host.log (maxs1 (sums x)))) (broadcastInDim S8x8192x1 ![] bcast_S_S8x8192x1 l))
    shapeCasts_S8x8192x1_S4x2x8192
def dels : FVec Ideal S4x2x8192 .f32 :=
  shapeCast S4x2x8192 (Host.reduceAdd (mulf (outs x v) (transpose S8x8192x64 [1, 0, 2] o transposes_S8192x8x64_S8x8192x64_1_0_2))
    (constant S_ .f32 0x00000000#32) reducesTo_S8x8192x64_S8x8192_d2 h_S_) shapeCasts_S8x8192_S4x2x8192

theorem maxs_at (h : Fin 8) (r : Fin 8192) :
    maxs x (ix2 h r) = Finset.univ.fold max (Ideal.ofBits .f32 0xFF800000#32) (fun κ : Fin 8192 => x (ix3 h r κ)) := by
  unfold maxs
  pointwise
theorem exps_at (h : Fin 8) (r κ : Fin 8192) : exps x (ix3 h r κ) = Ideal.exp (x (ix3 h r κ) - maxs x (ix2 h r)) := by
  unfold exps maxs1
  generalize maxs x = y
  pointwise
theorem sums_at (h : Fin 8) (r : Fin 8192) : sums x (ix2 h r) = ∑ κ : Fin 8192, exps x (ix3 h r κ) := by
  unfold sums
  generalize exps x = y
  pointwise
theorem probs_at (h : Fin 8) (r κ : Fin 8192) : probs x (ix3 h r κ) = Ideal.div (exps x (ix3 h r κ)) (sums x (ix2 h r)) := by
  unfold probs maxs1
  generalize exps x = y
  generalize sums x = z
  pointwise
theorem outs_at (h : Fin 8) (r : Fin 8192) (d : Fin 64) : outs x v (ix3 h r d) = ∑ κ : Fin 8192, probs x (ix3 h r κ) * v (ix3 κ h d) := by
  unfold outs
  generalize probs x = y
  pointwise
/-- Head `h` of pair `p`. -/
abbrev headOf (p : Fin 4) (h : Fin 2) : Fin 8 := ⟨p.val * 2 + h.val, by omega⟩

theorem cast_pair (y : FVec Ideal S8x8192x1 .f32) (p : Fin 4) (h : Fin 2) (r : Fin 8192) :
    shapeCast S4x2x8192 y shapeCasts_S8x8192x1_S4x2x8192 (ix3 p h r) = y (ix3 (headOf p h) r 0) := by
  refine shapeCast_apply y _ _ _ ?_
  rw [rowMajor_val3 _ 8192 1 rfl rfl, rowMajor_val3 _ 16384 8192 rfl rfl]
  show (p.val * 2 + h.val) * 8192 + r.val * 1 + 0 = p.val * 16384 + h.val * 8192 + r.val
  omega
theorem maxs1_at (y : FVec Ideal S8x8192 .f32) (h : Fin 8) (r : Fin 8192) (z : Fin 1) : maxs1 y (ix3 h r z) = y (ix2 h r) := by
  unfold maxs1
  pointwise
theorem fill_at (h : Fin 8) (r : Fin 8192) (z : Fin 1) : broadcastInDim S8x8192x1 ![] bcast_S_S8x8192x1 l (ix3 h r z) = l ix0 := by
  pointwise
theorem lsegen (y z : FVec Ideal S8x8192 .f32) (p : Fin 4) (h : Fin 2) (r : Fin 8192) :
    shapeCast S4x2x8192 (Host.divf (addf (maxs1 y) (Host.log (maxs1 z))) (broadcastInDim S8x8192x1 ![] bcast_S_S8x8192x1 l))
    shapeCasts_S8x8192x1_S4x2x8192 (ix3 p h r) = Ideal.div (y (ix2 (headOf p h) r) + Ideal.log (z (ix2 (headOf p h) r))) (l ix0) := by
  rw [cast_pair, ← maxs1_at y (headOf p h) r 0, ← maxs1_at z (headOf p h) r 0, ← fill_at l (headOf p h) r 0]
  generalize maxs1 y = y
  generalize maxs1 z = z
  generalize broadcastInDim S8x8192x1 ![] bcast_S_S8x8192x1 l = w
  pointwise
theorem lses_at (p : Fin 4) (h : Fin 2) (r : Fin 8192) :
    lses x l (ix3 p h r) = Ideal.div (maxs x (ix2 (headOf p h) r) + Ideal.log (sums x (ix2 (headOf p h) r))) (l ix0) := by
  unfold lses
  exact lsegen l (maxs x) (sums x) p h r
theorem dels_at (p : Fin 4) (h : Fin 2) (r : Fin 8192) :
    dels x v o (ix3 p h r) = ∑ d : Fin 64, outs x v (ix3 (headOf p h) r d) * o (ix3 r (headOf p h) d) := by
  unfold dels
  generalize outs x v = y
  pointwise

end Cert.KernelIdeal.Bwd

end
-- ==== Proof.Host.lean ====
/-
  The kernel's operands before the launch, over the reals: what the host lines leave in the nine arrays that the windows read.
-/
module

public import proofs.«01_k».proof.Proof.HostFns
public import proofs.«01_k».proof.Proof.Inputs
public import Idealize.ShloMosaic.Lib.StableHlo.ReadAt

@[expose] public section

noncomputable section

namespace Cert.KernelIdeal.Bwd

open Cert.KernelIdeal Cert.KernelIdeal.Gen
open Idealize.ShloMosaic Idealize.ShloMosaic.TcCoe
open Cert.Attn

/-- The host lines up to the masked scores, and those after. -/
abbrev opsA : List (HloOp τ sig (Elt Ideal)) := List.flatten [hostOps0, hostOps0_1]
abbrev opsB : List (HloOp τ sig (Elt Ideal)) := List.flatten [hostOps0_2, hostOps0_3, hostOps0_4, hostOps0_5, hostOps0_6]

variable (W : Valuation τ sig (Elt Ideal))

theorem tail_26 : StableHlo.after opsB W (Proc.tc.devRef main_v26)
    = lses (W (Proc.tc.devRef main_v11)) (W (Proc.tc.devRef main_v0)) := by
  unfold lses sums exps maxs maxs1
  after_reads_simp
  funext i
  clean_types
  with_reducible rfl
theorem tail_30 : StableHlo.after opsB W (Proc.tc.devRef main_v30)
    = dels (W (Proc.tc.devRef main_v11)) (W (Proc.tc.devRef main_arg2)) (W (Proc.tc.devRef main_arg3)) := by
  unfold dels outs probs sums exps maxs maxs1
  after_reads_simp
  funext i
  clean_types
  with_reducible rfl

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

theorem split_ops : List.flatten [hostOps0 (F := Ideal), hostOps0_1, hostOps0_2, hostOps0_3, hostOps0_4, hostOps0_5, hostOps0_6] = opsA ++ opsB := by
  unfold opsA opsB
  rw [← List.flatten_append]
  rfl

theorem head_arg2 : StableHlo.after opsA W (Proc.tc.devRef main_arg2) = W (Proc.tc.devRef main_arg2) := by
  after_reads_simp
theorem head_arg3 : StableHlo.after opsA W (Proc.tc.devRef main_arg3) = W (Proc.tc.devRef main_arg3) := by
  after_reads_simp
theorem head_0 : (StableHlo.after opsA W (Proc.tc.devRef main_v0) : S_.Idx → EReal) ix0 = Ideal.log (Ideal.ofBits .f32 0x40000000#32) := by
  after_reads_at
/-- The four arguments. -/
def aq : Arr 96 := W (Proc.tc.devRef main_arg0)
def ak : Arr 96 := W (Proc.tc.devRef main_arg1)
def av : Arr 64 := W (Proc.tc.devRef main_arg2)
def ao : Arr 64 := W (Proc.tc.devRef main_arg3)

theorem head_11 (h : Fin 8) (r κ : Fin 8192) : (StableHlo.after opsA W (Proc.tc.devRef main_v11) : S8x8192x8192.Idx → EReal) (ix3 h r κ)
    = Scalar.select (IntOp.cmpi CmpIPredicate.sle (BitVec.ofNat 32 κ) (BitVec.ofNat 32 r))
      ((∑ d : Fin 96, aq W (ix3 r h d) * ak W (ix3 κ h d)) * Ideal.ofBits .f32 0x3DD105EC#32) (Ideal.ofBits .f32 0xFF800000#32) := by
  unfold aq ak
  after_reads_at
  rfl

/-- The attention of the arguments. -/
def att : Inp := inp (aq W) (ak W) (av W) (ao W)

variable (hq : Reals (aq W)) (hk : Reals (ak W)) (hv : Reals (av W)) (ho : Reals (ao W))

/-- The masked scores. -/
theorem select_msc (A : Inp) (H : ℕ) (r κ : Fin 8192) {x : EReal} (hx : x = ((sc A H r κ : ℝ) : EReal)) :
    Scalar.select (IntOp.cmpi CmpIPredicate.sle (BitVec.ofNat 32 κ) (BitVec.ofNat 32 r)) x (Ideal.ofBits .f32 0xFF800000#32) = msc A H r κ := by
  rw [WordCmp.cmpi_sle_ofNat (by omega) (by omega), neg_inf, hx]
  unfold msc
  by_cases h : κ.val ≤ r.val
  · rw [if_pos h, decide_eq_true h]; rfl
  · rw [if_neg h, decide_eq_false h]; rfl

include hq hk in
theorem masked_real (h : Fin 8) (r κ : Fin 8192) :
    (StableHlo.after opsA W (Proc.tc.devRef main_v11) : S8x8192x8192.Idx → EReal) (ix3 h r κ) = msc (att W) h r κ := by
  rw [head_11, scale_eq]
  exact select_msc (att W) h r κ (sc_real hq hk h r κ)

section

variable {A : Inp} {x : FVec Ideal S8x8192x8192 .f32} (hx : ∀ (h : Fin 8) (r κ : Fin 8192), x (ix3 h r κ) = msc (att W) h r κ)
include hx

theorem maxs_real (h : Fin 8) (r : Fin 8192) : maxs x (ix2 h r) = (((att W).M h r : ℝ) : EReal) := by
  rw [maxs_at, neg_inf]
  simp only [hx]
  exact fold_max h r
theorem exps_real (h : Fin 8) (r κ : Fin 8192) : exps x (ix3 h r κ) = ((E (att W) h r κ : ℝ) : EReal) := by
  rw [exps_at, maxs_real W hx, hx, exp_msc]
theorem sums_real (h : Fin 8) (r : Fin 8192) : sums x (ix2 h r) = ((Ls (att W) h r : ℝ) : EReal) := by
  rw [sums_at]
  simp only [exps_real W hx]
  exact sum_exp (att W) h r
theorem probs_real (h : Fin 8) (r κ : Fin 8192) : probs x (ix3 h r κ) = ((P (att W) h r κ : ℝ) : EReal) := by
  rw [probs_at, exps_real W hx, sums_real W hx]
  exact div_sum (att W) h r.isLt κ
theorem lses_real {l : FVec Ideal S_ .f32} (hl : l ix0 = Ideal.log (Ideal.ofBits .f32 0x40000000#32)) (p : Fin 4) (h : Fin 2) (r : Fin 8192) :
    lses x l (ix3 p h r) = ((((att W).M (headOf p h) r + Real.log (Ls (att W) (headOf p h) r)) / Real.log 2 : ℝ) : EReal) := by
  rw [lses_at, hl, maxs_real W hx, sums_real W hx, two_lit, Ideal.log_coe, Ideal.log_coe, if_neg (not_le.mpr (Ls_pos (att W) _ r.isLt)),
    if_neg (by norm_num), ← EReal.coe_add, div_real _ log2_pos.ne']
theorem dels_real {v o : FVec Ideal S8192x8x64 .f32} (hv : ∀ (κ : Fin 8192) (h : Fin 8) (d : Fin 64), v (ix3 κ h d) = (((att W).v κ h d : ℝ) : EReal))
    (ho : ∀ (r : Fin 8192) (h : Fin 8) (d : Fin 64), o (ix3 r h d) = (((att W).o r h d : ℝ) : EReal)) (p : Fin 4) (h : Fin 2) (r : Fin 8192) :
    dels x v o (ix3 p h r) = ((De (att W) (headOf p h) r : ℝ) : EReal) := by
  rw [dels_at]
  have h1 : ∀ d : Fin 64, outs x v (ix3 (headOf p h) r d)
      = ((∑ κ ∈ Finset.range 8192, P (att W) (headOf p h) r κ * (att W).v κ (headOf p h) d : ℝ) : EReal) := by
    intro d
    rw [outs_at]
    exact sum_fin _ (fun κ => P (att W) (headOf p h) r κ * (att W).v κ (headOf p h) d) fun κ => by rw [probs_real W hx, hv, EReal.coe_mul]
  rw [sum_fin _ (fun d => (∑ κ ∈ Finset.range 8192, P (att W) (headOf p h) r κ * (att W).v κ (headOf p h) d) * (att W).o r (headOf p h) d)
    fun d => by rw [h1, ho, EReal.coe_mul]]
  refine congrArg Real.toEReal ?_
  unfold De Dv
  simp only [Finset.sum_mul, Finset.mul_sum]
  rw [Finset.sum_comm]
  exact Finset.sum_congr rfl fun κ _ => Finset.sum_congr rfl fun d _ => by ring

end

end Cert.KernelIdeal.Bwd

end
-- ==== Proof.HostIns.lean ====
/-
  Each grid point's operands are the attention's arrays.
-/
module

public import proofs.«01_k».proof.Proof.Host

@[expose] public section

noncomputable section

namespace Cert.KernelIdeal.Bwd

open Cert.KernelIdeal Cert.KernelIdeal.Gen
open Idealize.ShloMosaic Idealize.ShloMosaic.TcCoe
open Cert.Attn

variable (m : (ℓ : Loc nD τ sig) → Buf (Elt Ideal) ℓ) (c : Dev nD)

/-- The device's buffers at the launch. -/
abbrev bufs : Valuation τ sig (Elt Ideal) := fun b => m (c, b)

variable (hq : Reals (aq (bufs m c))) (hk : Reals (ak (bufs m c))) (hv : Reals (av (bufs m c))) (ho : Reals (ao (bufs m c)))

/-! ## The arrays -/

theorem zero_pad : (FloatOps.sitofp (F := Ideal) .f32 0#32 : EReal) = ((0 : ℝ) : EReal) := by
  simp [FloatOps.sitofp]

/-- A padded array of real entries. -/
theorem pad_real {x : Arr 96} {f : EReal → EReal} {g : ℝ → ℝ} (hx : Reals x) (hf : ∀ y : ℝ, f y = ((g y : ℝ) : EReal)) (hg : g 0 = 0)
    (r : Fin 8192) (a : Fin 1024) :
    (if h : a.val / 128 < 8 ∧ a.val % 128 < 96 then f (x (ix3 r ⟨a.val / 128, h.1⟩ ⟨a.val % 128, h.2⟩)) else FloatOps.sitofp (F := Ideal) .f32 0#32)
      = ((g (ext x r (a.val / 128) (a.val % 128)) : ℝ) : EReal) := by
  split
  · rename_i h
    rw [ext_at hx, hf]
  · rename_i h
    rw [ext_zero x _ _ _ (by omega), hg]
    exact zero_pad

include hq in
theorem V37 (r : Fin 8192) (a : Fin 1024) : (V m c main_v37 : S8192x1024.Idx → EReal) (ix2 r a)
    = (((att (bufs m c)).q r (a.val / 128) (a.val % 128) * (att (bufs m c)).c / Real.log 2 : ℝ) : EReal) := by
  refine Eq.trans ?_ (pad_real (x := aq (bufs m c)) (f := fun y => Ideal.div (y * Ideal.ofBits .f32 0x3DD105EC#32) (Ideal.log (Ideal.ofBits .f32 0x40000000#32)))
    (g := fun y => y * scale / Real.log 2) hq (fun y => ?_) (by rw [zero_mul, zero_div]) r a)
  · unfold V aq
    after_reads_at
  · beta_reduce
    rw [scale_eq, two_lit, Ideal.log_coe, if_neg (by norm_num), ← EReal.coe_mul, div_real _ log2_pos.ne']
include hq in
theorem V45 (r : Fin 8192) (a : Fin 1024) : (V m c main_v45 : S1024x8192.Idx → EReal) (ix2 a r)
    = (((att (bufs m c)).q r (a.val / 128) (a.val % 128) * (att (bufs m c)).c / Real.log 2 : ℝ) : EReal) := by
  refine Eq.trans ?_ (V37 m c hq r a)
  unfold V
  after_reads_at
include hk in
theorem V40 (r : Fin 8192) (a : Fin 1024) : (V m c main_v40 : S8192x1024.Idx → EReal) (ix2 r a)
    = (((att (bufs m c)).k r (a.val / 128) (a.val % 128) : ℝ) : EReal) := by
  refine Eq.trans ?_ (pad_real (x := ak (bufs m c)) (f := fun y => y) (g := fun y => y) hk (fun y => rfl) rfl r a)
  unfold V ak
  after_reads_at
include hk in
theorem V46 (r : Fin 8192) (a : Fin 1024) : (V m c main_v46 : S1024x8192.Idx → EReal) (ix2 a r)
    = (((att (bufs m c)).k r (a.val / 128) (a.val % 128) : ℝ) : EReal) := by
  refine Eq.trans ?_ (V40 m c hk r a)
  unfold V
  after_reads_at
include hv in
theorem V42 (r : Fin 8192) (a : Fin 512) : (V m c main_v42 : S8192x512.Idx → EReal) (ix2 r a)
    = (((att (bufs m c)).v r (a.val / 64) (a.val % 64) : ℝ) : EReal) := by
  refine Eq.trans ?_ (ext_at hv r ⟨a.val / 64, by omega⟩ ⟨a.val % 64, by omega⟩)
  unfold V av
  after_reads_at
include ho in
theorem V44 (r : Fin 8192) (a : Fin 512) : (V m c main_v44 : S8192x512.Idx → EReal) (ix2 r a)
    = (((att (bufs m c)).o r (a.val / 64) (a.val % 64) : ℝ) : EReal) := by
  refine Eq.trans ?_ (ext_at ho r ⟨a.val / 64, by omega⟩ ⟨a.val % 64, by omega⟩)
  unfold V ao
  after_reads_at
include ho in
theorem V47 (r : Fin 8192) (a : Fin 512) : (V m c main_v47 : S512x8192.Idx → EReal) (ix2 a r)
    = (((att (bufs m c)).o r (a.val / 64) (a.val % 64) : ℝ) : EReal) := by
  refine Eq.trans ?_ (V44 m c ho r a)
  unfold V
  after_reads_at
include hq hk in
theorem V26 (p : Fin 4) (h : Fin 2) (r : Fin 8192) : (V m c main_v26 : S4x2x8192.Idx → EReal) (ix3 p h r)
    = ((((att (bufs m c)).M (headOf p h) r + Real.log (Ls (att (bufs m c)) (headOf p h) r)) / Real.log 2 : ℝ) : EReal) := by
  unfold V
  rw [split_ops, after_append, tail_26]
  exact lses_real _ (masked_real _ hq hk) (head_0 _) p h r
include hq hk hv ho in
theorem V30 (p : Fin 4) (h : Fin 2) (r : Fin 8192) : (V m c main_v30 : S4x2x8192.Idx → EReal) (ix3 p h r)
    = ((De (att (bufs m c)) (headOf p h) r : ℝ) : EReal) := by
  unfold V
  rw [split_ops, after_append, tail_30, head_arg2, head_arg3]
  exact dels_real _ (masked_real _ hq hk) (fun κ h d => ext_at hv κ h d) (fun r h d => ext_at ho r h d) p h r

end Cert.KernelIdeal.Bwd

end
-- ==== Proof.Blocks.lean ====
/-
  Each grid point's operands are blocks of the attention's arrays.
-/
module

public import proofs.«01_k».proof.Proof.HostIns
public import proofs.«01_k».proof.Proof.Arrays

@[expose] public section

noncomputable section

namespace Cert.KernelIdeal.Bwd

open Cert.KernelIdeal Cert.KernelIdeal.Gen
open Idealize.ShloMosaic Idealize.ShloMosaic.TcCoe
open Cert.Attn

/-! ## Which block each window gives at a point -/

theorem index_0 : ∀ t : Fin cfg0.N, (cfg0.win 0).index t = ![0, t.val / 16] := (by decide +kernel : ∀ t : Fin grid0.N, win0_0.index t = ![0, t.val / 16])
theorem index_1 : ∀ t : Fin cfg0.N, (cfg0.win 1).index t = ![t.val / 16, 0] := (by decide +kernel : ∀ t : Fin grid0.N, win0_1.index t = ![t.val / 16, 0])
theorem index_2 : ∀ t : Fin cfg0.N, (cfg0.win 2).index t = ![t.val % 16, t.val / 16] := (by decide +kernel : ∀ t : Fin grid0.N, win0_2.index t = ![t.val % 16, t.val / 16])
theorem index_3 : ∀ t : Fin cfg0.N, (cfg0.win 3).index t = ![t.val / 16, t.val % 16] := (by decide +kernel : ∀ t : Fin grid0.N, win0_3.index t = ![t.val / 16, t.val % 16])
theorem index_4 : ∀ t : Fin cfg0.N, (cfg0.win 4).index t = ![t.val % 16, t.val / 16] := (by decide +kernel : ∀ t : Fin grid0.N, win0_4.index t = ![t.val % 16, t.val / 16])
theorem index_5 : ∀ t : Fin cfg0.N, (cfg0.win 5).index t = ![0, t.val / 16] := (by decide +kernel : ∀ t : Fin grid0.N, win0_5.index t = ![0, t.val / 16])
theorem index_6 : ∀ t : Fin cfg0.N, (cfg0.win 6).index t = ![t.val / 16, 0] := (by decide +kernel : ∀ t : Fin grid0.N, win0_6.index t = ![t.val / 16, 0])
theorem index_7 : ∀ t : Fin cfg0.N, (cfg0.win 7).index t = ![t.val / 16, 0, 0] := (by decide +kernel : ∀ t : Fin grid0.N, win0_7.index t = ![t.val / 16, 0, 0])
theorem index_8 : ∀ t : Fin cfg0.N, (cfg0.win 8).index t = ![t.val / 16, 0, 0] := (by decide +kernel : ∀ t : Fin grid0.N, win0_8.index t = ![t.val / 16, 0, 0])

/-! ## Where an entry of a block lies -/

section
variable (t : Fin cfg0.N) (y : (⟨2, ![8192, 256]⟩ : Shape).Idx)
theorem emb_0_0 : (((cfg0.win 0).blk t).view.emb y 0).val = (y 0).val := by
  blk_simp
  try rw [show win0_0.index t 0 = 0 from congrFun (index_0 t) 0]
  try rw [Nat.zero_mul, Nat.zero_add]
theorem emb_0_1 : (((cfg0.win 0).blk t).view.emb y 1).val = t.val / 16 * 256 + (y 1).val := by
  blk_simp
  try rw [show win0_0.index t 1 = t.val / 16 from congrFun (index_0 t) 1]
end
section
variable (t : Fin cfg0.N) (y : (⟨2, ![256, 8192]⟩ : Shape).Idx)
theorem emb_1_0 : (((cfg0.win 1).blk t).view.emb y 0).val = t.val / 16 * 256 + (y 0).val := by
  blk_simp
  try rw [show win0_1.index t 0 = t.val / 16 from congrFun (index_1 t) 0]
theorem emb_1_1 : (((cfg0.win 1).blk t).view.emb y 1).val = (y 1).val := by
  blk_simp
  try rw [show win0_1.index t 1 = 0 from congrFun (index_1 t) 1]
  try rw [Nat.zero_mul, Nat.zero_add]
end
section
variable (t : Fin cfg0.N) (y : (⟨2, ![512, 256]⟩ : Shape).Idx)
theorem emb_2_0 : (((cfg0.win 2).blk t).view.emb y 0).val = t.val % 16 * 512 + (y 0).val := by
  blk_simp
  try rw [show win0_2.index t 0 = t.val % 16 from congrFun (index_2 t) 0]
theorem emb_2_1 : (((cfg0.win 2).blk t).view.emb y 1).val = t.val / 16 * 256 + (y 1).val := by
  blk_simp
  try rw [show win0_2.index t 1 = t.val / 16 from congrFun (index_2 t) 1]
end
section
variable (t : Fin cfg0.N) (y : (⟨2, ![256, 512]⟩ : Shape).Idx)
theorem emb_3_0 : (((cfg0.win 3).blk t).view.emb y 0).val = t.val / 16 * 256 + (y 0).val := by
  blk_simp
  try rw [show win0_3.index t 0 = t.val / 16 from congrFun (index_3 t) 0]
theorem emb_3_1 : (((cfg0.win 3).blk t).view.emb y 1).val = t.val % 16 * 512 + (y 1).val := by
  blk_simp
  try rw [show win0_3.index t 1 = t.val % 16 from congrFun (index_3 t) 1]
end
section
variable (t : Fin cfg0.N) (y : (⟨2, ![512, 128]⟩ : Shape).Idx)
theorem emb_4_0 : (((cfg0.win 4).blk t).view.emb y 0).val = t.val % 16 * 512 + (y 0).val := by
  blk_simp
  try rw [show win0_4.index t 0 = t.val % 16 from congrFun (index_4 t) 0]
theorem emb_4_1 : (((cfg0.win 4).blk t).view.emb y 1).val = t.val / 16 * 128 + (y 1).val := by
  blk_simp
  try rw [show win0_4.index t 1 = t.val / 16 from congrFun (index_4 t) 1]
end
section
variable (t : Fin cfg0.N) (y : (⟨2, ![8192, 128]⟩ : Shape).Idx)
theorem emb_5_0 : (((cfg0.win 5).blk t).view.emb y 0).val = (y 0).val := by
  blk_simp
  try rw [show win0_5.index t 0 = 0 from congrFun (index_5 t) 0]
  try rw [Nat.zero_mul, Nat.zero_add]
theorem emb_5_1 : (((cfg0.win 5).blk t).view.emb y 1).val = t.val / 16 * 128 + (y 1).val := by
  blk_simp
  try rw [show win0_5.index t 1 = t.val / 16 from congrFun (index_5 t) 1]
end
section
variable (t : Fin cfg0.N) (y : (⟨2, ![128, 8192]⟩ : Shape).Idx)
theorem emb_6_0 : (((cfg0.win 6).blk t).view.emb y 0).val = t.val / 16 * 128 + (y 0).val := by
  blk_simp
  try rw [show win0_6.index t 0 = t.val / 16 from congrFun (index_6 t) 0]
theorem emb_6_1 : (((cfg0.win 6).blk t).view.emb y 1).val = (y 1).val := by
  blk_simp
  try rw [show win0_6.index t 1 = 0 from congrFun (index_6 t) 1]
  try rw [Nat.zero_mul, Nat.zero_add]
end
section
variable (t : Fin cfg0.N) (y : (⟨3, ![1, 2, 8192]⟩ : Shape).Idx)
theorem emb_7_0 : (((cfg0.win 7).blk t).view.emb y 0).val = t.val / 16 * 1 + (y 0).val := by
  blk_simp
  try rw [show win0_7.index t 0 = t.val / 16 from congrFun (index_7 t) 0]
theorem emb_7_1 : (((cfg0.win 7).blk t).view.emb y 1).val = (y 1).val := by
  blk_simp
  try rw [show win0_7.index t 1 = 0 from congrFun (index_7 t) 1]
  try rw [Nat.zero_mul, Nat.zero_add]
theorem emb_7_2 : (((cfg0.win 7).blk t).view.emb y 2).val = (y 2).val := by
  blk_simp
  try rw [show win0_7.index t 2 = 0 from congrFun (index_7 t) 2]
  try rw [Nat.zero_mul, Nat.zero_add]
end
section
variable (t : Fin cfg0.N) (y : (⟨3, ![1, 2, 8192]⟩ : Shape).Idx)
theorem emb_8_0 : (((cfg0.win 8).blk t).view.emb y 0).val = t.val / 16 * 1 + (y 0).val := by
  blk_simp
  try rw [show win0_8.index t 0 = t.val / 16 from congrFun (index_8 t) 0]
theorem emb_8_1 : (((cfg0.win 8).blk t).view.emb y 1).val = (y 1).val := by
  blk_simp
  try rw [show win0_8.index t 1 = 0 from congrFun (index_8 t) 1]
  try rw [Nat.zero_mul, Nat.zero_add]
theorem emb_8_2 : (((cfg0.win 8).blk t).view.emb y 2).val = (y 2).val := by
  blk_simp
  try rw [show win0_8.index t 2 = 0 from congrFun (index_8 t) 2]
  try rw [Nat.zero_mul, Nat.zero_add]
end

end Cert.KernelIdeal.Bwd

end
-- ==== Proof.Operands.lean ====
/-
  The operands of each grid point are the attention's, whatever real numbers the arrays hold; so the results are its gradients.
-/
module

public import proofs.«01_k».proof.Proof.Blocks

@[expose] public section

noncomputable section

namespace Cert.KernelIdeal.Bwd

open Cert.KernelIdeal Cert.KernelIdeal.Gen
open Idealize.ShloMosaic Idealize.ShloMosaic.TcCoe
open Cert.Attn

variable (m : (ℓ : Loc nD τ sig) → Buf (Elt Ideal) ℓ) (c : Dev nD)
variable (hq : Reals (aq (bufs m c))) (hk : Reals (ak (bufs m c))) (hv : Reals (av (bufs m c))) (ho : Reals (ao (bufs m c)))

/-- A read of a matrix of rows and lanes, each head `n` lanes, wherever the row, the head and its lane are known. -/
theorem at_row {n0 n1 : ℕ} (n : ℕ) {X : (⟨2, ![n0, n1]⟩ : Shape).Idx → EReal} (f : ℕ → ℕ → ℕ → EReal)
    (h : ∀ r a, X (ix2 r a) = f r.val (a.val / n) (a.val % n))
    (z : (⟨2, ![n0, n1]⟩ : Shape).Idx) (R0 L0 : ℕ) {R H L : ℕ}
    (e0 : (z 0).val = R0) (e1 : (z 1).val = L0) (h0 : R0 = R) (h1 : L0 / n = H) (h2 : L0 % n = L) : X z = f R H L := by
  subst h0 h1 h2 e0 e1
  rw [← h (z 0) (z 1)]
  exact congrArg X (ix2_eta (n0 := n0) (n1 := n1) z).symm
/-- The same of the transposed matrix. -/
theorem at_col {n0 n1 : ℕ} (n : ℕ) {X : (⟨2, ![n0, n1]⟩ : Shape).Idx → EReal} (f : ℕ → ℕ → ℕ → EReal)
    (h : ∀ a r, X (ix2 a r) = f r.val (a.val / n) (a.val % n))
    (z : (⟨2, ![n0, n1]⟩ : Shape).Idx) (R0 L0 : ℕ) {R H L : ℕ}
    (e0 : (z 1).val = R0) (e1 : (z 0).val = L0) (h0 : R0 = R) (h1 : L0 / n = H) (h2 : L0 % n = L) : X z = f R H L := by
  subst h0 h1 h2 e0 e1
  rw [← h (z 0) (z 1)]
  exact congrArg X (ix2_eta (n0 := n0) (n1 := n1) z).symm
/-- A read of an array of pairs of heads and rows. -/
theorem at_pair {n0 n1 n2 : ℕ} {X : (⟨3, ![n0, n1, n2]⟩ : Shape).Idx → EReal} (f : ℕ → ℕ → EReal)
    (h : ∀ p g r, X (ix3 p g r) = f (p.val * 2 + g.val) r.val)
    (z : (⟨3, ![n0, n1, n2]⟩ : Shape).Idx) (P G R : ℕ) {H : ℕ}
    (e0 : (z 0).val = P) (e1 : (z 1).val = G) (e2 : (z 2).val = R) (h0 : P * 2 + G = H) : X z = f H R := by
  subst h0 e0 e1 e2
  rw [← h (z 0) (z 1) (z 2)]
  exact congrArg X (ix3_eta (n0 := n0) (n1 := n1) (n2 := n2) z).symm

include hq in
/-- Operand 0. -/
theorem ins_q (t : Fin cfg0.N) (r : Fin 8192) (a : Fin 256) : (insAt m c t).q (ix2 r a) = (fun r h d => (((att (bufs m c)).q r h d * (att (bufs m c)).c / Real.log 2 : ℝ) : EReal)) r (2 * (t.val / 16) + a.val / 128) (a.val % 128) := by
  exact at_row 128 (fun r h d => (((att (bufs m c)).q r h d * (att (bufs m c)).c / Real.log 2 : ℝ) : EReal)) (V37 m c hq) (((cfg0.win 0).blk t).view.emb (ix2 r a)) r.val (t.val / 16 * 256 + a.val)
    (emb_0_0 t (ix2 r a)) (emb_0_1 t (ix2 r a)) (by omega) (by omega) (by omega)
include hq in
/-- Operand 1. -/
theorem ins_qt (t : Fin cfg0.N) (a : Fin 256) (r : Fin 8192) : (insAt m c t).qt (ix2 a r) = (fun r h d => (((att (bufs m c)).q r h d * (att (bufs m c)).c / Real.log 2 : ℝ) : EReal)) r (2 * (t.val / 16) + a.val / 128) (a.val % 128) := by
  exact at_col 128 (fun r h d => (((att (bufs m c)).q r h d * (att (bufs m c)).c / Real.log 2 : ℝ) : EReal)) (fun a r => V45 m c hq r a) (((cfg0.win 1).blk t).view.emb (ix2 a r)) r.val (t.val / 16 * 256 + a.val)
    (emb_1_1 t (ix2 a r)) (emb_1_0 t (ix2 a r)) (by omega) (by omega) (by omega)
include hk in
/-- Operand 2. -/
theorem ins_k (t : Fin cfg0.N) (κ : Fin 512) (a : Fin 256) : (insAt m c t).k (ix2 κ a) = (fun r h d => (((att (bufs m c)).k r h d : ℝ) : EReal)) (512 * (t.val % 16) + κ.val) (2 * (t.val / 16) + a.val / 128) (a.val % 128) := by
  exact at_row 128 (fun r h d => (((att (bufs m c)).k r h d : ℝ) : EReal)) (V40 m c hk) (((cfg0.win 2).blk t).view.emb (ix2 κ a)) (t.val % 16 * 512 + κ.val) (t.val / 16 * 256 + a.val)
    (emb_2_0 t (ix2 κ a)) (emb_2_1 t (ix2 κ a)) (by omega) (by omega) (by omega)
include hk in
/-- Operand 3. -/
theorem ins_kt (t : Fin cfg0.N) (a : Fin 256) (κ : Fin 512) : (insAt m c t).kt (ix2 a κ) = (fun r h d => (((att (bufs m c)).k r h d : ℝ) : EReal)) (512 * (t.val % 16) + κ.val) (2 * (t.val / 16) + a.val / 128) (a.val % 128) := by
  exact at_col 128 (fun r h d => (((att (bufs m c)).k r h d : ℝ) : EReal)) (fun a r => V46 m c hk r a) (((cfg0.win 3).blk t).view.emb (ix2 a κ)) (t.val % 16 * 512 + κ.val) (t.val / 16 * 256 + a.val)
    (emb_3_1 t (ix2 a κ)) (emb_3_0 t (ix2 a κ)) (by omega) (by omega) (by omega)
include hv in
/-- Operand 4. -/
theorem ins_v (t : Fin cfg0.N) (κ : Fin 512) (a : Fin 128) : (insAt m c t).v (ix2 κ a) = (fun r h d => (((att (bufs m c)).v r h d : ℝ) : EReal)) (512 * (t.val % 16) + κ.val) (2 * (t.val / 16) + a.val / 64) (a.val % 64) := by
  exact at_row 64 (fun r h d => (((att (bufs m c)).v r h d : ℝ) : EReal)) (V42 m c hv) (((cfg0.win 4).blk t).view.emb (ix2 κ a)) (t.val % 16 * 512 + κ.val) (t.val / 16 * 128 + a.val)
    (emb_4_0 t (ix2 κ a)) (emb_4_1 t (ix2 κ a)) (by omega) (by omega) (by omega)
include ho in
/-- Operand 5. -/
theorem ins_od (t : Fin cfg0.N) (r : Fin 8192) (a : Fin 128) : (insAt m c t).od (ix2 r a) = (fun r h d => (((att (bufs m c)).o r h d : ℝ) : EReal)) r (2 * (t.val / 16) + a.val / 64) (a.val % 64) := by
  exact at_row 64 (fun r h d => (((att (bufs m c)).o r h d : ℝ) : EReal)) (V44 m c ho) (((cfg0.win 5).blk t).view.emb (ix2 r a)) r.val (t.val / 16 * 128 + a.val)
    (emb_5_0 t (ix2 r a)) (emb_5_1 t (ix2 r a)) (by omega) (by omega) (by omega)
include ho in
/-- Operand 6. -/
theorem ins_odt (t : Fin cfg0.N) (a : Fin 128) (r : Fin 8192) : (insAt m c t).odt (ix2 a r) = (fun r h d => (((att (bufs m c)).o r h d : ℝ) : EReal)) r (2 * (t.val / 16) + a.val / 64) (a.val % 64) := by
  exact at_col 64 (fun r h d => (((att (bufs m c)).o r h d : ℝ) : EReal)) (fun a r => V47 m c ho r a) (((cfg0.win 6).blk t).view.emb (ix2 a r)) r.val (t.val / 16 * 128 + a.val)
    (emb_6_1 t (ix2 a r)) (emb_6_0 t (ix2 a r)) (by omega) (by omega) (by omega)
include hq hk in
/-- Operand 7. -/
theorem ins_lse (t : Fin cfg0.N) (h : Fin 2) (r : Fin 8192) : (insAt m c t).lse (ix3 0 h r) = (fun H r => ((((att (bufs m c)).M H r + Real.log (Ls (att (bufs m c)) H r)) / Real.log 2 : ℝ) : EReal)) (2 * (t.val / 16) + h.val) r.val := by
  exact at_pair (fun H r => ((((att (bufs m c)).M H r + Real.log (Ls (att (bufs m c)) H r)) / Real.log 2 : ℝ) : EReal)) (V26 m c hq hk) (((cfg0.win 7).blk t).view.emb (ix3 0 h r)) (t.val / 16 * 1 + 0) h.val r.val
    (emb_7_0 t (ix3 0 h r)) (emb_7_1 t (ix3 0 h r)) (emb_7_2 t (ix3 0 h r)) (by omega)
include hq hk hv ho in
/-- Operand 8. -/
theorem ins_dl (t : Fin cfg0.N) (h : Fin 2) (r : Fin 8192) : (insAt m c t).dl (ix3 0 h r) = (fun H r => ((De (att (bufs m c)) H r : ℝ) : EReal)) (2 * (t.val / 16) + h.val) r.val := by
  exact at_pair (fun H r => ((De (att (bufs m c)) H r : ℝ) : EReal)) (V30 m c hq hk hv ho) (((cfg0.win 8).blk t).view.emb (ix3 0 h r)) (t.val / 16 * 1 + 0) h.val r.val
    (emb_8_0 t (ix3 0 h r)) (emb_8_1 t (ix3 0 h r)) (emb_8_2 t (ix3 0 h r)) (by omega)

include hq hk hv ho in
/-- The operands at every point. -/
theorem ins_of (t : Fin cfg0.N) : InsOf (att (bufs m c)) (t.val / 16) (t.val % 16) (insAt m c t) where
  q := ins_q m c hq t
  qt := ins_qt m c hq t
  k := ins_k m c hk t
  kt := ins_kt m c hk t
  v := ins_v m c hv t
  od := ins_od m c ho t
  odt := ins_odt m c ho t
  lse := ins_lse m c hq hk t
  dl := ins_dl m c hq hk hv ho t

include hq hk hv ho in
/-- So the three results are the gradients. -/
theorem results_real : (dats m 0 c).arrAt 9 cfg0.N = dqArr (att (bufs m c)) ∧ (dats m 0 c).arrAt 10 cfg0.N = dkArr (att (bufs m c))
    ∧ (dats m 0 c).arrAt 11 cfg0.N = dvArr (att (bufs m c)) := by
  have hI := ins_of m c hq hk hv ho
  have h0 : ∀ r h d, 96 ≤ d → (att (bufs m c)).q r h d = 0 := fun r h d hd => ext_zero _ r h d hd
  exact ⟨arr_9 m c hI h0 scale_eq, arr_10 m c hI h0 scale_eq, arr_11 m c hI h0 scale_eq⟩

end Cert.KernelIdeal.Bwd

end
-- ==== Proof.RefFns.lean ====
/-
  The reference's operations read at an index, a few at a time.
-/
module

public import proofs.«01_k».proof.Proof.Gen.ReferenceIdeal.Read
public import proofs.«01_k».proof.Proof.Inputs

@[expose] public section

noncomputable section

namespace Cert.ReferenceIdeal.Bwd

open Cert.ReferenceIdeal Cert.ReferenceIdeal.Read
open Idealize.ShloMosaic Idealize.ShloMosaic.TcCoe
open Cert.Attn (Arr)

variable (x0 x1 : Arr 96) (x2 x3 : Arr 64)

/-- The mask and the masked scores. -/
theorem v10_1_at (h : Fin 8) (r κ : Fin 8192) :
    val_main_v10_1 (F := Ideal) (ix3 h r κ) = IntOp.cmpi CmpIPredicate.sle (BitVec.ofNat 32 κ) (BitVec.ofNat 32 r) := by
  unfold val_main_v10_1 val_main_v9 val_main_v8 val_main_v7 val_main_v6 val_main_v5 val_main_v4 val_main_v3
  pointwise
theorem v0_at (h : Fin 8) (r κ : Fin 8192) : val_main_v0 (F := Ideal) x0 x1 (ix3 h r κ) = ∑ d : Fin 96, x0 (ix3 r h d) * x1 (ix3 κ h d) := by
  unfold val_main_v0
  pointwise
theorem v10_0_at (h : Fin 8) (r κ : Fin 8192) : val_main_v10_0 (F := Ideal) x0 x1 (ix3 h r κ)
    = Scalar.select (IntOp.cmpi CmpIPredicate.sle (BitVec.ofNat 32 κ) (BitVec.ofNat 32 r))
      ((∑ d : Fin 96, x0 (ix3 r h d) * x1 (ix3 κ h d)) * Ideal.ofBits .f32 0x3DD105EC#32) (Ideal.ofBits .f32 0xFF800000#32) := by
  rw [← v10_1_at h, ← v0_at]
  unfold val_main_v10_0 val_main_v2 val_main_v1 val_main_call0_v2 val_main_call0_v0 val_main_cst val_main_cst_0
  generalize val_main_v10_1 (F := Ideal) = y
  generalize val_main_v0 (F := Ideal) x0 x1 = z
  pointwise
  rfl
theorem max_at (x : FVec Ideal S8x8192x8192 .f32) (h : Fin 8) (r : Fin 8192) :
    Host.reduce FloatOps.maximumf x (constant S_ .f32 0xFF800000#32) Facts₀.reducesTo_S8x8192x8192_S8x8192_d2 Facts₀.h_S_ (ix2 h r)
      = Finset.univ.fold max (Ideal.ofBits .f32 0xFF800000#32) (fun κ : Fin 8192 => x (ix3 h r κ)) := by
  pointwise
theorem v11_at (h : Fin 8) (r : Fin 8192) : val_main_v11 (F := Ideal) x0 x1 (ix2 h r)
    = Finset.univ.fold max (Ideal.ofBits .f32 0xFF800000#32) (fun κ : Fin 8192 => (val_main_v10_0 (F := Ideal) x0 x1 (ix3 h r κ) : EReal)) := by
  unfold val_main_v11 val_main_cst_1
  exact max_at _ h r
theorem v18_at (h : Fin 8) (r : Fin 8192) : val_main_v18 (F := Ideal) x0 x1 (ix2 h r)
    = max (Ideal.ofBits .f32 0xFF800000#32) (val_main_v11 (F := Ideal) x0 x1 (ix2 h r) : EReal) := by
  rw [val_main_v18_apply, val_main_v17_apply, val_main_cst_3_apply]
  generalize val_main_v11 (F := Ideal) x0 x1 (ix2 h r) = y
  rfl
theorem v31_at (h : Fin 8) (r κ : Fin 8192) : val_main_v31 (F := Ideal) x0 x1 (ix3 h r κ)
    = Ideal.exp (val_main_v10_0 (F := Ideal) x0 x1 (ix3 h r κ) - val_main_v18 (F := Ideal) x0 x1 (ix2 h r)) := by
  unfold val_main_v31 val_main_v30 val_main_v29 val_main_v28
  generalize val_main_v18 (F := Ideal) x0 x1 = y
  generalize val_main_v10_0 (F := Ideal) x0 x1 = z
  pointwise
theorem v32_at (h : Fin 8) (r : Fin 8192) : val_main_v32 (F := Ideal) x0 x1 (ix2 h r)
    = ∑ κ : Fin 8192, val_main_v31 (F := Ideal) x0 x1 (ix3 h r κ) := by
  unfold val_main_v32 val_main_cst_9
  generalize val_main_v31 (F := Ideal) x0 x1 = y
  pointwise
theorem v33_at (h : Fin 8) (r : Fin 8192) (z : Fin 1) : val_main_v33 (F := Ideal) x0 x1 (ix3 h r z) = val_main_v32 (F := Ideal) x0 x1 (ix2 h r) := by
  unfold val_main_v33
  generalize val_main_v32 (F := Ideal) x0 x1 = y
  pointwise
theorem v35_at (h : Fin 8) (r κ : Fin 8192) : val_main_v35 (F := Ideal) x0 x1 (ix3 h r κ)
    = Ideal.div (val_main_v31 (F := Ideal) x0 x1 (ix3 h r κ)) (val_main_v32 (F := Ideal) x0 x1 (ix2 h r)) := by
  rw [← v33_at x0 x1 h r 0]
  unfold val_main_v35 val_main_v34
  generalize val_main_v31 (F := Ideal) x0 x1 = y
  generalize val_main_v33 (F := Ideal) x0 x1 = z
  pointwise
theorem v38_at (h : Fin 8) (r : Fin 8192) (z : Fin 1) : val_main_v38 (F := Ideal) x0 x1 (ix3 h r z)
    = Ideal.div (Ideal.ofBits .f32 0x3F800000#32) (val_main_v32 (F := Ideal) x0 x1 (ix2 h r) * val_main_v32 (F := Ideal) x0 x1 (ix2 h r)) := by
  rw [← v33_at x0 x1 h r z]
  unfold val_main_v38 val_main_v37 val_main_v36 val_main_cst_10
  generalize val_main_v33 (F := Ideal) x0 x1 = z
  pointwise
theorem v42_at (h : Fin 8) (r κ : Fin 8192) : val_main_v42 (F := Ideal) x2 x3 (ix3 h r κ) = ∑ d : Fin 64, x3 (ix3 r h d) * x2 (ix3 κ h d) := by
  unfold val_main_v42 val_main_v41
  pointwise
theorem v43_at (h : Fin 8) (d : Fin 64) (κ : Fin 8192) : val_main_v43 (F := Ideal) x0 x1 x3 (ix3 h d κ)
    = ∑ r : Fin 8192, x3 (ix3 r h d) * val_main_v35 (F := Ideal) x0 x1 (ix3 h r κ) := by
  unfold val_main_v43 val_main_v41
  generalize val_main_v35 (F := Ideal) x0 x1 = y
  pointwise
theorem v47_at (h : Fin 8) (r κ : Fin 8192) : val_main_v47 (F := Ideal) x0 x1 x2 x3 (ix3 h r κ)
    = val_main_v42 (F := Ideal) x2 x3 (ix3 h r κ) * val_main_v38 (F := Ideal) x0 x1 (ix3 h r 0) * val_main_v31 (F := Ideal) x0 x1 (ix3 h r κ) := by
  unfold val_main_v47 val_main_v46 val_main_v45
  generalize val_main_v42 (F := Ideal) x2 x3 = y
  generalize val_main_v38 (F := Ideal) x0 x1 = z
  generalize val_main_v31 (F := Ideal) x0 x1 = w
  pointwise
theorem v48_at (h : Fin 8) (r : Fin 8192) : val_main_v48 (F := Ideal) x0 x1 x2 x3 (ix2 h r)
    = ∑ κ : Fin 8192, val_main_v47 (F := Ideal) x0 x1 x2 x3 (ix3 h r κ) := by
  unfold val_main_v48 val_main_cst_11
  generalize val_main_v47 (F := Ideal) x0 x1 x2 x3 = y
  pointwise

/-- The sum over an axis of length one. -/
theorem v53_at (h : Fin 8) (r : Fin 8192) : val_main_v53 (F := Ideal) x0 x1 x2 x3 (ix2 h r)
    = -(val_main_v48 (F := Ideal) x0 x1 x2 x3 (ix2 h r) : EReal) := by
  have e : idx_main_v49 (idx_main_v53 (ix2 h r) 0) = ix2 h r := by
    funext a
    refine Fin.ext ?_
    match a with
    | ⟨0, _⟩ => show ((h.val * 8192 + r.val) * 1 + 0) / 8192 = h.val; omega
    | ⟨1, _⟩ => show ((h.val * 8192 + r.val) * 1 + 0) % 8192 = r.val; omega
  rw [val_main_v53_apply, Fin.sum_univ_one, val_main_v50_apply, val_main_v49_apply, e, val_main_cst_12_apply]
  generalize val_main_v48 (F := Ideal) x0 x1 x2 x3 (ix2 h r) = y
  show Ideal.ofBits .f32 0x00000000#32 + -(y : EReal) = _
  rw [show Ideal.ofBits .f32 0x00000000#32 = (0 : EReal) by simp [Ideal.ofBits, Ideal.ieee], zero_add]
theorem v56_at (h : Fin 8) (r κ : Fin 8192) : val_main_v56 (F := Ideal) x0 x1 x2 x3 (ix3 h r κ)
    = (Ideal.div (val_main_v42 (F := Ideal) x2 x3 (ix3 h r κ)) (val_main_v32 (F := Ideal) x0 x1 (ix2 h r)) + val_main_v53 (F := Ideal) x0 x1 x2 x3 (ix2 h r))
      * val_main_v31 (F := Ideal) x0 x1 (ix3 h r κ) := by
  rw [← v33_at x0 x1 h r 0]
  unfold val_main_v56 val_main_v55 val_main_v54 val_main_v52 val_main_v51
  generalize val_main_v42 (F := Ideal) x2 x3 = y
  generalize val_main_v33 (F := Ideal) x0 x1 = z
  generalize val_main_v31 (F := Ideal) x0 x1 = w
  generalize val_main_v53 (F := Ideal) x0 x1 x2 x3 = u
  pointwise
theorem v59_at (h : Fin 8) (r κ : Fin 8192) : val_main_v59 (F := Ideal) x0 x1 x2 x3 (ix3 h r κ)
    = Scalar.select (IntOp.cmpi CmpIPredicate.sle (BitVec.ofNat 32 κ) (BitVec.ofNat 32 r)) (val_main_v56 (F := Ideal) x0 x1 x2 x3 (ix3 h r κ))
      (0 : EReal) * Ideal.ofBits .f32 0x3DD105EC#32 := by
  rw [← v10_1_at h]
  unfold val_main_v59 val_main_v58 val_main_v57 val_main_call1_v0 val_main_call1_cst val_main_cst_13
  generalize val_main_v10_1 (F := Ideal) = y
  generalize val_main_v56 (F := Ideal) x0 x1 x2 x3 = z
  pointwise
theorem v60_at (h : Fin 8) (κ : Fin 8192) (d : Fin 96) : val_main_v60 (F := Ideal) x0 x1 x2 x3 (ix3 h κ d)
    = ∑ r : Fin 8192, val_main_v59 (F := Ideal) x0 x1 x2 x3 (ix3 h r κ) * x0 (ix3 r h d) := by
  unfold val_main_v60
  generalize val_main_v59 (F := Ideal) x0 x1 x2 x3 = z
  pointwise
theorem v62_at (h : Fin 8) (r : Fin 8192) (d : Fin 96) : val_main_v62 (F := Ideal) x0 x1 x2 x3 (ix3 h r d)
    = ∑ κ : Fin 8192, val_main_v59 (F := Ideal) x0 x1 x2 x3 (ix3 h r κ) * x1 (ix3 κ h d) := by
  unfold val_main_v62
  generalize val_main_v59 (F := Ideal) x0 x1 x2 x3 = z
  pointwise

/-! ## The results: transposed, padded, rows of heads and lanes -/

theorem v66_at (a : Fin 1024) (r : Fin 8192) : val_main_v66 (F := Ideal) x0 x1 x2 x3 (ix2 a r)
    = if h : a.val / 128 < 8 ∧ a.val % 128 < 96 then val_main_v62 (F := Ideal) x0 x1 x2 x3 (ix3 ⟨a.val / 128, h.1⟩ r ⟨a.val % 128, h.2⟩)
      else FloatOps.sitofp (F := Ideal) .f32 0#32 := by
  unfold val_main_v66 val_main_v65 val_main_v64 val_main_v63 val_main_call2_v0 val_main_c
  generalize val_main_v62 (F := Ideal) x0 x1 x2 x3 = z
  pointwise
theorem v69_at (a : Fin 1024) (r : Fin 8192) : val_main_v69 (F := Ideal) x0 x1 x2 x3 (ix2 a r)
    = if h : a.val / 128 < 8 ∧ a.val % 128 < 96 then val_main_v60 (F := Ideal) x0 x1 x2 x3 (ix3 ⟨a.val / 128, h.1⟩ r ⟨a.val % 128, h.2⟩)
      else FloatOps.sitofp (F := Ideal) .f32 0#32 := by
  unfold val_main_v69 val_main_v68 val_main_v67 val_main_v61 val_main_call3_v0 val_main_c_14
  generalize val_main_v60 (F := Ideal) x0 x1 x2 x3 = z
  pointwise
theorem v72_at (a : Fin 512) (r : Fin 8192) : val_main_v72 (F := Ideal) x0 x1 x3 (ix2 a r)
    = val_main_v43 (F := Ideal) x0 x1 x3 (ix3 ⟨a.val / 64, by omega⟩ ⟨a.val % 64, by omega⟩ r) := by
  unfold val_main_v72 val_main_v71 val_main_v70 val_main_v44 val_main_call4_v0 val_main_c_15
  generalize val_main_v43 (F := Ideal) x0 x1 x3 = z
  pointwise
  exact dif_pos ⟨by omega, by omega⟩

end Cert.ReferenceIdeal.Bwd

end
-- ==== Proof.RefVal.lean ====
/-
  The reference's three results over the reals: they are the attention's gradients.
-/
module

public import proofs.«01_k».proof.Proof.RefFns
public import Idealize.ShloMosaic.Lib.WordCmp

@[expose] public section

noncomputable section

namespace Cert.ReferenceIdeal.Bwd

open Cert.ReferenceIdeal Cert.ReferenceIdeal.Read
open Idealize.ShloMosaic Idealize.ShloMosaic.TcCoe
open Cert.Attn

variable {x0 x1 : Arr 96} {x2 x3 : Arr 64} (h0 : Reals x0) (h1 : Reals x1) (h2 : Reals x2) (h3 : Reals x3)

/-- A choice by the mask. -/
theorem select_mask (r κ : Fin 8192) (x y : EReal) :
    Scalar.select (IntOp.cmpi CmpIPredicate.sle (BitVec.ofNat 32 κ) (BitVec.ofNat 32 r)) x y = if κ.val ≤ r.val then x else y := by
  rw [WordCmp.cmpi_sle_ofNat (by omega) (by omega)]
  by_cases h : κ.val ≤ r.val
  · rw [if_pos h, decide_eq_true h]; rfl
  · rw [if_neg h, decide_eq_false h]; rfl

/-- The padded lanes are zeros. -/
theorem dk_lane (h d κ : ℕ) (hd : 96 ≤ d) : dk (inp x0 x1 x2 x3) h d κ = 0 := by
  unfold dk
  exact Finset.sum_eq_zero fun r _ => by rw [show (inp x0 x1 x2 x3).q r h d = 0 from ext_zero x0 r h d hd, mul_zero]
theorem dq_lane (h d r : ℕ) (hd : 96 ≤ d) : dq (inp x0 x1 x2 x3) h d r = 0 := by
  unfold dq
  exact Finset.sum_eq_zero fun κ _ => by rw [show (inp x0 x1 x2 x3).k κ h d = 0 from ext_zero x1 κ h d hd, mul_zero]

/-- The padding. -/
theorem zero_pad : (FloatOps.sitofp (F := Ideal) .f32 0#32 : EReal) = ((0 : ℝ) : EReal) := by
  simp [FloatOps.sitofp]

section
include h0 h1

theorem v10_0_real (h : Fin 8) (r κ : Fin 8192) : val_main_v10_0 (F := Ideal) x0 x1 (ix3 h r κ) = msc (inp x0 x1 x2 x3) h r κ := by
  rw [v10_0_at, scale_eq, select_mask, neg_inf, sc_real (v := x2) (o := x3) h0 h1]
  rfl
theorem v18_real (h : Fin 8) (r : Fin 8192) : val_main_v18 (F := Ideal) x0 x1 (ix2 h r) = (((inp x0 x1 x2 x3).M h r : ℝ) : EReal) := by
  rw [v18_at, v11_at, neg_inf]
  simp only [v10_0_real (x2 := x2) (x3 := x3) h0 h1]
  rw [fold_max h r]
  exact max_eq_right bot_le
theorem v31_real (h : Fin 8) (r κ : Fin 8192) : val_main_v31 (F := Ideal) x0 x1 (ix3 h r κ) = ((E (inp x0 x1 x2 x3) h r κ : ℝ) : EReal) := by
  rw [v31_at, v18_real (x2 := x2) (x3 := x3) h0 h1, v10_0_real (x2 := x2) (x3 := x3) h0 h1]
  exact exp_msc (inp x0 x1 x2 x3) h r κ
theorem v32_real (h : Fin 8) (r : Fin 8192) : val_main_v32 (F := Ideal) x0 x1 (ix2 h r) = ((Ls (inp x0 x1 x2 x3) h r : ℝ) : EReal) := by
  rw [v32_at]
  simp only [v31_real (x2 := x2) (x3 := x3) h0 h1]
  exact sum_exp (inp x0 x1 x2 x3) h r
theorem v35_real (h : Fin 8) (r κ : Fin 8192) : val_main_v35 (F := Ideal) x0 x1 (ix3 h r κ) = ((P (inp x0 x1 x2 x3) h r κ : ℝ) : EReal) := by
  rw [v35_at, v31_real (x2 := x2) (x3 := x3) h0 h1, v32_real (x2 := x2) (x3 := x3) h0 h1]
  exact div_sum (inp x0 x1 x2 x3) h r.isLt κ
theorem v38_real (h : Fin 8) (r : Fin 8192) (z : Fin 1) : val_main_v38 (F := Ideal) x0 x1 (ix3 h r z)
    = ((1 / (Ls (inp x0 x1 x2 x3) h r * Ls (inp x0 x1 x2 x3) h r) : ℝ) : EReal) := by
  have hl := Ls_pos (inp x0 x1 x2 x3) h r.isLt
  rw [v38_at, v32_real (x2 := x2) (x3 := x3) h0 h1, one_lit, ← EReal.coe_mul, ← EReal.coe_one]
  exact div_real 1 (mul_pos hl hl).ne'

end

include h2 h3 in
theorem v42_real (h : Fin 8) (r κ : Fin 8192) : val_main_v42 (F := Ideal) x2 x3 (ix3 h r κ) = ((Dv (inp x0 x1 x2 x3) h r κ : ℝ) : EReal) := by
  rw [v42_at]
  exact sum_fin _ (fun d => ext x3 r h d * ext x2 κ h d) fun d => by rw [ext_at h3, ext_at h2, EReal.coe_mul]

include h0 h1 h3 in
/-- The gradient of the values. -/
theorem v43_real (h : Fin 8) (d : Fin 64) (κ : Fin 8192) : val_main_v43 (F := Ideal) x0 x1 x3 (ix3 h d κ)
    = ((dv (inp x0 x1 x2 x3) h d κ : ℝ) : EReal) := by
  rw [v43_at]
  exact sum_fin _ (fun r => ext x3 r h d * P (inp x0 x1 x2 x3) h r κ) fun r => by
    rw [ext_at h3, v35_real (x2 := x2) (x3 := x3) h0 h1, EReal.coe_mul]

include h0 h1 h2 h3

/-- The weighted sum that a query's gradient loses. -/
theorem v48_real (h : Fin 8) (r : Fin 8192) : val_main_v48 (F := Ideal) x0 x1 x2 x3 (ix2 h r)
    = ((De (inp x0 x1 x2 x3) h r / Ls (inp x0 x1 x2 x3) h r : ℝ) : EReal) := by
  have hl := (Ls_pos (inp x0 x1 x2 x3) h r.isLt).ne'
  rw [v48_at, sum_fin _ (fun κ => Dv (inp x0 x1 x2 x3) h r κ * (1 / (Ls (inp x0 x1 x2 x3) h r * Ls (inp x0 x1 x2 x3) h r)) * E (inp x0 x1 x2 x3) h r κ)
    fun κ => by rw [v47_at, v42_real (x0 := x0) (x1 := x1) h2 h3, v38_real (x2 := x2) (x3 := x3) h0 h1, v31_real (x2 := x2) (x3 := x3) h0 h1,
      EReal.coe_mul, EReal.coe_mul]]
  refine congrArg Real.toEReal ?_
  unfold De P
  rw [Finset.sum_div]
  exact Finset.sum_congr rfl fun κ _ => by field_simp
/-- The gradient of a score. -/
theorem v56_real (h : Fin 8) (r κ : Fin 8192) : val_main_v56 (F := Ideal) x0 x1 x2 x3 (ix3 h r κ) = ((G (inp x0 x1 x2 x3) h r κ : ℝ) : EReal) := by
  have hl := (Ls_pos (inp x0 x1 x2 x3) h r.isLt).ne'
  rw [v56_at, v53_at, v48_real h0 h1 h2 h3, v42_real (x0 := x0) (x1 := x1) h2 h3, v32_real (x2 := x2) (x3 := x3) h0 h1,
    v31_real (x2 := x2) (x3 := x3) h0 h1, div_real _ hl, ← EReal.coe_neg, ← EReal.coe_add, ← EReal.coe_mul]
  refine congrArg Real.toEReal ?_
  unfold G P
  field_simp
  ring
theorem v59_real (h : Fin 8) (r κ : Fin 8192) : val_main_v59 (F := Ideal) x0 x1 x2 x3 (ix3 h r κ)
    = ((G (inp x0 x1 x2 x3) h r κ * (inp x0 x1 x2 x3).c : ℝ) : EReal) := by
  rw [v59_at, scale_eq, select_mask, v56_real h0 h1 h2 h3, EReal.coe_mul]
  refine congrArg (· * ((scale : ℝ) : EReal)) ?_
  split
  · rfl
  · rename_i hh
    rw [G_later _ (by omega)]
    rfl
/-- The gradients of the keys and of the queries. -/
theorem v60_real (h : Fin 8) (κ : Fin 8192) (d : Fin 96) : val_main_v60 (F := Ideal) x0 x1 x2 x3 (ix3 h κ d)
    = ((dk (inp x0 x1 x2 x3) h d κ : ℝ) : EReal) := by
  rw [v60_at]
  exact sum_fin _ (fun r => G (inp x0 x1 x2 x3) h r κ * (inp x0 x1 x2 x3).c * ext x0 r h d) fun r => by
    rw [ext_at h0, v59_real h0 h1 h2 h3, EReal.coe_mul, EReal.coe_mul, EReal.coe_mul]
theorem v62_real (h : Fin 8) (r : Fin 8192) (d : Fin 96) : val_main_v62 (F := Ideal) x0 x1 x2 x3 (ix3 h r d)
    = ((dq (inp x0 x1 x2 x3) h d r : ℝ) : EReal) := by
  rw [v62_at]
  exact sum_fin _ (fun κ => G (inp x0 x1 x2 x3) h r κ * (inp x0 x1 x2 x3).c * ext x1 κ h d) fun κ => by
    rw [ext_at h1, v59_real h0 h1 h2 h3, EReal.coe_mul, EReal.coe_mul, EReal.coe_mul]

/-- The three results. -/
theorem v66_real (a : Fin 1024) (r : Fin 8192) : val_main_v66 (F := Ideal) x0 x1 x2 x3 (ix2 a r)
    = ((dq (inp x0 x1 x2 x3) (a.val / 128) (a.val % 128) r : ℝ) : EReal) := by
  rw [v66_at]
  split
  · rw [v62_real h0 h1 h2 h3]
  · rw [dq_lane _ _ _ (by omega)]
    exact zero_pad
theorem v69_real (a : Fin 1024) (r : Fin 8192) : val_main_v69 (F := Ideal) x0 x1 x2 x3 (ix2 a r)
    = ((dk (inp x0 x1 x2 x3) (a.val / 128) (a.val % 128) r : ℝ) : EReal) := by
  rw [v69_at]
  split
  · rw [v60_real h0 h1 h2 h3]
  · rw [dk_lane _ _ _ (by omega)]
    exact zero_pad
theorem v72_real (a : Fin 512) (r : Fin 8192) : val_main_v72 (F := Ideal) x0 x1 x3 (ix2 a r)
    = ((dv (inp x0 x1 x2 x3) (a.val / 64) (a.val % 64) r : ℝ) : EReal) := by
  rw [v72_at, v43_real (x2 := x2) h0 h1 h3]

end Cert.ReferenceIdeal.Bwd

end
-- ==== Proof.Values.lean ====
/-
  The kernel's three sums and the reference's three results are the same arrays, the gradients of the attention over the reals.
-/
module

public import proofs.«01_k».proof.Proof.Claims
public import proofs.«01_k».proof.Proof.Finite
public import proofs.«01_k».proof.Proof.Operands
public import proofs.«01_k».proof.Proof.RefVal

@[expose] public section

noncomputable section

namespace Cert.Proof

open Idealize.ShloMosaic Idealize.SL.Sem
open Cert.Attn
open Cert.KernelIdeal.Bwd (bufs att aq ak av ao dqArr dkArr dvArr)

section
variable {x0 x1 : Arr 96} {x2 x3 : Arr 64} (h0 : Reals x0) (h1 : Reals x1) (h2 : Reals x2) (h3 : Reals x3)
include h0 h1 h2 h3

/-- The reference's results as whole arrays. -/
theorem ref_dq : Cert.ReferenceIdeal.Read.val_main_v66 (F := Ideal) x0 x1 x2 x3 = dqArr (inp x0 x1 x2 x3) := by
  funext i
  rw [← ix2_eta (n0 := 1024) (n1 := 8192) i]
  exact Cert.ReferenceIdeal.Bwd.v66_real h0 h1 h2 h3 (i 0) (i 1)
theorem ref_dk : Cert.ReferenceIdeal.Read.val_main_v69 (F := Ideal) x0 x1 x2 x3 = dkArr (inp x0 x1 x2 x3) := by
  funext i
  rw [← ix2_eta (n0 := 1024) (n1 := 8192) i]
  exact Cert.ReferenceIdeal.Bwd.v69_real h0 h1 h2 h3 (i 0) (i 1)
theorem ref_dv : Cert.ReferenceIdeal.Read.val_main_v72 (F := Ideal) x0 x1 x3 = dvArr (inp x0 x1 x2 x3) := by
  funext i
  rw [← ix2_eta (n0 := 512) (n1 := 8192) i]
  exact Cert.ReferenceIdeal.Bwd.v72_real h0 h1 h2 h3 (i 0) (i 1)

end

/-- With finite inputs the idealized kernel and the reference end with the same three arrays. -/
theorem algebraic : Cert.algebraic_KernelIdeal_ReferenceIdeal_pre_finite_inputs (hKernelIdeal := Cert.KernelIdeal.Gen.facts)
    (hReferenceIdeal := Cert.ReferenceIdeal.Gen.facts) (hPre_finite_inputs := pre_facts) := by
  intro m g m' g' hpre hagree
  have hr : ∀ c, Reals (aq (bufs m c)) ∧ Reals (ak (bufs m c)) ∧ Reals (av (bufs m c)) ∧ Reals (ao (bufs m c)) := fun c =>
    finite_real (aq (bufs m c)) (ak (bufs m c)) (av (bufs m c)) (ao (bufs m c)) (hpre c)
  refine ⟨fun c => dqArr (att (bufs m c)), fun c => dkArr (att (bufs m c)), fun c => dvArr (att (bufs m c)), ?_, ?_⟩
  · refine (θ_run _ _ _).mono (fun _ h c => ?_) (Cert.KernelIdeal.Bwd.run (F := Ideal) m g)
    obtain ⟨⟨e0, e1, e2⟩, ha⟩ := h.1 c
    obtain ⟨r0, r1, r2, r3⟩ := hr c
    obtain ⟨f0, f1, f2⟩ := Cert.KernelIdeal.Bwd.results_real m c r0 r1 r2 r3
    exact ⟨e0.trans f0, e1.trans f1, e2.trans f2, ha⟩
  · refine (θ_run _ _ _).mono (fun _ h c => ?_) (Cert.ReferenceIdeal.Value.run (F := Ideal) m' g')
    obtain ⟨e0, e1, e2, ha⟩ := h c
    obtain ⟨r0, r1, r2, r3⟩ := hr c
    obtain ⟨a0, a1, a2, a3⟩ := hagree c
    rw [Cert.ReferenceIdeal.Read.val_main_v66_eq, a0, a1, a2, a3] at e0
    rw [Cert.ReferenceIdeal.Read.val_main_v69_eq, a0, a1, a2, a3] at e1
    rw [Cert.ReferenceIdeal.Read.val_main_v72_eq, a0, a1, a3] at e2
    exact ⟨e0.trans (ref_dq r0 r1 r2 r3), e1.trans (ref_dk r0 r1 r2 r3), e2.trans (ref_dv r0 r1 r2 r3), ha⟩

end Cert.Proof

end
-- ==== Proof.Proj.Body.lean ====
/-
  The second call, the gradient of a layer's norm and input projection: what its body leaves at each grid point.
-/
module

public import proofs.«01_k».proof.Proof.Gen.Kernel2Ideal.Value
public import Idealize.ShloMosaic.Lib.Pipeline.ValueKit
public import Idealize.ShloMosaic.Lib.Tactic

@[expose] public section

noncomputable section

namespace Cert.Kernel2Ideal.Proj

open Cert.Kernel2Ideal Cert.Kernel2Ideal.Gen
open Idealize.ShloMosaic Idealize.ShloMosaic.TcCoe

variable {F : FTy → Type} [FloatOps F]

/-- The blocks that a grid point reads: the five pieces of the projections' gradient, `x`, the gain, the weights and the
gradient that passes the layer by. -/
structure Blk (F : FTy → Type) where
  p0 : Vec F S512x1536 .bf16
  p1 : Vec F S512x1536 .bf16
  p2 : Vec F S512x512 .bf16
  p3 : Vec F S512x512 .bf16
  p4 : Vec F S512x256 .bf16
  x : Vec F S512x1024 .f32
  g : Vec F S1x1024 .f32
  w : Vec F S1024x4352 .bf16
  r : Vec F S512x1024 .f32

/-- The gradient of the normalized rows: the sum of the five products with the weights' columns. -/
def dh (b : Blk F) : FVec F S512x1024 .f32 :=
  k0_pay6 b.p0 (View.ld b.w (Rect.unit (s := S1024x4352) ![0, 0] S1024x1536.size inb_S1024x4352_S1024x1536_0_0))
    b.p1 (View.ld b.w (Rect.unit (s := S1024x4352) ![0, 1536] S1024x1536.size inb_S1024x4352_S1024x1536_0_1536))
    b.p2 (View.ld b.w (Rect.unit (s := S1024x4352) ![0, 3072] S1024x512.size inb_S1024x4352_S1024x512_0_3072))
    b.p3 (View.ld b.w (Rect.unit (s := S1024x4352) ![0, 3584] S1024x512.size inb_S1024x4352_S1024x512_0_3584))
    b.p4 (View.ld b.w (Rect.unit (s := S1024x4352) ![0, 4096] S1024x256.size inb_S1024x4352_S1024x256_0_4096))

/-- The block of the gradient of `x`. -/
def dx (b : Blk F) : FVec F S512x1024 .f32 := k0_pay3 (dh b) b.x b.g (k0_pay7 b.x) k0_pay8 b.r

/-- What is added to the gradient of the gain, over what it was. -/
def dg (b : Blk F) (old : Vec F S1x1024 .f32) : FVec F S1x1024 .f32 := k0_pay5 (dh b) b.x (k0_pay7 b.x) k0_pay8 old

/-- The blocks of grid point `t`. -/
def blkAt (m : (ℓ : Loc nD τ sig) → Buf (Elt F) ℓ) (c : Dev nD) (t : Fin cfg0.N) : Blk F :=
  ⟨iblk m c 0 t, iblk m c 1 t, iblk m c 2 t, iblk m c 3 t, iblk m c 4 t, iblk m c 5 t, iblk m c 6 t, iblk m c 7 t, iblk m c 8 t⟩

theorem zeros : (![0, 0] : Fin 2 → Nat) = fun _ => 0 := funext fun a => by fin_cases a <;> rfl

variable (m : (ℓ : Loc nD τ sig) → Buf (Elt F) ℓ) (c : Dev nD)

/-- After the first point: its block of the gradient of `x`, and its part of the gain's over zeros. -/
theorem outs_first (t : Fin cfg0.N) (h0 : t.val % 16 = 0) :
    outsAt0 m c t.val t.isLt = (dx (blkAt m c t), dg (blkAt m c t) (k0_pay4 (F := F))) := by
  rw [outsAt0_A m c t h0]
  refine Prod.ext ?_ ?_
  · dsimp only
    unfold out0_A_9
    rw [View.read_writes_eq_canon _ _ _ (cover0_A_9 _ _ _ _ _ _ _ _ _ _ _ _ _ _ _ _ _ _ _ _ _ _ _ _ _ _ _ _ _ _ _ _ _ _)]
    unfold kernelRun0_A
    dsimp only
    sl_unfold_words
    rw [View.canon_unit_zero zeros]
    simp only [View.readAt_eq_ld, Memref.IsWhole.read_unread, View.ld_unit_zero (S := S512x1024) zeros,
      View.ld_unit_zero (S := S512x1536) zeros, View.ld_unit_zero (S := S512x512) zeros, View.ld_unit_zero (S := S512x256) zeros,
      View.ld_unit_zero (S := S1x1024) zeros]
    rfl
  · dsimp only
    unfold out0_A_10
    rw [View.read_writes_eq_canon _ _ _ (cover0_A_10 _ _ _ _ _ _ _ _ _ _ _ _ _ _ _ _ _ _ _ _ _ _ _ _ _ _ _ _ _ _ _ _ _ _)]
    unfold kernelRun0_A
    dsimp only
    sl_unfold_words
    rw [View.canon_cons_unit_zero (S := S1x1024) zeros, View.readCov_unit_zero (S := S1x1024) _ zeros]
    simp only [View.readAt_eq_ld, Memref.IsWhole.read_unread, View.ld_unit_zero (S := S512x1024) zeros,
      View.ld_unit_zero (S := S512x1536) zeros, View.ld_unit_zero (S := S512x512) zeros, View.ld_unit_zero (S := S512x256) zeros,
      View.ld_unit_zero (S := S1x1024) zeros]
    rfl

/-- After a later point: its block, and its part over what the point before left. -/
theorem outs_later (t : Fin cfg0.N) (h0 : ¬t.val % 16 = 0) :
    outsAt0 m c t.val t.isLt = (dx (blkAt m c t),
      dg (blkAt m c t) (outsAt0 m c (t.val - 1) (Nat.lt_of_le_of_lt (Nat.sub_le _ _) t.isLt)).2) := by
  rw [outsAt0_B m c t h0]
  generalize (outsAt0 m c (t.val - 1) (Nat.lt_of_le_of_lt (Nat.sub_le _ _) t.isLt)).2 = old
  refine Prod.ext ?_ ?_
  · dsimp only
    unfold out0_B_9
    rw [View.read_writes_eq_canon _ _ _ (cover0_B_9 _ _ _ _ _ _ _ _ _ _ _ _ _ _ _ _ _ _ _ _ _ _ _ _ _ _ _ _ _ _ _ _ _ _ _)]
    unfold kernelRun0_B
    dsimp only
    sl_unfold_words
    rw [View.canon_unit_zero zeros]
    simp only [View.readAt_eq_ld, Memref.IsWhole.read_unread, View.ld_unit_zero (S := S512x1024) zeros,
      View.ld_unit_zero (S := S512x1536) zeros, View.ld_unit_zero (S := S512x512) zeros, View.ld_unit_zero (S := S512x256) zeros,
      View.ld_unit_zero (S := S1x1024) zeros]
    rfl
  · dsimp only
    unfold out0_B_10
    rw [View.read_writes_eq_canon _ _ _ (cover0_B_10 _ _ _ _ _ _ _ _ _ _ _ _ _ _ _ _ _ _ _ _ _ _ _ _ _ _ _ _ _ _ _ _ _ _ _)]
    unfold kernelRun0_B
    dsimp only
    sl_unfold_words
    rw [View.canon_unit_zero zeros]
    simp only [View.readAt_eq_ld, Memref.IsWhole.read_unread, View.ld_unit_zero (S := S512x1024) zeros,
      View.ld_unit_zero (S := S512x1536) zeros, View.ld_unit_zero (S := S512x512) zeros, View.ld_unit_zero (S := S512x256) zeros,
      View.ld_unit_zero (S := S1x1024) zeros]
    rfl

end Cert.Kernel2Ideal.Proj

end
-- ==== Proof.Proj.Tile.lean ====
/-
  What a grid point of the second call computes, read at an index, over the extended reals.
-/
module

public import proofs.«01_k».proof.Proof.Proj.Body
public import Idealize.ShloMosaic.Lib.Pointwise

@[expose] public section

noncomputable section

namespace Cert.Kernel2Ideal.Proj

open Cert.Kernel2Ideal Cert.Kernel2Ideal.Gen
open Idealize.ShloMosaic Idealize.ShloMosaic.TcCoe

/-- The value of a constant. -/
abbrev num (b : BitVec 32) : EReal := Scalar.ofBits (F := Ideal) .f32 b

/-- The mean square of a row and the small constant. -/
def den (x : Fin 1024 → EReal) : EReal := (∑ k, x k * x k) * num 0x3A800000#32 + num 0x358637BD#32

/-- The row's scale. -/
def scale (x : Fin 1024 → EReal) : EReal := Ideal.rsqrt (den x)

/-- The part of a row's gradient that goes through its scale. -/
def thru (x g d : Fin 1024 → EReal) : EReal :=
  (∑ k, x k * (d k * g k)) * (num 0xBF000000#32 * Ideal.div (scale x) (den x)) * num 0x3A800000#32

/-- The gradient of a row, given that of its normalized form, and what passes by. -/
def rowGrad (x g d : Fin 1024 → EReal) (r : EReal) (k : Fin 1024) : EReal :=
  d k * g k * scale x + x k * thru x g d + thru x g d * x k + r

/-- The mean square of a row and the small constant, as the body computes them. -/
theorem sq_at (x : Vec Ideal S512x1024 .f32) (i : Fin 512) :
    k0_pay1 (k0_pay7 (F := Ideal) x) k0_pay8 (ix2 i 0) = den fun k => x (ix2 i k) := by
  pointwise [k0_pay1, k0_pay7, k0_pay8]
  rfl

/-- The row's scale, as the body computes it. -/
theorem scale_at (x : Vec Ideal S512x1024 .f32) (i : Fin 512) :
    k0_pay2 (k0_pay7 (F := Ideal) x) k0_pay8 (ix2 i 0) = scale fun k => x (ix2 i k) := by
  show Ideal.rsqrt (k0_pay1 (k0_pay7 (F := Ideal) x) k0_pay8 (ix2 i 0)) = _
  rw [sq_at]
  rfl

/-- The gradient of the normalized rows. -/
theorem dh_at (b : Blk Ideal) (i : Fin 512) (j : Fin 1024) :
    dh b (ix2 i j) = (∑ k : Fin 1536, b.p0 (ix2 i k) * b.w (ix2 j ⟨k.val, by omega⟩))
      + (∑ k : Fin 1536, b.p1 (ix2 i k) * b.w (ix2 j ⟨1536 + k.val, by omega⟩))
      + (∑ k : Fin 512, b.p2 (ix2 i k) * b.w (ix2 j ⟨3072 + k.val, by omega⟩))
      + (∑ k : Fin 512, b.p3 (ix2 i k) * b.w (ix2 j ⟨3584 + k.val, by omega⟩))
      + (∑ k : Fin 256, b.p4 (ix2 i k) * b.w (ix2 j ⟨4096 + k.val, by omega⟩)) := by
  pointwise [dh, k0_pay6]

/-- The gradient of a row of `x`. -/
theorem row_at (d : FVec Ideal S512x1024 .f32) (x : Vec Ideal S512x1024 .f32) (g : Vec Ideal S1x1024 .f32) (r : Vec Ideal S512x1024 .f32)
    (i : Fin 512) (j : Fin 1024) :
    k0_pay3 d x g (k0_pay7 x) k0_pay8 r (ix2 i j)
      = rowGrad (fun k => x (ix2 i k)) (fun k => g (ix2 0 k)) (fun k => d (ix2 i k)) (r (ix2 i j)) j := by
  unfold k0_pay3
  pointwise
  simp only [Finset.univ_unique, Finset.sum_singleton]
  rw [show (default : Fin 1) = 0 from rfl, scale_at, sq_at]
  rfl

/-- What the point's rows add to the gradient of the gain. -/
theorem gain_at (d : FVec Ideal S512x1024 .f32) (x : Vec Ideal S512x1024 .f32) (old : Vec Ideal S1x1024 .f32) (j : Fin 1024) :
    k0_pay5 d x (k0_pay7 x) k0_pay8 old (ix2 0 j)
      = old (ix2 0 j) + ∑ i : Fin 512, x (ix2 i j) * scale (fun k => x (ix2 i k)) * d (ix2 i j) := by
  unfold k0_pay5
  pointwise
  simp only [scale_at]

/-- The gain's gradient starts at zero. -/
theorem start_at (j : Fin 1024) : k0_pay4 (F := Ideal) (ix2 0 j) = 0 := by
  pointwise [k0_pay4]

end Cert.Kernel2Ideal.Proj

end
-- ==== Proof.Proj.Arrays.lean ====
/-
  The two arrays that the second call leaves: the gradient of `x` and the gradient of the gain.
-/
module

public import proofs.«01_k».proof.Proof.Proj.Tile

@[expose] public section

noncomputable section

namespace Cert.Kernel2Ideal.Proj

open Cert.Kernel2Ideal Cert.Kernel2Ideal.Gen
open Idealize.ShloMosaic Idealize.ShloMosaic.TcCoe

/-- The arguments of the second call. -/
structure Args where
  p0 : S8192x1536.Idx → EReal
  p1 : S8192x1536.Idx → EReal
  p2 : S8192x512.Idx → EReal
  p3 : S8192x512.Idx → EReal
  p4 : S8192x256.Idx → EReal
  x : S8192x1024.Idx → EReal
  g : S1x1024.Idx → EReal
  w : S1024x4352.Idx → EReal
  r : S8192x1024.Idx → EReal

/-- The gradient of the normalized rows. -/
def dhat (A : Args) (i : Fin 8192) (j : Fin 1024) : EReal :=
  (∑ k : Fin 1536, A.p0 (ix2 i k) * A.w (ix2 j ⟨k.val, by omega⟩))
    + (∑ k : Fin 1536, A.p1 (ix2 i k) * A.w (ix2 j ⟨1536 + k.val, by omega⟩))
    + (∑ k : Fin 512, A.p2 (ix2 i k) * A.w (ix2 j ⟨3072 + k.val, by omega⟩))
    + (∑ k : Fin 512, A.p3 (ix2 i k) * A.w (ix2 j ⟨3584 + k.val, by omega⟩))
    + (∑ k : Fin 256, A.p4 (ix2 i k) * A.w (ix2 j ⟨4096 + k.val, by omega⟩))

/-- The gradient of `x`. -/
def dxAt (A : Args) (i : Fin 8192) (j : Fin 1024) : EReal :=
  rowGrad (fun k => A.x (ix2 i k)) (fun k => A.g (ix2 0 k)) (fun k => dhat A i k) (A.r (ix2 i j)) j

/-- What row `i` adds to the gradient of the gain. -/
def gainAt (A : Args) (i : Fin 8192) (j : Fin 1024) : EReal :=
  A.x (ix2 i j) * scale (fun k => A.x (ix2 i k)) * dhat A i j

/-- The same over all numbers: nothing past the last row. -/
def gainNat (A : Args) (j : Fin 1024) (n : ℕ) : EReal := if h : n < 8192 then gainAt A ⟨n, h⟩ j else 0

/-- The whole gradient of `x`. -/
def dxArr (A : Args) : S8192x1024.Idx → EReal := fun i => dxAt A (i 0) (i 1)

/-- The whole gradient of the gain: every row's part. -/
def dgArr (A : Args) : S1x1024.Idx → EReal := fun i => ∑ n : Fin 8192, gainAt A n (i 1)

/-- Row `i` of point `t`'s block. -/
abbrev rowOf (t : Fin cfg0.N) (i : Fin 512) : Fin 8192 := ⟨512 * t.val + i.val, by have h : t.val < 16 := t.isLt; omega⟩

/-- A point's blocks are the rows `512 t` to `512 t + 511`, and the gain and the weights whole. -/
structure BlkOf (A : Args) (t : Fin cfg0.N) (b : Blk Ideal) : Prop where
  p0 : ∀ i k, b.p0 (ix2 i k) = A.p0 (ix2 (rowOf t i) k)
  p1 : ∀ i k, b.p1 (ix2 i k) = A.p1 (ix2 (rowOf t i) k)
  p2 : ∀ i k, b.p2 (ix2 i k) = A.p2 (ix2 (rowOf t i) k)
  p3 : ∀ i k, b.p3 (ix2 i k) = A.p3 (ix2 (rowOf t i) k)
  p4 : ∀ i k, b.p4 (ix2 i k) = A.p4 (ix2 (rowOf t i) k)
  x : ∀ i k, b.x (ix2 i k) = A.x (ix2 (rowOf t i) k)
  g : ∀ k, b.g (ix2 0 k) = A.g (ix2 0 k)
  w : ∀ j k, b.w (ix2 j k) = A.w (ix2 j k)
  r : ∀ i k, b.r (ix2 i k) = A.r (ix2 (rowOf t i) k)

variable {A : Args} {t : Fin cfg0.N} {b : Blk Ideal}

theorem dh_of (hb : BlkOf A t b) (i : Fin 512) (j : Fin 1024) : dh b (ix2 i j) = dhat A (rowOf t i) j := by
  rw [dh_at]
  simp only [hb.p0, hb.p1, hb.p2, hb.p3, hb.p4, hb.w]
  rfl

theorem dx_of (hb : BlkOf A t b) (i : Fin 512) (j : Fin 1024) : dx b (ix2 i j) = dxAt A (rowOf t i) j := by
  unfold dx
  rw [row_at]
  simp only [dh_of hb, hb.x, hb.g, hb.r]
  rfl

theorem dg_of (hb : BlkOf A t b) (old : Vec Ideal S1x1024 .f32) (j : Fin 1024) :
    dg b old (ix2 0 j) = old (ix2 0 j) + ∑ i ∈ Finset.range 512, gainNat A j (512 * t.val + i) := by
  unfold dg
  rw [gain_at, Finset.sum_range]
  refine congrArg _ (Finset.sum_congr rfl fun i _ => ?_)
  simp only [dh_of hb, hb.x]
  rw [gainNat, dif_pos (rowOf t i).isLt]
  rfl

/-! ## Which block the two outputs give at a point -/

theorem index_9 : ∀ t : Fin cfg0.N, (cfg0.win 9).index t = ![t.val, 0] := (by decide +kernel : ∀ t : Fin grid0.N, win0_9.index t = ![t.val, 0])
theorem index_10 : ∀ t : Fin cfg0.N, (cfg0.win 10).index t = ![0, 0] := (by decide +kernel : ∀ t : Fin grid0.N, win0_10.index t = ![0, 0])

section
variable (m : (ℓ : Loc nD τ sig) → Buf (Elt Ideal) ℓ) (c : Dev nD) (hI : ∀ t : Fin cfg0.N, BlkOf A t (blkAt m c t))
include hI

/-- Each point leaves its block of the gradient of `x`. -/
theorem outs_dx (t : Fin cfg0.N) (i : Fin 512) (j : Fin 1024) : (outsAt0 m c t.val t.isLt).1 (ix2 i j) = dxAt A (rowOf t i) j := by
  by_cases h0 : t.val % 16 = 0
  · rw [outs_first m c t h0]; exact dx_of (hI t) i j
  · rw [outs_later m c t h0]; exact dx_of (hI t) i j

/-- After point `n` the gain's gradient holds the rows so far. -/
theorem outs_dg (j : Fin 1024) : ∀ (n : ℕ) (h : n < cfg0.N),
    (outsAt0 m c n h).2 (ix2 0 j) = ∑ i ∈ Finset.range (512 * (n + 1)), gainNat A j i
  | 0, h => by
    have e := outs_first m c ⟨0, h⟩ rfl
    dsimp only at e
    rw [e]
    dsimp only
    rw [dg_of (hI ⟨0, h⟩), start_at, zero_add]
    simp only [Nat.mul_zero, Nat.zero_add, Nat.mul_one]
  | n + 1, h => by
    have h16 : n + 1 < 16 := h
    have e := outs_later m c ⟨n + 1, h⟩ (by show ¬(n + 1) % 16 = 0; omega)
    dsimp only at e
    rw [e]
    dsimp only
    rw [dg_of (hI ⟨n + 1, h⟩), Nat.mul_add 512 (n + 1) 1, Nat.mul_one, Finset.sum_range_add]
    exact congrArg (· + _) (outs_dg j n (by omega))

/-- The array of the gradient of `x`. -/
theorem arr_dx : (dats m 0 c).arrAt 9 cfg0.N = dxArr A := by
  refine (dats m 0 c).arrAt_eq_of_covers 9 _ (by decide +kernel) fun t hf y => ?_
  blk_simp
  rw [after0_9]
  have key : ∀ y : S512x1024.Idx, (outsAt0 m c t.val t.isLt).1 y = dxAt A (rowOf t (y 0)) (y 1) := by
    intro y
    have := outs_dx m c hI t (y 0) (y 1)
    rwa [ix2_eta (n0 := 512) (n1 := 1024) y] at this
  refine (key y).trans (congrArg₂ (dxAt A) (Fin.ext ?_) (Fin.ext ?_))
  · show 512 * t.val + (y 0).val = ((((cfg0.win 9).blk t).view.emb y) 0).val
    blk_simp
    rw [show win0_9.index t 0 = t.val from congrFun (index_9 t) 0, Nat.mul_comm]
  · show (y 1).val = ((((cfg0.win 9).blk t).view.emb y) 1).val
    blk_simp
    try rw [show win0_9.index t 1 = 0 from congrFun (index_9 t) 1, Nat.zero_mul, Nat.zero_add]

/-- The array of the gradient of the gain. -/
theorem arr_dg : (dats m 0 c).arrAt 10 cfg0.N = dgArr A := by
  refine (dats m 0 c).arrAt_eq_of_covers 10 _ (by decide +kernel) fun t hf y => ?_
  blk_simp
  rw [after0_10]
  have h15 : t.val = 15 := by
    have h := (flush0_10 t).mp hf
    have h16 : t.val < 16 := t.isLt
    omega
  have key : ∀ y : S1x1024.Idx, (outsAt0 m c t.val t.isLt).2 y = ∑ n : Fin 8192, gainAt A n (y 1) := by
    intro y
    have := outs_dg m c hI (y 1) t.val t.isLt
    rw [show 512 * (t.val + 1) = 8192 by omega, Finset.sum_range] at this
    rw [← ix2_eta (n0 := 1) (n1 := 1024) y, show y 0 = (0 : Fin 1) from Fin.ext (Nat.lt_one_iff.mp (y 0).isLt)]
    refine this.trans (Finset.sum_congr rfl fun n _ => ?_)
    exact dif_pos (show n.val < 8192 from n.isLt)
  refine (key y).trans (Finset.sum_congr rfl fun n _ => congrArg (gainAt A n) (Fin.ext ?_))
  show (y 1).val = ((((cfg0.win 10).blk t).view.emb y) 1).val
  blk_simp
  try rw [show win0_10.index t 1 = 0 from congrFun (index_10 t) 1, Nat.zero_mul, Nat.zero_add]

end

end Cert.Kernel2Ideal.Proj

end
-- ==== Proof.Proj.Blocks.lean ====
/-
  The blocks of the second call's points, as parts of the arguments.
-/
module

public import proofs.«01_k».proof.Proof.Proj.Arrays

@[expose] public section

noncomputable section

namespace Cert.Kernel2Ideal.Proj

open Cert.Kernel2Ideal Cert.Kernel2Ideal.Gen
open Idealize.ShloMosaic Idealize.ShloMosaic.TcCoe

/-- The arguments that the call starts from. -/
def argsOf (m : (ℓ : Loc nD τ sig) → Buf (Elt Ideal) ℓ) (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8)⟩

/-! ## Which block each window gives at a point -/

theorem index_0 : ∀ t : Fin cfg0.N, (cfg0.win 0).index t = ![t.val, 0] := (by decide +kernel : ∀ t : Fin grid0.N, win0_0.index t = ![t.val, 0])
theorem index_1 : ∀ t : Fin cfg0.N, (cfg0.win 1).index t = ![t.val, 0] := (by decide +kernel : ∀ t : Fin grid0.N, win0_1.index t = ![t.val, 0])
theorem index_2 : ∀ t : Fin cfg0.N, (cfg0.win 2).index t = ![t.val, 0] := (by decide +kernel : ∀ t : Fin grid0.N, win0_2.index t = ![t.val, 0])
theorem index_3 : ∀ t : Fin cfg0.N, (cfg0.win 3).index t = ![t.val, 0] := (by decide +kernel : ∀ t : Fin grid0.N, win0_3.index t = ![t.val, 0])
theorem index_4 : ∀ t : Fin cfg0.N, (cfg0.win 4).index t = ![t.val, 0] := (by decide +kernel : ∀ t : Fin grid0.N, win0_4.index t = ![t.val, 0])
theorem index_5 : ∀ t : Fin cfg0.N, (cfg0.win 5).index t = ![t.val, 0] := (by decide +kernel : ∀ t : Fin grid0.N, win0_5.index t = ![t.val, 0])
theorem index_6 : ∀ t : Fin cfg0.N, (cfg0.win 6).index t = ![0, 0] := (by decide +kernel : ∀ t : Fin grid0.N, win0_6.index t = ![0, 0])
theorem index_7 : ∀ t : Fin cfg0.N, (cfg0.win 7).index t = ![0, 0] := (by decide +kernel : ∀ t : Fin grid0.N, win0_7.index t = ![0, 0])
theorem index_8 : ∀ t : Fin cfg0.N, (cfg0.win 8).index t = ![t.val, 0] := (by decide +kernel : ∀ t : Fin grid0.N, win0_8.index t = ![t.val, 0])

/-- A read of a matrix wherever the row and the lane are known. -/
theorem read_at {n0 n1 : ℕ} (X : (⟨2, ![n0, n1]⟩ : Shape).Idx → EReal) (z : (⟨2, ![n0, n1]⟩ : Shape).Idx) (a : Fin n0) (b : Fin n1)
    (e0 : (z 0).val = a.val) (e1 : (z 1).val = b.val) : X z = X (ix2 a b) := by
  rw [← ix2_eta (n0 := n0) (n1 := n1) z]
  exact congrArg₂ (fun a b => X (ix2 a b)) (Fin.ext e0) (Fin.ext e1)

variable (m : (ℓ : Loc nD τ sig) → Buf (Elt Ideal) ℓ) (c : Dev nD)

/-- Each point's blocks are the parts of the arguments that `BlkOf` says. -/
theorem blkAt_of (t : Fin cfg0.N) : BlkOf (argsOf m c) t (blkAt m c t) where
  p0 i k := read_at (n0 := 8192) (n1 := 1536) _ (((cfg0.win 0).blk t).view.emb (ix2 i k)) (rowOf t i) k
    (by blk_simp; rw [show win0_0.index t 0 = t.val from congrFun (index_0 t) 0, Nat.mul_comm])
    (by blk_simp; try rw [show win0_0.index t 1 = 0 from congrFun (index_0 t) 1, Nat.zero_mul, Nat.zero_add])
  p1 i k := read_at (n0 := 8192) (n1 := 1536) _ (((cfg0.win 1).blk t).view.emb (ix2 i k)) (rowOf t i) k
    (by blk_simp; rw [show win0_1.index t 0 = t.val from congrFun (index_1 t) 0, Nat.mul_comm])
    (by blk_simp; try rw [show win0_1.index t 1 = 0 from congrFun (index_1 t) 1, Nat.zero_mul, Nat.zero_add])
  p2 i k := read_at (n0 := 8192) (n1 := 512) _ (((cfg0.win 2).blk t).view.emb (ix2 i k)) (rowOf t i) k
    (by blk_simp; rw [show win0_2.index t 0 = t.val from congrFun (index_2 t) 0, Nat.mul_comm])
    (by blk_simp; try rw [show win0_2.index t 1 = 0 from congrFun (index_2 t) 1, Nat.zero_mul, Nat.zero_add])
  p3 i k := read_at (n0 := 8192) (n1 := 512) _ (((cfg0.win 3).blk t).view.emb (ix2 i k)) (rowOf t i) k
    (by blk_simp; rw [show win0_3.index t 0 = t.val from congrFun (index_3 t) 0, Nat.mul_comm])
    (by blk_simp; try rw [show win0_3.index t 1 = 0 from congrFun (index_3 t) 1, Nat.zero_mul, Nat.zero_add])
  p4 i k := read_at (n0 := 8192) (n1 := 256) _ (((cfg0.win 4).blk t).view.emb (ix2 i k)) (rowOf t i) k
    (by blk_simp; rw [show win0_4.index t 0 = t.val from congrFun (index_4 t) 0, Nat.mul_comm])
    (by blk_simp; try rw [show win0_4.index t 1 = 0 from congrFun (index_4 t) 1, Nat.zero_mul, Nat.zero_add])
  x i k := read_at (n0 := 8192) (n1 := 1024) _ (((cfg0.win 5).blk t).view.emb (ix2 i k)) (rowOf t i) k
    (by blk_simp; rw [show win0_5.index t 0 = t.val from congrFun (index_5 t) 0, Nat.mul_comm])
    (by blk_simp; try rw [show win0_5.index t 1 = 0 from congrFun (index_5 t) 1, Nat.zero_mul, Nat.zero_add])
  g k := read_at (n0 := 1) (n1 := 1024) _ (((cfg0.win 6).blk t).view.emb (ix2 (0 : Fin 1) k)) (0 : Fin 1) k
    (by blk_simp; rw [show win0_6.index t 0 = 0 from congrFun (index_6 t) 0]; exact Nat.zero_add _)
    (by blk_simp; try rw [show win0_6.index t 1 = 0 from congrFun (index_6 t) 1, Nat.zero_mul, Nat.zero_add])
  w j k := read_at (n0 := 1024) (n1 := 4352) _ (((cfg0.win 7).blk t).view.emb (ix2 j k)) j k
    (by blk_simp; rw [show win0_7.index t 0 = 0 from congrFun (index_7 t) 0]; try rw [Nat.zero_mul, Nat.zero_add])
    (by blk_simp; try rw [show win0_7.index t 1 = 0 from congrFun (index_7 t) 1, Nat.zero_mul, Nat.zero_add])
  r i k := read_at (n0 := 8192) (n1 := 1024) _ (((cfg0.win 8).blk t).view.emb (ix2 i k)) (rowOf t i) k
    (by blk_simp; rw [show win0_8.index t 0 = t.val from congrFun (index_8 t) 0, Nat.mul_comm])
    (by blk_simp; try rw [show win0_8.index t 1 = 0 from congrFun (index_8 t) 1, Nat.zero_mul, Nat.zero_add])

end Cert.Kernel2Ideal.Proj

end
-- ==== Proof.Proj.Ref.lean ====
/-
  What the second call's reference computes, read at an index, over the extended reals.
-/
module

public import proofs.«01_k».proof.Proof.Proj.Arrays
public import proofs.«01_k».proof.Proof.Gen.Reference2Ideal.Read
public import Idealize.ShloMosaic.Lib.Pointwise

@[expose] public section

noncomputable section

namespace Cert.Reference2Ideal.Proj

open Cert.Reference2Ideal Cert.Reference2Ideal.Read
open Idealize.ShloMosaic Idealize.ShloMosaic.TcCoe
open Cert.Kernel2Ideal.Proj

/-- A sum over the five pieces' columns, piece by piece. -/
theorem sum_pieces (f : Fin 4352 → EReal) : ∑ k, f k
    = (∑ k : Fin 1536, f ⟨k.val, by omega⟩) + (∑ k : Fin 1536, f ⟨1536 + k.val, by omega⟩) + (∑ k : Fin 512, f ⟨3072 + k.val, by omega⟩)
      + (∑ k : Fin 512, f ⟨3584 + k.val, by omega⟩) + (∑ k : Fin 256, f ⟨4096 + k.val, by omega⟩) :=
  (Fin.sum_univ_add (a := 4096) (b := 256) f).trans (congrArg (· + _)
    ((Fin.sum_univ_add (a := 3584) (b := 512) _).trans (congrArg (· + _)
      ((Fin.sum_univ_add (a := 3072) (b := 512) _).trans (congrArg (· + _)
        (Fin.sum_univ_add (a := 1536) (b := 1536) _))))))

variable (x0 x1 : FVec Ideal S8192x1536 .bf16) (x2 x3 : FVec Ideal S8192x512 .bf16) (x4 : FVec Ideal S8192x256 .bf16)
  (x5 : FVec Ideal S8192x1024 .f32) (x6 : FVec Ideal S1x1024 .f32) (x7 : FVec Ideal S1024x4352 .bf16) (x8 : FVec Ideal S8192x1024 .f32)

theorem piece0 (i : Fin 8192) (k : Fin 1536) : val_main_v5 (F := Ideal) x0 x1 x2 x3 x4 (ix2 i ⟨k.val, by omega⟩) = x0 (ix2 i k) := by
  pointwise [val_main_v5, val_main_v0, val_main_v1, val_main_v2, val_main_v3, val_main_v4]
theorem piece1 (i : Fin 8192) (k : Fin 1536) : val_main_v5 (F := Ideal) x0 x1 x2 x3 x4 (ix2 i ⟨1536 + k.val, by omega⟩) = x1 (ix2 i k) := by
  pointwise [val_main_v5, val_main_v0, val_main_v1, val_main_v2, val_main_v3, val_main_v4]
theorem piece2 (i : Fin 8192) (k : Fin 512) : val_main_v5 (F := Ideal) x0 x1 x2 x3 x4 (ix2 i ⟨3072 + k.val, by omega⟩) = x2 (ix2 i k) := by
  pointwise [val_main_v5, val_main_v0, val_main_v1, val_main_v2, val_main_v3, val_main_v4]
  rw [dif_neg (by omega), dif_neg (by omega), dif_pos (by omega)]
  exact congrArg x2 (congrArg (ix2 i) (Fin.ext (by show 3072 + k.val - 1536 - 1536 = k.val; omega)))
theorem piece3 (i : Fin 8192) (k : Fin 512) : val_main_v5 (F := Ideal) x0 x1 x2 x3 x4 (ix2 i ⟨3584 + k.val, by omega⟩) = x3 (ix2 i k) := by
  pointwise [val_main_v5, val_main_v0, val_main_v1, val_main_v2, val_main_v3, val_main_v4]
  rw [dif_neg (by omega), dif_neg (by omega), dif_neg (by omega), dif_pos (by omega)]
  exact congrArg x3 (congrArg (ix2 i) (Fin.ext (by show 3584 + k.val - 1536 - 1536 - 512 = k.val; omega)))
theorem piece4 (i : Fin 8192) (k : Fin 256) : val_main_v5 (F := Ideal) x0 x1 x2 x3 x4 (ix2 i ⟨4096 + k.val, by omega⟩) = x4 (ix2 i k) := by
  pointwise [val_main_v5, val_main_v0, val_main_v1, val_main_v2, val_main_v3, val_main_v4]
  rw [dif_neg (by omega), dif_neg (by omega), dif_neg (by omega), dif_neg (by omega)]
  exact congrArg x4 (congrArg (ix2 i) (Fin.ext (by show 4096 + k.val - 1536 - 1536 - 512 - 512 = k.val; omega)))

/-- The gradient of the normalized rows. -/
theorem dh_at (i : Fin 8192) (j : Fin 1024) :
    val_main_v23 (F := Ideal) x0 x1 x2 x3 x4 x7 (ix2 i j) = dhat ⟨x0, x1, x2, x3, x4, x5, x6, x7, x8⟩ i j := by
  have e : val_main_v23 (F := Ideal) x0 x1 x2 x3 x4 x7 (ix2 i j)
      = ∑ k : Fin 4352, val_main_v5 (F := Ideal) x0 x1 x2 x3 x4 (ix2 i k) * x7 (ix2 j k) := by
    pointwise [val_main_v23, val_main_v21]
  rw [e, sum_pieces]
  simp only [piece0, piece1, piece2, piece3, piece4]
  rfl

theorem num_1024 : num 0x44800000#32 = ((1024 : ℝ) : EReal) := by
  show Ideal.ofBits .f32 0x44800000#32 = _
  simp [Ideal.ofBits, Ideal.ieee, -EReal.coe_mul]
  norm_num

theorem num_inv : num 0x3A800000#32 = ((1 / 1024 : ℝ) : EReal) := by
  show Ideal.ofBits .f32 0x3A800000#32 = _
  simp [Ideal.ofBits, Ideal.ieee, -EReal.coe_mul]
  norm_num

/-- Division by the row's length is multiplication by its inverse, at the infinities too. -/
theorem div_len (y : EReal) : Ideal.div y (Ideal.ofBits .f32 0x44800000#32) = y * num 0x3A800000#32 := by
  rw [show Ideal.ofBits .f32 0x44800000#32 = ((1024 : ℝ) : EReal) from num_1024, num_inv, Ideal.div_coe (by norm_num)]

/-- The mean square of a row and the small constant. -/
theorem den_at (i : Fin 8192) : val_main_v12 (F := Ideal) x5 (ix2 i 0) = den fun k => x5 (ix2 i k) := by
  pointwise [val_main_v12, val_main_v10, val_main_v11, val_main_v8, val_main_v9, val_main_v7, val_main_v6, val_main_cst, val_main_cst_0, val_main_cst_1]
  rw [div_len]
  rfl

/-- The row's scale. -/
theorem scale_at (i : Fin 8192) : val_main_v13 (F := Ideal) x5 (ix2 i 0) = scale fun k => x5 (ix2 i k) := by
  show Ideal.rsqrt (val_main_v12 (F := Ideal) x5 (ix2 i 0)) = _
  rw [den_at]
  rfl

/-- A column made of a list, at an index. -/
theorem col_at (y : FVec Ideal S8192 .f32) (h) (i : Fin 8192) :
    shapeCast S8192x1 y h (ix2 i 0) = y (ix1 i) := by
  pointwise

theorem dot_at (i : Fin 8192) : val_main_v31 (F := Ideal) x0 x1 x2 x3 x4 x5 x6 x7 (ix2 i 0)
    = ∑ k : Fin 1024, x5 (ix2 i k) * (dhat ⟨x0, x1, x2, x3, x4, x5, x6, x7, x8⟩ i k * x6 (ix2 0 k)) := by
  rw [val_main_v31, col_at]
  pointwise [val_main_v30, val_main_v29, val_main_v28, val_main_v27, val_main_cst_4]
  simp only [dh_at x0 x1 x2 x3 x4 x5 x6 x7 x8]

/-- The part of a row's gradient that goes through its scale. -/
theorem thru_at (i : Fin 8192) (j : Fin 1024) : val_main_v39 (F := Ideal) x0 x1 x2 x3 x4 x5 x6 x7 (ix2 i j)
    = thru (fun k => x5 (ix2 i k)) (fun k => x6 (ix2 0 k)) (fun k => dhat ⟨x0, x1, x2, x3, x4, x5, x6, x7, x8⟩ i k) := by
  pointwise [val_main_v39, val_main_v38, val_main_v37, val_main_v36, val_main_v35, val_main_v16, val_main_v15, val_main_v14, val_main_cst_5, val_main_cst_6, val_main_cst_2]
  simp only [Finset.univ_unique, Finset.sum_singleton]
  rw [show (default : Fin 1) = 0 from rfl, div_len, dot_at x0 x1 x2 x3 x4 x5 x6 x7 x8, scale_at, den_at]
  rfl

/-- The reference's gradient of `x`. -/
theorem dx_at (i : Fin 8192) (j : Fin 1024) : val_main_v43 (F := Ideal) x0 x1 x2 x3 x4 x5 x6 x7 x8 (ix2 i j)
    = dxAt ⟨x0, x1, x2, x3, x4, x5, x6, x7, x8⟩ i j := by
  pointwise [val_main_v43, val_main_v41, val_main_v42, val_main_v40, val_main_v34, val_main_v33, val_main_v32, val_main_v28, val_main_v27]
  rw [thru_at x0 x1 x2 x3 x4 x5 x6 x7 x8, scale_at, dh_at x0 x1 x2 x3 x4 x5 x6 x7 x8]
  unfold dxAt rowGrad
  dsimp only
  rw [add_assoc, add_assoc, add_comm (x8 (ix2 i j))]
  simp only [add_assoc]

/-- The reference's gradient of the gain. -/
theorem dg_at (j : Fin 1024) : val_main_v26 (F := Ideal) x0 x1 x2 x3 x4 x5 x7 (ix2 0 j)
    = ∑ n : Fin 8192, gainAt ⟨x0, x1, x2, x3, x4, x5, x6, x7, x8⟩ n j := by
  pointwise [val_main_v26, val_main_v25, val_main_v24, val_main_v18, val_main_v17, val_main_cst_3]
  simp only [scale_at, dh_at x0 x1 x2 x3 x4 x5 x6 x7 x8]
  rfl

end Cert.Reference2Ideal.Proj

end
-- ==== Proof.Proj.Values.lean ====
/-
  The second call's results: the idealized kernel's arrays are its reference's.
-/
module

public import proofs.«01_k».proof.Defs
public import proofs.«01_k».proof.Proof.Proj.Blocks
public import proofs.«01_k».proof.Proof.Proj.Ref
public import Idealize.ShloMosaic.Lib.Quiescent

@[expose] public section

noncomputable section

namespace Cert.Proof

open Idealize.ShloMosaic Idealize.SL.Sem
open Cert.Kernel2Ideal.Proj

/-- The frame of the second call's reference. -/
theorem frame_reference2 : Cert.quiescent_Reference2Ideal (hReference2Ideal := Cert.Reference2Ideal.Gen.facts) := fun m ρ _ =>
  (θ_run _ _ _).mono (fun r h => ⟨fun c => (h c).2.2, sem_eq_zero_of_no_sems (by decide) r.2⟩) (Cert.Reference2Ideal.Value.run (F := Ideal) m ρ)

section
variable (A : Args)

/-- The reference's gradient of `x` as a whole array. -/
theorem ref_dx : Cert.Reference2Ideal.Read.val_main_v43 (F := Ideal) A.p0 A.p1 A.p2 A.p3 A.p4 A.x A.g A.w A.r = dxArr A := by
  funext i
  refine Eq.trans ?_ (Cert.Reference2Ideal.Proj.dx_at A.p0 A.p1 A.p2 A.p3 A.p4 A.x A.g A.w A.r (i 0) (i 1))
  exact congrArg _ (ix2_eta (n0 := 8192) (n1 := 1024) i).symm

/-- The reference's gradient of the gain as a whole array. -/
theorem ref_dg : Cert.Reference2Ideal.Read.val_main_v26 (F := Ideal) A.p0 A.p1 A.p2 A.p3 A.p4 A.x A.w = dgArr A := by
  funext i
  refine Eq.trans ?_ (Cert.Reference2Ideal.Proj.dg_at A.p0 A.p1 A.p2 A.p3 A.p4 A.x A.g A.w A.r (i 1))
  refine congrArg _ ?_
  refine (ix2_eta (n0 := 1) (n1 := 1024) i).symm.trans (congrArg (ix2 · (i 1)) ?_)
  exact Fin.ext (Nat.lt_one_iff.mp (i 0).isLt)

end

/-- The second call and its reference end with the same two arrays, whatever the inputs. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => dxArr (argsOf m c), fun c => dgArr (argsOf m c), ?_, ?_⟩
  · refine (θ_run _ _ _).mono (fun _ h c => ?_) (Cert.Kernel2Ideal.Value.run_blocks (F := Ideal) m g)
    obtain ⟨e0, e1, ha⟩ := h c
    exact ⟨e0.trans (arr_dx m c (blkAt_of m c)), e1.trans (arr_dg m c (blkAt_of m c)), ha⟩
  · refine (θ_run _ _ _).mono (fun _ h c => ?_) (Cert.Reference2Ideal.Value.run (F := Ideal) m' g')
    obtain ⟨e0, e1, ha⟩ := h c
    obtain ⟨a0, a1, a2, a3, a4, a5, a6, a7, a8⟩ := hagree c
    rw [Cert.Reference2Ideal.Read.val_main_v43_eq, a0, a1, a2, a3, a4, a5, a6, a7, a8] at e0
    rw [Cert.Reference2Ideal.Read.val_main_v26_eq, a0, a1, a2, a3, a4, a5, a7] at e1
    exact ⟨e0.trans (ref_dx (argsOf m c)), e1.trans (ref_dg (argsOf m c)), ha⟩

end Cert.Proof

end
-- ==== Proof.Fwd.Arrays.lean ====
/-
  The third call, a layer's norm and input projection: the two arrays that it leaves, over the extended reals.
-/
module

public import proofs.«01_k».proof.Proof.Gen.Kernel3Ideal.Value
public import proofs.«01_k».proof.Proof.Proj.Blocks
public import Idealize.ShloMosaic.Lib.Pipeline.ValueKit
public import Idealize.ShloMosaic.Lib.Pointwise
public import Idealize.ShloMosaic.Lib.Tactic

@[expose] public section

noncomputable section

namespace Cert.Kernel3Ideal.Fwd

open Cert.Kernel3Ideal Cert.Kernel3Ideal.Gen
open Idealize.ShloMosaic Idealize.ShloMosaic.TcCoe
open Cert.Kernel2Ideal.Proj (den scale zeros read_at)

/-- A row over its scale, times the gain. -/
def normRow (x g : Fin 1024 → EReal) (k : Fin 1024) : EReal := x k * scale x * g k

/-! ## What a grid point computes -/

/-- The normalized rows. -/
theorem norm_at (x : Vec Ideal S512x1024 .f32) (g : Vec Ideal S1x1024 .f32) (i : Fin 512) (j : Fin 1024) :
    k0_pay1 x g (ix2 i j) = normRow (fun k => x (ix2 i k)) (fun k => g (ix2 0 k)) j := by
  pointwise [k0_pay1]
  rfl

/-- They are also left transposed. -/
theorem turned_at (x : Vec Ideal S512x1024 .f32) (g : Vec Ideal S1x1024 .f32) (j : Fin 1024) (i : Fin 512) :
    k0_pay2 x g (ix2 j i) = k0_pay1 x g (ix2 i j) := by
  pointwise [k0_pay2]

/-- Their product with the weights. -/
theorem product_at (x : Vec Ideal S512x1024 .f32) (g : Vec Ideal S1x1024 .f32) (w : Vec Ideal S1024x4352 .bf16) (i : Fin 512) (n : Fin 4352) :
    k0_pay3 x g w (ix2 i n) = ∑ k : Fin 1024, k0_pay1 x g (ix2 i k) * w (ix2 k n) := by
  pointwise [k0_pay3]

/-- A point's block of the projections. -/
theorem out_proj (x : Vec Ideal S512x1024 .f32) (g : Vec Ideal S1x1024 .f32) (w : Vec Ideal S1024x4352 .bf16) :
    out0_3 x g w = k0_pay3 x g w := by
  unfold out0_3
  rw [View.canon_unit_zero zeros, View.ld_unit_zero (S := S512x1024) zeros, View.ld_unit_zero (S := S1x1024) zeros,
    View.ld_unit_zero (S := S1024x4352) zeros]

/-- A point's block of the transposed normalized rows. -/
theorem out_turned (x : Vec Ideal S512x1024 .f32) (g : Vec Ideal S1x1024 .f32) (w : Vec Ideal S1024x4352 .bf16) :
    out0_4 x g w = k0_pay2 x g := by
  unfold out0_4
  rw [View.canon_unit_zero zeros, View.ld_unit_zero (S := S512x1024) zeros, View.ld_unit_zero (S := S1x1024) zeros]

/-! ## The arrays -/

/-- The arguments of the third call. -/
structure Args where
  x : S8192x1024.Idx → EReal
  g : S1x1024.Idx → EReal
  w : S1024x4352.Idx → EReal

/-- The normalized rows of all of `x`. -/
def normAt (A : Args) (i : Fin 8192) (j : Fin 1024) : EReal := normRow (fun k => A.x (ix2 i k)) (fun k => A.g (ix2 0 k)) j

/-- The projections. -/
def projAt (A : Args) (i : Fin 8192) (n : Fin 4352) : EReal := ∑ k : Fin 1024, normAt A i k * A.w (ix2 k n)

/-- The whole array of the projections. -/
def projArr (A : Args) : S8192x4352.Idx → EReal := fun i => projAt A (i 0) (i 1)

/-- The whole array of the transposed normalized rows. -/
def turnedArr (A : Args) : S1024x8192.Idx → EReal := fun i => normAt A (i 1) (i 0)

/-- Row `i` of point `t`'s block. -/
abbrev rowOf (t : Fin cfg0.N) (i : Fin 512) : Fin 8192 := ⟨512 * t.val + i.val, by have h : t.val < 16 := t.isLt; omega⟩

/-- The arguments that the call starts from. -/
def argsOf (m : (ℓ : Loc nD τ sig) → Buf (Elt Ideal) ℓ) (c : Dev nD) : Args :=
  ⟨m ((c : Thread nD τ).loc main_arg0), m ((c : Thread nD τ).loc main_arg1), m ((c : Thread nD τ).loc main_arg2)⟩

/-! ## Which block each window gives at a point -/

theorem index_0 : ∀ t : Fin cfg0.N, (cfg0.win 0).index t = ![t.val, 0] := (by decide +kernel : ∀ t : Fin grid0.N, win0_0.index t = ![t.val, 0])
theorem index_1 : ∀ t : Fin cfg0.N, (cfg0.win 1).index t = ![0, 0] := (by decide +kernel : ∀ t : Fin grid0.N, win0_1.index t = ![0, 0])
theorem index_2 : ∀ t : Fin cfg0.N, (cfg0.win 2).index t = ![0, 0] := (by decide +kernel : ∀ t : Fin grid0.N, win0_2.index t = ![0, 0])
theorem index_3 : ∀ t : Fin cfg0.N, (cfg0.win 3).index t = ![t.val, 0] := (by decide +kernel : ∀ t : Fin grid0.N, win0_3.index t = ![t.val, 0])
theorem index_4 : ∀ t : Fin cfg0.N, (cfg0.win 4).index t = ![0, t.val] := (by decide +kernel : ∀ t : Fin grid0.N, win0_4.index t = ![0, t.val])

section
variable (m : (ℓ : Loc nD τ sig) → Buf (Elt Ideal) ℓ) (c : Dev nD) (t : Fin cfg0.N)

theorem x_of (i : Fin 512) (k : Fin 1024) :
    (iblk m c 0 t : Vec Ideal S512x1024 .f32) (ix2 i k) = (argsOf m c).x (ix2 (rowOf t i) k) :=
  read_at (n0 := 8192) (n1 := 1024) _ (((cfg0.win 0).blk t).view.emb (ix2 i k)) (rowOf t i) k
    (by blk_simp; rw [show win0_0.index t 0 = t.val from congrFun (index_0 t) 0, Nat.mul_comm])
    (by blk_simp; try rw [show win0_0.index t 1 = 0 from congrFun (index_0 t) 1, Nat.zero_mul, Nat.zero_add])

theorem g_of (k : Fin 1024) :
    (iblk m c 1 t : Vec Ideal S1x1024 .f32) (ix2 0 k) = (argsOf m c).g (ix2 0 k) :=
  read_at (n0 := 1) (n1 := 1024) _ (((cfg0.win 1).blk t).view.emb (ix2 (0 : Fin 1) k)) (0 : Fin 1) k
    (by blk_simp; rw [show win0_1.index t 0 = 0 from congrFun (index_1 t) 0]; exact Nat.zero_add _)
    (by blk_simp; try rw [show win0_1.index t 1 = 0 from congrFun (index_1 t) 1, Nat.zero_mul, Nat.zero_add])

theorem w_of (k : Fin 1024) (n : Fin 4352) :
    (iblk m c 2 t : Vec Ideal S1024x4352 .bf16) (ix2 k n) = (argsOf m c).w (ix2 k n) :=
  read_at (n0 := 1024) (n1 := 4352) _ (((cfg0.win 2).blk t).view.emb (ix2 k n)) k n
    (by blk_simp; rw [show win0_2.index t 0 = 0 from congrFun (index_2 t) 0]; try rw [Nat.zero_mul, Nat.zero_add])
    (by blk_simp; try rw [show win0_2.index t 1 = 0 from congrFun (index_2 t) 1, Nat.zero_mul, Nat.zero_add])

/-- The normalized rows of point `t`. -/
theorem norm_of (i : Fin 512) (j : Fin 1024) :
    k0_pay1 (F := Ideal) (iblk m c 0 t) (iblk m c 1 t) (ix2 i j) = normAt (argsOf m c) (rowOf t i) j :=
  (norm_at (iblk m c 0 t) (iblk m c 1 t) i j).trans
    (congrArg₂ (fun x g => normRow x g j) (funext fun k => x_of m c t i k) (funext fun k => g_of m c t k))

/-- The projections of point `t`. -/
theorem proj_of (i : Fin 512) (n : Fin 4352) :
    out0_3 (F := Ideal) (iblk m c 0 t) (iblk m c 1 t) (iblk m c 2 t) (ix2 i n) = projAt (argsOf m c) (rowOf t i) n :=
  (congrFun (out_proj (iblk m c 0 t) (iblk m c 1 t) (iblk m c 2 t)) _).trans
    ((product_at (iblk m c 0 t) (iblk m c 1 t) (iblk m c 2 t) i n).trans
      (Finset.sum_congr rfl fun k _ => congrArg₂ (· * ·) (norm_of m c t i k) (w_of m c t k n)))

/-- The transposed normalized rows of point `t`. -/
theorem turned_of (j : Fin 1024) (i : Fin 512) :
    out0_4 (F := Ideal) (iblk m c 0 t) (iblk m c 1 t) (iblk m c 2 t) (ix2 j i) = normAt (argsOf m c) (rowOf t i) j :=
  (congrFun (out_turned (iblk m c 0 t) (iblk m c 1 t) (iblk m c 2 t)) _).trans
    ((turned_at (iblk m c 0 t) (iblk m c 1 t) j i).trans (norm_of m c t i j))

end

variable (m : (ℓ : Loc nD τ sig) → Buf (Elt Ideal) ℓ) (c : Dev nD)

/-- The array of the projections. -/
theorem arr_proj : (dats m 0 c).arrAt 3 cfg0.N = projArr (argsOf m c) := by
  refine (dats m 0 c).arrAt_eq_of_covers 3 _ (by decide +kernel) fun t hf y => ?_
  blk_simp
  rw [after0_3]
  have key : ∀ y : S512x4352.Idx, out0_3 (F := Ideal) (iblk m c 0 t) (iblk m c 1 t) (iblk m c 2 t) y = projAt (argsOf m c) (rowOf t (y 0)) (y 1) := by
    intro y
    have := proj_of m c t (y 0) (y 1)
    rwa [ix2_eta (n0 := 512) (n1 := 4352) y] at this
  refine (key y).trans (congrArg₂ (projAt (argsOf m c)) (Fin.ext ?_) (Fin.ext ?_))
  · show 512 * t.val + (y 0).val = ((((cfg0.win 3).blk t).view.emb y) 0).val
    blk_simp
    rw [show win0_3.index t 0 = t.val from congrFun (index_3 t) 0, Nat.mul_comm]
  · show (y 1).val = ((((cfg0.win 3).blk t).view.emb y) 1).val
    blk_simp
    try rw [show win0_3.index t 1 = 0 from congrFun (index_3 t) 1, Nat.zero_mul, Nat.zero_add]

/-- The array of the transposed normalized rows. -/
theorem arr_turned : (dats m 0 c).arrAt 4 cfg0.N = turnedArr (argsOf m c) := by
  refine (dats m 0 c).arrAt_eq_of_covers 4 _ (by decide +kernel) fun t hf y => ?_
  blk_simp
  rw [after0_4]
  have key : ∀ y : S1024x512.Idx, out0_4 (F := Ideal) (iblk m c 0 t) (iblk m c 1 t) (iblk m c 2 t) y = normAt (argsOf m c) (rowOf t (y 1)) (y 0) := by
    intro y
    have := turned_of m c t (y 0) (y 1)
    rwa [ix2_eta (n0 := 1024) (n1 := 512) y] at this
  refine (key y).trans (congrArg₂ (normAt (argsOf m c)) (Fin.ext ?_) (Fin.ext ?_))
  · show 512 * t.val + (y 1).val = ((((cfg0.win 4).blk t).view.emb y) 1).val
    blk_simp
    rw [show win0_4.index t 1 = t.val from congrFun (index_4 t) 1, Nat.mul_comm]
  · show (y 0).val = ((((cfg0.win 4).blk t).view.emb y) 0).val
    blk_simp
    try rw [show win0_4.index t 0 = 0 from congrFun (index_4 t) 0, Nat.zero_mul, Nat.zero_add]

end Cert.Kernel3Ideal.Fwd

end
-- ==== Proof.Fwd.Values.lean ====
/-
  The third call's results: the idealized kernel's arrays are its reference's.
-/
module

public import proofs.«01_k».proof.Defs
public import proofs.«01_k».proof.Proof.Fwd.Arrays
public import proofs.«01_k».proof.Proof.Proj.Ref
public import proofs.«01_k».proof.Proof.Gen.Reference3Ideal.Read
public import Idealize.ShloMosaic.Lib.Quiescent

@[expose] public section

noncomputable section

namespace Cert.Reference3Ideal.Fwd

open Cert.Reference3Ideal Cert.Reference3Ideal.Read
open Idealize.ShloMosaic Idealize.ShloMosaic.TcCoe
open Cert.Kernel2Ideal.Proj (den scale)
open Cert.Reference2Ideal.Proj (div_len)
open Cert.Kernel3Ideal.Fwd

variable (x0 : FVec Ideal S8192x1024 .f32) (x1 : FVec Ideal S1x1024 .f32) (x2 : FVec Ideal S1024x4352 .bf16)

/-- The mean square of a row and the small constant. -/
theorem den_at (i : Fin 8192) : val_main_v6 (F := Ideal) x0 (ix2 i 0) = den fun k => x0 (ix2 i k) := by
  pointwise [val_main_v6, val_main_v4, val_main_v5, val_main_v2, val_main_v3, val_main_v1, val_main_v0, val_main_cst, val_main_cst_0, val_main_cst_1]
  rw [div_len]
  rfl

/-- The row's scale. -/
theorem scale_at (i : Fin 8192) : val_main_v7 (F := Ideal) x0 (ix2 i 0) = scale fun k => x0 (ix2 i k) := by
  show Ideal.rsqrt (val_main_v6 (F := Ideal) x0 (ix2 i 0)) = _
  rw [den_at]
  rfl

/-- The normalized rows. -/
theorem norm_at (i : Fin 8192) (j : Fin 1024) : val_main_v11 (F := Ideal) x0 x1 (ix2 i j) = normAt ⟨x0, x1, x2⟩ i j := by
  pointwise [val_main_v11, val_main_v10, val_main_v9, val_main_v8]
  rw [scale_at]
  rfl

/-- The projections. -/
theorem proj_at (i : Fin 8192) (n : Fin 4352) : val_main_v13 (F := Ideal) x0 x1 x2 (ix2 i n) = projAt ⟨x0, x1, x2⟩ i n := by
  pointwise [val_main_v13, val_main_v12]
  simp only [norm_at x0 x1 x2]
  rfl

/-- The transposed normalized rows. -/
theorem turned_at (j : Fin 1024) (i : Fin 8192) : val_main_v15 (F := Ideal) x0 x1 (ix2 j i) = normAt ⟨x0, x1, x2⟩ i j := by
  pointwise [val_main_v15, val_main_v14]
  exact norm_at x0 x1 x2 i j

/-- The projections as a whole array. -/
theorem ref_proj (A : Args) : val_main_v13 (F := Ideal) A.x A.g A.w = projArr A := by
  funext i
  refine Eq.trans ?_ (proj_at A.x A.g A.w (i 0) (i 1))
  exact congrArg _ (ix2_eta (n0 := 8192) (n1 := 4352) i).symm

/-- The transposed normalized rows as a whole array. -/
theorem ref_turned (A : Args) : val_main_v15 (F := Ideal) A.x A.g = turnedArr A := by
  funext i
  refine Eq.trans ?_ (turned_at A.x A.g A.w (i 0) (i 1))
  exact congrArg _ (ix2_eta (n0 := 1024) (n1 := 8192) i).symm

end Cert.Reference3Ideal.Fwd

namespace Cert.Proof

open Idealize.ShloMosaic Idealize.SL.Sem
open Cert.Kernel3Ideal.Fwd

/-- The frame of the third call's reference. -/
theorem frame_reference3 : Cert.quiescent_Reference3Ideal (hReference3Ideal := Cert.Reference3Ideal.Gen.facts) := fun m ρ _ =>
  (θ_run _ _ _).mono (fun r h => ⟨fun c => (h c).2.2, sem_eq_zero_of_no_sems (by decide) r.2⟩) (Cert.Reference3Ideal.Value.run (F := Ideal) m ρ)

/-- The third call and its reference end with the same two arrays, whatever the inputs. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => projArr (argsOf m c), fun c => turnedArr (argsOf m c), ?_, ?_⟩
  · refine (θ_run _ _ _).mono (fun _ h c => ?_) (Cert.Kernel3Ideal.Value.run_blocks (F := Ideal) m g)
    obtain ⟨e0, e1, ha⟩ := h c
    exact ⟨e0.trans (arr_proj m c), e1.trans (arr_turned m c), ha⟩
  · refine (θ_run _ _ _).mono (fun _ h c => ?_) (Cert.Reference3Ideal.Value.run (F := Ideal) m' g')
    obtain ⟨e0, e1, ha⟩ := h c
    obtain ⟨a0, a1, a2⟩ := hagree c
    rw [Cert.Reference3Ideal.Read.val_main_v13_eq, a0, a1, a2] at e0
    rw [Cert.Reference3Ideal.Read.val_main_v15_eq, a0, a1] at e1
    exact ⟨e0.trans (Cert.Reference3Ideal.Fwd.ref_proj (argsOf m c)), e1.trans (Cert.Reference3Ideal.Fwd.ref_turned (argsOf m c)), ha⟩

end Cert.Proof

end
-- ==== Proof.Grad.Sums.lean ====
/-
  A gradient of weights, summed over the rows tile by tile.
-/
module

public import Idealize.ShloMosaic.Lib.Pipeline.ValueKit
public import Idealize.ShloMosaic.Lib.Tactic

@[expose] public section

noncomputable section

namespace Cert.Grad

open Idealize.ShloMosaic

variable {r n : ℕ} (a : (⟨2, ![r, 8192]⟩ : Shape).Idx → EReal) (p : (⟨2, ![8192, n]⟩ : Shape).Idx → EReal)

/-- What row `i` of the rows adds to the weights' gradient at `j`, `k`: nothing past the last row. -/
def term (j : Fin r) (k : Fin n) (i : ℕ) : EReal := if h : i < 8192 then a (ix2 j ⟨i, h⟩) * p (ix2 ⟨i, h⟩ k) else 0

/-- The weights' gradient: every row's part. -/
def gradArr : (⟨2, ![r, n]⟩ : Shape).Idx → EReal := fun y => ∑ i : Fin 8192, a (ix2 (y 0) i) * p (ix2 i (y 1))

/-- Row `i` of tile `t`. -/
abbrev row (t : ℕ) (h : t < 16) (i : Fin 512) : Fin 8192 := ⟨512 * t + i.val, by omega⟩

variable {a p}

/-- A tile's product is the part of its rows. -/
theorem part_of {x : (⟨2, ![r, 512]⟩ : Shape).Idx → EReal} {q : (⟨2, ![512, n]⟩ : Shape).Idx → EReal} {t : ℕ} (ht : t < 16)
    (hx : ∀ j i, x (ix2 j i) = a (ix2 j (row t ht i))) (hq : ∀ i k, q (ix2 i k) = p (ix2 (row t ht i) k)) (j : Fin r) (k : Fin n) :
    ∑ i : Fin 512, x (ix2 j i) * q (ix2 i k) = ∑ i ∈ Finset.range 512, term a p j k (512 * t + i) := by
  rw [Finset.sum_range]
  refine Finset.sum_congr rfl fun i _ => ?_
  rw [hx, hq, term, dif_pos (row t ht i).isLt]

/-- What starts with the first tile's part and adds each later tile's holds the rows so far. -/
theorem rows_so_far {N : ℕ} (f : (s : ℕ) → s < N → (⟨2, ![r, n]⟩ : Shape).Idx → EReal) (j : Fin r) (k : Fin n)
    (first : ∀ h, f 0 h (ix2 j k) = ∑ i ∈ Finset.range 512, term a p j k (512 * 0 + i))
    (later : ∀ s h, f (s + 1) h (ix2 j k)
      = f s (Nat.lt_of_succ_lt h) (ix2 j k) + ∑ i ∈ Finset.range 512, term a p j k (512 * (s + 1) + i)) :
    ∀ (s : ℕ) (h : s < N), f s h (ix2 j k) = ∑ i ∈ Finset.range (512 * (s + 1)), term a p j k i
  | 0, h => by
    rw [first]
    simp only [Nat.mul_zero, Nat.zero_add, Nat.mul_one]
  | s + 1, h => by
    rw [later, Nat.mul_add 512 (s + 1) 1, Nat.mul_one, Finset.sum_range_add]
    exact congrArg (· + _) (rows_so_far f j k first later s (Nat.lt_of_succ_lt h))

/-- All the rows are the whole gradient. -/
theorem all_rows (j : Fin r) (k : Fin n) : ∑ i ∈ Finset.range 8192, term a p j k i = ∑ i : Fin 8192, a (ix2 j i) * p (ix2 i k) := by
  rw [Finset.sum_range]
  exact Finset.sum_congr rfl fun i _ => dif_pos i.isLt

end Cert.Grad

end
-- ==== Proof.Grad.Arrays.lean ====
/-
  The fourth call, the gradient of the projection's weights: the five arrays that it leaves, over the extended reals.
-/
module

public import proofs.«01_k».proof.Proof.Gen.Kernel4Ideal.Value
public import proofs.«01_k».proof.Proof.Proj.Blocks
public import proofs.«01_k».proof.Proof.Grad.Sums
public import Idealize.ShloMosaic.Lib.Pipeline.ValueKit
public import Idealize.ShloMosaic.Lib.Pointwise
public import Idealize.ShloMosaic.Lib.Tactic

@[expose] public section

noncomputable section

namespace Cert.Kernel4Ideal.Grad

open Cert.Kernel4Ideal Cert.Kernel4Ideal.Gen
open Idealize.ShloMosaic Idealize.ShloMosaic.TcCoe
open Cert.Kernel2Ideal.Proj (read_at)
open Cert.Grad

/-- Row `i` of point `t`'s block. -/
abbrev rowOf (t : Fin cfg0.N) (i : Fin 512) : Fin 8192 := row t.val t.isLt i

/-! ## What a grid point adds -/

theorem step_0 (a : Vec Ideal S1024x512 .bf16) (old : Vec Ideal S1024x1536 .f32) (p : Vec Ideal S512x1536 .bf16) (j : Fin 1024) (k : Fin 1536) :
    k0_pay8 a old p (ix2 j k) = old (ix2 j k) + ∑ i : Fin 512, a (ix2 j i) * p (ix2 i k) := by
  pointwise [k0_pay8]
theorem zero_0 (j : Fin 1024) (k : Fin 1536) : k0_pay3 (F := Ideal) (ix2 j k) = 0 := by
  pointwise [k0_pay3]
theorem step_1 (a : Vec Ideal S1024x512 .bf16) (old : Vec Ideal S1024x1536 .f32) (p : Vec Ideal S512x1536 .bf16) (j : Fin 1024) (k : Fin 1536) :
    k0_pay9 a old p (ix2 j k) = old (ix2 j k) + ∑ i : Fin 512, a (ix2 j i) * p (ix2 i k) := by
  pointwise [k0_pay9]
theorem zero_1 (j : Fin 1024) (k : Fin 1536) : k0_pay4 (F := Ideal) (ix2 j k) = 0 := by
  pointwise [k0_pay4]
theorem step_2 (a : Vec Ideal S1024x512 .bf16) (old : Vec Ideal S1024x512 .f32) (p : Vec Ideal S512x512 .bf16) (j : Fin 1024) (k : Fin 512) :
    k0_pay10 a old p (ix2 j k) = old (ix2 j k) + ∑ i : Fin 512, a (ix2 j i) * p (ix2 i k) := by
  pointwise [k0_pay10]
theorem zero_2 (j : Fin 1024) (k : Fin 512) : k0_pay5 (F := Ideal) (ix2 j k) = 0 := by
  pointwise [k0_pay5]
theorem step_3 (a : Vec Ideal S1024x512 .bf16) (old : Vec Ideal S1024x512 .f32) (p : Vec Ideal S512x512 .bf16) (j : Fin 1024) (k : Fin 512) :
    k0_pay1 a (k0_pay11 old) p (constant S1024x512 .f32 0x00000000#32) (ix2 j k) = old (ix2 j k) + ∑ i : Fin 512, a (ix2 j i) * p (ix2 i k) := by
  pointwise [k0_pay1, k0_pay11]
theorem zero_3 (j : Fin 1024) (k : Fin 512) : k0_pay6 (F := Ideal) (ix2 j k) = 0 := by
  pointwise [k0_pay6]
theorem step_4 (a : Vec Ideal S1024x512 .bf16) (old : Vec Ideal S1024x256 .f32) (p : Vec Ideal S512x256 .bf16) (j : Fin 1024) (k : Fin 256) :
    k0_pay2 a old p (ix2 j k) = old (ix2 j k) + ∑ i : Fin 512, a (ix2 j i) * p (ix2 i k) := by
  pointwise [k0_pay2]
theorem zero_4 (j : Fin 1024) (k : Fin 256) : k0_pay7 (F := Ideal) (ix2 j k) = 0 := by
  pointwise [k0_pay7]

/-! ## Which block each window gives at a point -/

theorem index_0 : ∀ t : Fin cfg0.N, (cfg0.win 0).index t = ![0, t.val] := (by decide +kernel : ∀ t : Fin grid0.N, win0_0.index t = ![0, t.val])
theorem index_1 : ∀ t : Fin cfg0.N, (cfg0.win 1).index t = ![t.val, 0] := (by decide +kernel : ∀ t : Fin grid0.N, win0_1.index t = ![t.val, 0])
theorem index_2 : ∀ t : Fin cfg0.N, (cfg0.win 2).index t = ![t.val, 0] := (by decide +kernel : ∀ t : Fin grid0.N, win0_2.index t = ![t.val, 0])
theorem index_3 : ∀ t : Fin cfg0.N, (cfg0.win 3).index t = ![t.val, 0] := (by decide +kernel : ∀ t : Fin grid0.N, win0_3.index t = ![t.val, 0])
theorem index_4 : ∀ t : Fin cfg0.N, (cfg0.win 4).index t = ![t.val, 0] := (by decide +kernel : ∀ t : Fin grid0.N, win0_4.index t = ![t.val, 0])
theorem index_5 : ∀ t : Fin cfg0.N, (cfg0.win 5).index t = ![t.val, 0] := (by decide +kernel : ∀ t : Fin grid0.N, win0_5.index t = ![t.val, 0])
theorem index_6 : ∀ t : Fin cfg0.N, (cfg0.win 6).index t = ![0, 0] := (by decide +kernel : ∀ t : Fin grid0.N, win0_6.index t = ![0, 0])
theorem index_7 : ∀ t : Fin cfg0.N, (cfg0.win 7).index t = ![0, 0] := (by decide +kernel : ∀ t : Fin grid0.N, win0_7.index t = ![0, 0])
theorem index_8 : ∀ t : Fin cfg0.N, (cfg0.win 8).index t = ![0, 0] := (by decide +kernel : ∀ t : Fin grid0.N, win0_8.index t = ![0, 0])
theorem index_9 : ∀ t : Fin cfg0.N, (cfg0.win 9).index t = ![0, 0] := (by decide +kernel : ∀ t : Fin grid0.N, win0_9.index t = ![0, 0])
theorem index_10 : ∀ t : Fin cfg0.N, (cfg0.win 10).index t = ![0, 0] := (by decide +kernel : ∀ t : Fin grid0.N, win0_10.index t = ![0, 0])

variable (m : (ℓ : Loc nD τ sig) → Buf (Elt Ideal) ℓ) (c : Dev nD)

/-! ## The blocks of the arguments -/

/-- The transposed rows that the call starts from. -/
def rowsOf : S1024x8192.Idx → EReal := m ((c : Thread nD τ).loc main_arg0)
/-- Piece 0 of the projections' gradient. -/
def piece_0 : S8192x1536.Idx → EReal := m ((c : Thread nD τ).loc main_arg1)
/-- Piece 1 of the projections' gradient. -/
def piece_1 : S8192x1536.Idx → EReal := m ((c : Thread nD τ).loc main_arg2)
/-- Piece 2 of the projections' gradient. -/
def piece_2 : S8192x512.Idx → EReal := m ((c : Thread nD τ).loc main_arg3)
/-- Piece 3 of the projections' gradient. -/
def piece_3 : S8192x512.Idx → EReal := m ((c : Thread nD τ).loc main_arg4)
/-- Piece 4 of the projections' gradient. -/
def piece_4 : S8192x256.Idx → EReal := m ((c : Thread nD τ).loc main_arg5)

theorem rows_of (t : Fin cfg0.N) (j : Fin 1024) (i : Fin 512) :
    (iblk m c 0 t : Vec Ideal S1024x512 .bf16) (ix2 j i) = rowsOf m c (ix2 j (rowOf t i)) :=
  read_at (n0 := 1024) (n1 := 8192) _ (((cfg0.win 0).blk t).view.emb (ix2 j i)) j (rowOf t i)
    (by blk_simp; try rw [show win0_0.index t 0 = 0 from congrFun (index_0 t) 0, Nat.zero_mul, Nat.zero_add])
    (by blk_simp; rw [show win0_0.index t 1 = t.val from congrFun (index_0 t) 1, Nat.mul_comm])
theorem piece_of_0 (t : Fin cfg0.N) (i : Fin 512) (k : Fin 1536) :
    (iblk m c 1 t : Vec Ideal S512x1536 .bf16) (ix2 i k) = piece_0 m c (ix2 (rowOf t i) k) :=
  read_at (n0 := 8192) (n1 := 1536) _ (((cfg0.win 1).blk t).view.emb (ix2 i k)) (rowOf t i) k
    (by blk_simp; rw [show win0_1.index t 0 = t.val from congrFun (index_1 t) 0, Nat.mul_comm])
    (by blk_simp; try rw [show win0_1.index t 1 = 0 from congrFun (index_1 t) 1, Nat.zero_mul, Nat.zero_add])
theorem piece_of_1 (t : Fin cfg0.N) (i : Fin 512) (k : Fin 1536) :
    (iblk m c 2 t : Vec Ideal S512x1536 .bf16) (ix2 i k) = piece_1 m c (ix2 (rowOf t i) k) :=
  read_at (n0 := 8192) (n1 := 1536) _ (((cfg0.win 2).blk t).view.emb (ix2 i k)) (rowOf t i) k
    (by blk_simp; rw [show win0_2.index t 0 = t.val from congrFun (index_2 t) 0, Nat.mul_comm])
    (by blk_simp; try rw [show win0_2.index t 1 = 0 from congrFun (index_2 t) 1, Nat.zero_mul, Nat.zero_add])
theorem piece_of_2 (t : Fin cfg0.N) (i : Fin 512) (k : Fin 512) :
    (iblk m c 3 t : Vec Ideal S512x512 .bf16) (ix2 i k) = piece_2 m c (ix2 (rowOf t i) k) :=
  read_at (n0 := 8192) (n1 := 512) _ (((cfg0.win 3).blk t).view.emb (ix2 i k)) (rowOf t i) k
    (by blk_simp; rw [show win0_3.index t 0 = t.val from congrFun (index_3 t) 0, Nat.mul_comm])
    (by blk_simp; try rw [show win0_3.index t 1 = 0 from congrFun (index_3 t) 1, Nat.zero_mul, Nat.zero_add])
theorem piece_of_3 (t : Fin cfg0.N) (i : Fin 512) (k : Fin 512) :
    (iblk m c 4 t : Vec Ideal S512x512 .bf16) (ix2 i k) = piece_3 m c (ix2 (rowOf t i) k) :=
  read_at (n0 := 8192) (n1 := 512) _ (((cfg0.win 4).blk t).view.emb (ix2 i k)) (rowOf t i) k
    (by blk_simp; rw [show win0_4.index t 0 = t.val from congrFun (index_4 t) 0, Nat.mul_comm])
    (by blk_simp; try rw [show win0_4.index t 1 = 0 from congrFun (index_4 t) 1, Nat.zero_mul, Nat.zero_add])
theorem piece_of_4 (t : Fin cfg0.N) (i : Fin 512) (k : Fin 256) :
    (iblk m c 5 t : Vec Ideal S512x256 .bf16) (ix2 i k) = piece_4 m c (ix2 (rowOf t i) k) :=
  read_at (n0 := 8192) (n1 := 256) _ (((cfg0.win 5).blk t).view.emb (ix2 i k)) (rowOf t i) k
    (by blk_simp; rw [show win0_5.index t 0 = t.val from congrFun (index_5 t) 0, Nat.mul_comm])
    (by blk_simp; try rw [show win0_5.index t 1 = 0 from congrFun (index_5 t) 1, Nat.zero_mul, Nat.zero_add])

/-! ## The five arrays -/

/-- After point `s` output 0 holds the rows so far. -/
theorem outs_0 (j : Fin 1024) (k : Fin 1536) : ∀ (s : ℕ) (h : s < cfg0.N),
    (outsAt0 m c s h).1 (ix2 j k) = ∑ i ∈ Finset.range (512 * (s + 1)), term (rowsOf m c) (piece_0 m c) j k i :=
  rows_so_far (fun s h => (outsAt0 m c s h).1) j k
    (fun h => by
      have e := congrArg (fun o => o.1) (outsAt0_A m c ⟨0, h⟩ rfl)
      dsimp only at e
      rw [Value.out_A_6_eq] at e
      rw [e, step_0, zero_0, zero_add]
      exact part_of (t := 0) h (rows_of m c _) (piece_of_0 m c _) j k)
    (fun s h => by
      have h16 : s + 1 < 16 := h
      have e := congrArg (fun o => o.1) (outsAt0_B m c ⟨s + 1, h⟩ (by show ¬(s + 1) % 16 = 0; omega))
      dsimp only at e
      rw [Value.out_B_6_eq] at e
      rw [e, step_0]
      exact congrArg (_ + ·) (part_of (t := s + 1) h (rows_of m c _) (piece_of_0 m c _) j k))

/-- The array of output 0. -/
theorem arr_0 : (dats m 0 c).arrAt 6 cfg0.N = gradArr (rowsOf m c) (piece_0 m c) := by
  refine (dats m 0 c).arrAt_eq_of_covers 6 _ (by decide +kernel) fun t hf y => ?_
  blk_simp
  rw [after0_6]
  have h15 : t.val = 15 := by
    have h := (flush0_6 t).mp hf
    have h16 : t.val < 16 := t.isLt
    omega
  have key : ∀ y : S1024x1536.Idx, (outsAt0 m c t.val t.isLt).1 y = gradArr (rowsOf m c) (piece_0 m c) y := by
    intro y
    have e : ∀ (j : Fin 1024) (k : Fin 1536), (outsAt0 m c t.val t.isLt).1 (ix2 j k) = ∑ i : Fin 8192, rowsOf m c (ix2 j i) * piece_0 m c (ix2 i k) := by
      intro j k
      rw [outs_0 m c j k t.val t.isLt, show 512 * (t.val + 1) = 8192 by omega, all_rows]
    have := e (y 0) (y 1)
    rwa [ix2_eta (n0 := 1024) (n1 := 1536) y] at this
  refine (key y).trans (Finset.sum_congr rfl fun i _ => congrArg₂ (fun j k => rowsOf m c (ix2 j i) * piece_0 m c (ix2 i k)) (Fin.ext ?_) (Fin.ext ?_))
  · show (y 0).val = ((((cfg0.win 6).blk t).view.emb y) 0).val
    blk_simp
    try rw [show win0_6.index t 0 = 0 from congrFun (index_6 t) 0, Nat.zero_mul, Nat.zero_add]
  · show (y 1).val = ((((cfg0.win 6).blk t).view.emb y) 1).val
    blk_simp
    try rw [show win0_6.index t 1 = 0 from congrFun (index_6 t) 1, Nat.zero_mul, Nat.zero_add]

/-- After point `s` output 1 holds the rows so far. -/
theorem outs_1 (j : Fin 1024) (k : Fin 1536) : ∀ (s : ℕ) (h : s < cfg0.N),
    (outsAt0 m c s h).2.1 (ix2 j k) = ∑ i ∈ Finset.range (512 * (s + 1)), term (rowsOf m c) (piece_1 m c) j k i :=
  rows_so_far (fun s h => (outsAt0 m c s h).2.1) j k
    (fun h => by
      have e := congrArg (fun o => o.2.1) (outsAt0_A m c ⟨0, h⟩ rfl)
      dsimp only at e
      rw [Value.out_A_7_eq] at e
      rw [e, step_1, zero_1, zero_add]
      exact part_of (t := 0) h (rows_of m c _) (piece_of_1 m c _) j k)
    (fun s h => by
      have h16 : s + 1 < 16 := h
      have e := congrArg (fun o => o.2.1) (outsAt0_B m c ⟨s + 1, h⟩ (by show ¬(s + 1) % 16 = 0; omega))
      dsimp only at e
      rw [Value.out_B_7_eq] at e
      rw [e, step_1]
      exact congrArg (_ + ·) (part_of (t := s + 1) h (rows_of m c _) (piece_of_1 m c _) j k))

/-- The array of output 1. -/
theorem arr_1 : (dats m 0 c).arrAt 7 cfg0.N = gradArr (rowsOf m c) (piece_1 m c) := by
  refine (dats m 0 c).arrAt_eq_of_covers 7 _ (by decide +kernel) fun t hf y => ?_
  blk_simp
  rw [after0_7]
  have h15 : t.val = 15 := by
    have h := (flush0_7 t).mp hf
    have h16 : t.val < 16 := t.isLt
    omega
  have key : ∀ y : S1024x1536.Idx, (outsAt0 m c t.val t.isLt).2.1 y = gradArr (rowsOf m c) (piece_1 m c) y := by
    intro y
    have e : ∀ (j : Fin 1024) (k : Fin 1536), (outsAt0 m c t.val t.isLt).2.1 (ix2 j k) = ∑ i : Fin 8192, rowsOf m c (ix2 j i) * piece_1 m c (ix2 i k) := by
      intro j k
      rw [outs_1 m c j k t.val t.isLt, show 512 * (t.val + 1) = 8192 by omega, all_rows]
    have := e (y 0) (y 1)
    rwa [ix2_eta (n0 := 1024) (n1 := 1536) y] at this
  refine (key y).trans (Finset.sum_congr rfl fun i _ => congrArg₂ (fun j k => rowsOf m c (ix2 j i) * piece_1 m c (ix2 i k)) (Fin.ext ?_) (Fin.ext ?_))
  · show (y 0).val = ((((cfg0.win 7).blk t).view.emb y) 0).val
    blk_simp
    try rw [show win0_7.index t 0 = 0 from congrFun (index_7 t) 0, Nat.zero_mul, Nat.zero_add]
  · show (y 1).val = ((((cfg0.win 7).blk t).view.emb y) 1).val
    blk_simp
    try rw [show win0_7.index t 1 = 0 from congrFun (index_7 t) 1, Nat.zero_mul, Nat.zero_add]

/-- After point `s` output 2 holds the rows so far. -/
theorem outs_2 (j : Fin 1024) (k : Fin 512) : ∀ (s : ℕ) (h : s < cfg0.N),
    (outsAt0 m c s h).2.2.1 (ix2 j k) = ∑ i ∈ Finset.range (512 * (s + 1)), term (rowsOf m c) (piece_2 m c) j k i :=
  rows_so_far (fun s h => (outsAt0 m c s h).2.2.1) j k
    (fun h => by
      have e := congrArg (fun o => o.2.2.1) (outsAt0_A m c ⟨0, h⟩ rfl)
      dsimp only at e
      rw [Value.out_A_8_eq] at e
      rw [e, step_2, zero_2, zero_add]
      exact part_of (t := 0) h (rows_of m c _) (piece_of_2 m c _) j k)
    (fun s h => by
      have h16 : s + 1 < 16 := h
      have e := congrArg (fun o => o.2.2.1) (outsAt0_B m c ⟨s + 1, h⟩ (by show ¬(s + 1) % 16 = 0; omega))
      dsimp only at e
      rw [Value.out_B_8_eq] at e
      rw [e, step_2]
      exact congrArg (_ + ·) (part_of (t := s + 1) h (rows_of m c _) (piece_of_2 m c _) j k))

/-- The array of output 2. -/
theorem arr_2 : (dats m 0 c).arrAt 8 cfg0.N = gradArr (rowsOf m c) (piece_2 m c) := by
  refine (dats m 0 c).arrAt_eq_of_covers 8 _ (by decide +kernel) fun t hf y => ?_
  blk_simp
  rw [after0_8]
  have h15 : t.val = 15 := by
    have h := (flush0_8 t).mp hf
    have h16 : t.val < 16 := t.isLt
    omega
  have key : ∀ y : S1024x512.Idx, (outsAt0 m c t.val t.isLt).2.2.1 y = gradArr (rowsOf m c) (piece_2 m c) y := by
    intro y
    have e : ∀ (j : Fin 1024) (k : Fin 512), (outsAt0 m c t.val t.isLt).2.2.1 (ix2 j k) = ∑ i : Fin 8192, rowsOf m c (ix2 j i) * piece_2 m c (ix2 i k) := by
      intro j k
      rw [outs_2 m c j k t.val t.isLt, show 512 * (t.val + 1) = 8192 by omega, all_rows]
    have := e (y 0) (y 1)
    rwa [ix2_eta (n0 := 1024) (n1 := 512) y] at this
  refine (key y).trans (Finset.sum_congr rfl fun i _ => congrArg₂ (fun j k => rowsOf m c (ix2 j i) * piece_2 m c (ix2 i k)) (Fin.ext ?_) (Fin.ext ?_))
  · show (y 0).val = ((((cfg0.win 8).blk t).view.emb y) 0).val
    blk_simp
    try rw [show win0_8.index t 0 = 0 from congrFun (index_8 t) 0, Nat.zero_mul, Nat.zero_add]
  · show (y 1).val = ((((cfg0.win 8).blk t).view.emb y) 1).val
    blk_simp
    try rw [show win0_8.index t 1 = 0 from congrFun (index_8 t) 1, Nat.zero_mul, Nat.zero_add]

/-- After point `s` output 3 holds the rows so far. -/
theorem outs_3 (j : Fin 1024) (k : Fin 512) : ∀ (s : ℕ) (h : s < cfg0.N),
    (outsAt0 m c s h).2.2.2.1 (ix2 j k) = ∑ i ∈ Finset.range (512 * (s + 1)), term (rowsOf m c) (piece_3 m c) j k i :=
  rows_so_far (fun s h => (outsAt0 m c s h).2.2.2.1) j k
    (fun h => by
      have e := congrArg (fun o => o.2.2.2.1) (outsAt0_A m c ⟨0, h⟩ rfl)
      dsimp only at e
      rw [Value.out_A_9_eq] at e
      rw [e, step_3, zero_3, zero_add]
      exact part_of (t := 0) h (rows_of m c _) (piece_of_3 m c _) j k)
    (fun s h => by
      have h16 : s + 1 < 16 := h
      have e := congrArg (fun o => o.2.2.2.1) (outsAt0_B m c ⟨s + 1, h⟩ (by show ¬(s + 1) % 16 = 0; omega))
      dsimp only at e
      rw [Value.out_B_9_eq] at e
      rw [e, step_3]
      exact congrArg (_ + ·) (part_of (t := s + 1) h (rows_of m c _) (piece_of_3 m c _) j k))

/-- The array of output 3. -/
theorem arr_3 : (dats m 0 c).arrAt 9 cfg0.N = gradArr (rowsOf m c) (piece_3 m c) := by
  refine (dats m 0 c).arrAt_eq_of_covers 9 _ (by decide +kernel) fun t hf y => ?_
  blk_simp
  rw [after0_9]
  have h15 : t.val = 15 := by
    have h := (flush0_9 t).mp hf
    have h16 : t.val < 16 := t.isLt
    omega
  have key : ∀ y : S1024x512.Idx, (outsAt0 m c t.val t.isLt).2.2.2.1 y = gradArr (rowsOf m c) (piece_3 m c) y := by
    intro y
    have e : ∀ (j : Fin 1024) (k : Fin 512), (outsAt0 m c t.val t.isLt).2.2.2.1 (ix2 j k) = ∑ i : Fin 8192, rowsOf m c (ix2 j i) * piece_3 m c (ix2 i k) := by
      intro j k
      rw [outs_3 m c j k t.val t.isLt, show 512 * (t.val + 1) = 8192 by omega, all_rows]
    have := e (y 0) (y 1)
    rwa [ix2_eta (n0 := 1024) (n1 := 512) y] at this
  refine (key y).trans (Finset.sum_congr rfl fun i _ => congrArg₂ (fun j k => rowsOf m c (ix2 j i) * piece_3 m c (ix2 i k)) (Fin.ext ?_) (Fin.ext ?_))
  · show (y 0).val = ((((cfg0.win 9).blk t).view.emb y) 0).val
    blk_simp
    try rw [show win0_9.index t 0 = 0 from congrFun (index_9 t) 0, Nat.zero_mul, Nat.zero_add]
  · show (y 1).val = ((((cfg0.win 9).blk t).view.emb y) 1).val
    blk_simp
    try rw [show win0_9.index t 1 = 0 from congrFun (index_9 t) 1, Nat.zero_mul, Nat.zero_add]

/-- After point `s` output 4 holds the rows so far. -/
theorem outs_4 (j : Fin 1024) (k : Fin 256) : ∀ (s : ℕ) (h : s < cfg0.N),
    (outsAt0 m c s h).2.2.2.2 (ix2 j k) = ∑ i ∈ Finset.range (512 * (s + 1)), term (rowsOf m c) (piece_4 m c) j k i :=
  rows_so_far (fun s h => (outsAt0 m c s h).2.2.2.2) j k
    (fun h => by
      have e := congrArg (fun o => o.2.2.2.2) (outsAt0_A m c ⟨0, h⟩ rfl)
      dsimp only at e
      rw [Value.out_A_10_eq] at e
      rw [e, step_4, zero_4, zero_add]
      exact part_of (t := 0) h (rows_of m c _) (piece_of_4 m c _) j k)
    (fun s h => by
      have h16 : s + 1 < 16 := h
      have e := congrArg (fun o => o.2.2.2.2) (outsAt0_B m c ⟨s + 1, h⟩ (by show ¬(s + 1) % 16 = 0; omega))
      dsimp only at e
      rw [Value.out_B_10_eq] at e
      rw [e, step_4]
      exact congrArg (_ + ·) (part_of (t := s + 1) h (rows_of m c _) (piece_of_4 m c _) j k))

/-- The array of output 4. -/
theorem arr_4 : (dats m 0 c).arrAt 10 cfg0.N = gradArr (rowsOf m c) (piece_4 m c) := by
  refine (dats m 0 c).arrAt_eq_of_covers 10 _ (by decide +kernel) fun t hf y => ?_
  blk_simp
  rw [after0_10]
  have h15 : t.val = 15 := by
    have h := (flush0_10 t).mp hf
    have h16 : t.val < 16 := t.isLt
    omega
  have key : ∀ y : S1024x256.Idx, (outsAt0 m c t.val t.isLt).2.2.2.2 y = gradArr (rowsOf m c) (piece_4 m c) y := by
    intro y
    have e : ∀ (j : Fin 1024) (k : Fin 256), (outsAt0 m c t.val t.isLt).2.2.2.2 (ix2 j k) = ∑ i : Fin 8192, rowsOf m c (ix2 j i) * piece_4 m c (ix2 i k) := by
      intro j k
      rw [outs_4 m c j k t.val t.isLt, show 512 * (t.val + 1) = 8192 by omega, all_rows]
    have := e (y 0) (y 1)
    rwa [ix2_eta (n0 := 1024) (n1 := 256) y] at this
  refine (key y).trans (Finset.sum_congr rfl fun i _ => congrArg₂ (fun j k => rowsOf m c (ix2 j i) * piece_4 m c (ix2 i k)) (Fin.ext ?_) (Fin.ext ?_))
  · show (y 0).val = ((((cfg0.win 10).blk t).view.emb y) 0).val
    blk_simp
    try rw [show win0_10.index t 0 = 0 from congrFun (index_10 t) 0, Nat.zero_mul, Nat.zero_add]
  · show (y 1).val = ((((cfg0.win 10).blk t).view.emb y) 1).val
    blk_simp
    try rw [show win0_10.index t 1 = 0 from congrFun (index_10 t) 1, Nat.zero_mul, Nat.zero_add]

end Cert.Kernel4Ideal.Grad

end
-- ==== Proof.Grad.Values.lean ====
/-
  The fourth call's results: the idealized kernel's arrays are its reference's.
-/
module

public import proofs.«01_k».proof.Defs
public import proofs.«01_k».proof.Proof.Grad.Arrays
public import proofs.«01_k».proof.Proof.Gen.Reference4Ideal.Read
public import Idealize.ShloMosaic.Lib.Quiescent

@[expose] public section

noncomputable section

namespace Cert.Reference4Ideal.Grad

open Cert.Reference4Ideal Cert.Reference4Ideal.Read
open Idealize.ShloMosaic Idealize.ShloMosaic.TcCoe
open Cert.Grad

variable (a : FVec Ideal S1024x8192 .bf16) (x0 x1 : FVec Ideal S8192x1536 .bf16) (x2 x3 : FVec Ideal S8192x512 .bf16) (x4 : FVec Ideal S8192x256 .bf16)

/-! ## The pieces, side by side -/

theorem piece_0 (i : Fin 8192) (k : Fin 1536) : val_main_v7 (F := Ideal) x0 x1 x2 x3 x4 (ix2 i ⟨k.val, by omega⟩) = x0 (ix2 i k) := by
  pointwise [val_main_v7, val_main_v2, val_main_v3, val_main_v4, val_main_v5, val_main_v6]
theorem piece_1 (i : Fin 8192) (k : Fin 1536) : val_main_v7 (F := Ideal) x0 x1 x2 x3 x4 (ix2 i ⟨1536 + k.val, by omega⟩) = x1 (ix2 i k) := by
  pointwise [val_main_v7, val_main_v2, val_main_v3, val_main_v4, val_main_v5, val_main_v6]
theorem piece_2 (i : Fin 8192) (k : Fin 512) : val_main_v7 (F := Ideal) x0 x1 x2 x3 x4 (ix2 i ⟨3072 + k.val, by omega⟩) = x2 (ix2 i k) := by
  pointwise [val_main_v7, val_main_v2, val_main_v3, val_main_v4, val_main_v5, val_main_v6]
  rw [dif_neg (by omega), dif_neg (by omega), dif_pos (by omega)]
  exact congrArg x2 (congrArg (ix2 i) (Fin.ext (by show 3072 + k.val - 1536 - 1536 = k.val; omega)))
theorem piece_3 (i : Fin 8192) (k : Fin 512) : val_main_v7 (F := Ideal) x0 x1 x2 x3 x4 (ix2 i ⟨3584 + k.val, by omega⟩) = x3 (ix2 i k) := by
  pointwise [val_main_v7, val_main_v2, val_main_v3, val_main_v4, val_main_v5, val_main_v6]
  rw [dif_neg (by omega), dif_neg (by omega), dif_neg (by omega), dif_pos (by omega)]
  exact congrArg x3 (congrArg (ix2 i) (Fin.ext (by show 3584 + k.val - 1536 - 1536 - 512 = k.val; omega)))
theorem piece_4 (i : Fin 8192) (k : Fin 256) : val_main_v7 (F := Ideal) x0 x1 x2 x3 x4 (ix2 i ⟨4096 + k.val, by omega⟩) = x4 (ix2 i k) := by
  pointwise [val_main_v7, val_main_v2, val_main_v3, val_main_v4, val_main_v5, val_main_v6]
  rw [dif_neg (by omega), dif_neg (by omega), dif_neg (by omega), dif_neg (by omega)]
  exact congrArg x4 (congrArg (ix2 i) (Fin.ext (by show 4096 + k.val - 1536 - 1536 - 512 - 512 = k.val; omega)))

/-- The gradient of all the weights. -/
theorem whole_at (j : Fin 1024) (k : Fin 4352) : val_main_v11 (F := Ideal) a x0 x1 x2 x3 x4 (ix2 j k)
    = ∑ i : Fin 8192, val_main_v7 (F := Ideal) x0 x1 x2 x3 x4 (ix2 i k) * a (ix2 j i) := by
  pointwise [val_main_v11, val_main_v10, val_main_v1, val_main_v0]

/-! ## The results, piece by piece -/

theorem part_0 (j : Fin 1024) (k : Fin 1536) : val_main_v12 (F := Ideal) a x0 x1 x2 x3 x4 (ix2 j k)
    = ∑ i : Fin 8192, a (ix2 j i) * x0 (ix2 i k) := by
  have e : val_main_v12 (F := Ideal) a x0 x1 x2 x3 x4 (ix2 j k)
      = val_main_v11 (F := Ideal) a x0 x1 x2 x3 x4 (ix2 j ⟨k.val, by omega⟩) := by
    pointwise [val_main_v12]
  rw [e, whole_at]
  simp only [piece_0]
  exact Finset.sum_congr rfl fun i _ => mul_comm _ _

/-- Result 0 as a whole array. -/
theorem ref_0 : val_main_v12 (F := Ideal) a x0 x1 x2 x3 x4 = gradArr a x0 := by
  funext y
  refine Eq.trans ?_ (part_0 a x0 x1 x2 x3 x4 (y 0) (y 1))
  exact congrArg _ (ix2_eta (n0 := 1024) (n1 := 1536) y).symm

theorem part_1 (j : Fin 1024) (k : Fin 1536) : val_main_v13 (F := Ideal) a x0 x1 x2 x3 x4 (ix2 j k)
    = ∑ i : Fin 8192, a (ix2 j i) * x1 (ix2 i k) := by
  have e : val_main_v13 (F := Ideal) a x0 x1 x2 x3 x4 (ix2 j k)
      = val_main_v11 (F := Ideal) a x0 x1 x2 x3 x4 (ix2 j ⟨1536 + k.val, by omega⟩) := by
    pointwise [val_main_v13]
  rw [e, whole_at]
  simp only [piece_1]
  exact Finset.sum_congr rfl fun i _ => mul_comm _ _

/-- Result 1 as a whole array. -/
theorem ref_1 : val_main_v13 (F := Ideal) a x0 x1 x2 x3 x4 = gradArr a x1 := by
  funext y
  refine Eq.trans ?_ (part_1 a x0 x1 x2 x3 x4 (y 0) (y 1))
  exact congrArg _ (ix2_eta (n0 := 1024) (n1 := 1536) y).symm

theorem part_2 (j : Fin 1024) (k : Fin 512) : val_main_v14 (F := Ideal) a x0 x1 x2 x3 x4 (ix2 j k)
    = ∑ i : Fin 8192, a (ix2 j i) * x2 (ix2 i k) := by
  have e : val_main_v14 (F := Ideal) a x0 x1 x2 x3 x4 (ix2 j k)
      = val_main_v11 (F := Ideal) a x0 x1 x2 x3 x4 (ix2 j ⟨3072 + k.val, by omega⟩) := by
    pointwise [val_main_v14]
  rw [e, whole_at]
  simp only [piece_2]
  exact Finset.sum_congr rfl fun i _ => mul_comm _ _

/-- Result 2 as a whole array. -/
theorem ref_2 : val_main_v14 (F := Ideal) a x0 x1 x2 x3 x4 = gradArr a x2 := by
  funext y
  refine Eq.trans ?_ (part_2 a x0 x1 x2 x3 x4 (y 0) (y 1))
  exact congrArg _ (ix2_eta (n0 := 1024) (n1 := 512) y).symm

theorem part_3 (j : Fin 1024) (k : Fin 512) : val_main_v15 (F := Ideal) a x0 x1 x2 x3 x4 (ix2 j k)
    = ∑ i : Fin 8192, a (ix2 j i) * x3 (ix2 i k) := by
  have e : val_main_v15 (F := Ideal) a x0 x1 x2 x3 x4 (ix2 j k)
      = val_main_v11 (F := Ideal) a x0 x1 x2 x3 x4 (ix2 j ⟨3584 + k.val, by omega⟩) := by
    pointwise [val_main_v15]
  rw [e, whole_at]
  simp only [piece_3]
  exact Finset.sum_congr rfl fun i _ => mul_comm _ _

/-- Result 3 as a whole array. -/
theorem ref_3 : val_main_v15 (F := Ideal) a x0 x1 x2 x3 x4 = gradArr a x3 := by
  funext y
  refine Eq.trans ?_ (part_3 a x0 x1 x2 x3 x4 (y 0) (y 1))
  exact congrArg _ (ix2_eta (n0 := 1024) (n1 := 512) y).symm

theorem part_4 (j : Fin 1024) (k : Fin 256) : val_main_v16 (F := Ideal) a x0 x1 x2 x3 x4 (ix2 j k)
    = ∑ i : Fin 8192, a (ix2 j i) * x4 (ix2 i k) := by
  have e : val_main_v16 (F := Ideal) a x0 x1 x2 x3 x4 (ix2 j k)
      = val_main_v11 (F := Ideal) a x0 x1 x2 x3 x4 (ix2 j ⟨4096 + k.val, by omega⟩) := by
    pointwise [val_main_v16]
  rw [e, whole_at]
  simp only [piece_4]
  exact Finset.sum_congr rfl fun i _ => mul_comm _ _

/-- Result 4 as a whole array. -/
theorem ref_4 : val_main_v16 (F := Ideal) a x0 x1 x2 x3 x4 = gradArr a x4 := by
  funext y
  refine Eq.trans ?_ (part_4 a x0 x1 x2 x3 x4 (y 0) (y 1))
  exact congrArg _ (ix2_eta (n0 := 1024) (n1 := 256) y).symm

end Cert.Reference4Ideal.Grad

namespace Cert.Proof

open Idealize.ShloMosaic Idealize.SL.Sem
open Cert.Grad Cert.Kernel4Ideal.Grad

/-- The frame of the fourth call's reference. -/
theorem frame_reference4 : Cert.quiescent_Reference4Ideal (hReference4Ideal := Cert.Reference4Ideal.Gen.facts) := fun m ρ _ =>
  (θ_run _ _ _).mono (fun r h => ⟨fun c => (h c).2.2.2.2.2, sem_eq_zero_of_no_sems (by decide) r.2⟩) (Cert.Reference4Ideal.Value.run (F := Ideal) m ρ)

/-- The fourth call and its reference end with the same five arrays, whatever the inputs. -/
theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => gradArr (rowsOf m c) (piece_0 m c), fun c => gradArr (rowsOf m c) (piece_1 m c), fun c => gradArr (rowsOf m c) (piece_2 m c),
    fun c => gradArr (rowsOf m c) (piece_3 m c), fun c => gradArr (rowsOf m c) (piece_4 m c), ?_, ?_⟩
  · refine (θ_run _ _ _).mono (fun _ h c => ?_) (Cert.Kernel4Ideal.Value.run_blocks (F := Ideal) m g)
    obtain ⟨e0, e1, e2, e3, e4, ha⟩ := h c
    exact ⟨e0.trans (arr_0 m c), e1.trans (arr_1 m c), e2.trans (arr_2 m c), e3.trans (arr_3 m c), e4.trans (arr_4 m c), ha⟩
  · refine (θ_run _ _ _).mono (fun _ h c => ?_) (Cert.Reference4Ideal.Value.run (F := Ideal) m' g')
    obtain ⟨e0, e1, e2, e3, e4, ha⟩ := h c
    obtain ⟨a0, a1, a2, a3, a4, a5⟩ := hagree c
    rw [Cert.Reference4Ideal.Read.val_main_v12_eq, a0, a1, a2, a3, a4, a5] at e0
    rw [Cert.Reference4Ideal.Read.val_main_v13_eq, a0, a1, a2, a3, a4, a5] at e1
    rw [Cert.Reference4Ideal.Read.val_main_v14_eq, a0, a1, a2, a3, a4, a5] at e2
    rw [Cert.Reference4Ideal.Read.val_main_v15_eq, a0, a1, a2, a3, a4, a5] at e3
    rw [Cert.Reference4Ideal.Read.val_main_v16_eq, a0, a1, a2, a3, a4, a5] at e4
    exact ⟨e0.trans (Cert.Reference4Ideal.Grad.ref_0 (rowsOf m c) (piece_0 m c) (piece_1 m c) (piece_2 m c) (piece_3 m c) (piece_4 m c)),
      e1.trans (Cert.Reference4Ideal.Grad.ref_1 (rowsOf m c) (piece_0 m c) (piece_1 m c) (piece_2 m c) (piece_3 m c) (piece_4 m c)),
      e2.trans (Cert.Reference4Ideal.Grad.ref_2 (rowsOf m c) (piece_0 m c) (piece_1 m c) (piece_2 m c) (piece_3 m c) (piece_4 m c)),
      e3.trans (Cert.Reference4Ideal.Grad.ref_3 (rowsOf m c) (piece_0 m c) (piece_1 m c) (piece_2 m c) (piece_3 m c) (piece_4 m c)),
      e4.trans (Cert.Reference4Ideal.Grad.ref_4 (rowsOf m c) (piece_0 m c) (piece_1 m c) (piece_2 m c) (piece_3 m c) (piece_4 m c)), ha⟩

end Cert.Proof

end
-- ==== Proof.Grad.Out.lean ====
/-
  The fifth call, the gradient of the output projection's weights: the array that it leaves is its reference's, over the extended reals.
-/
module

public import proofs.«01_k».proof.Defs
public import proofs.«01_k».proof.Proof.Gen.Kernel5Ideal.Value
public import proofs.«01_k».proof.Proof.Gen.Reference5Ideal.Read
public import proofs.«01_k».proof.Proof.Proj.Blocks
public import proofs.«01_k».proof.Proof.Grad.Sums
public import Idealize.ShloMosaic.Lib.Pointwise
public import Idealize.ShloMosaic.Lib.Quiescent

@[expose] public section

noncomputable section

namespace Cert.Kernel5Ideal.Grad

open Cert.Kernel5Ideal Cert.Kernel5Ideal.Gen
open Idealize.ShloMosaic Idealize.ShloMosaic.TcCoe
open Cert.Kernel2Ideal.Proj (read_at)
open Cert.Grad

/-- Row `i` of point `t`'s block. -/
abbrev rowOf (t : Fin cfg0.N) (i : Fin 512) : Fin 8192 := row t.val t.isLt i

/-! ## What a grid point adds -/

theorem step_at (a : Vec Ideal S1536x512 .bf16) (old : Vec Ideal S1536x1024 .f32) (p : Vec Ideal S512x1024 .f32) (j : Fin 1536) (k : Fin 1024) :
    k0_pay2 a old p (ix2 j k) = old (ix2 j k) + ∑ i : Fin 512, a (ix2 j i) * p (ix2 i k) := by
  pointwise [k0_pay2]
theorem zero_at (j : Fin 1536) (k : Fin 1024) : k0_pay1 (F := Ideal) (ix2 j k) = 0 := by
  pointwise [k0_pay1]

/-! ## Which block each window gives at a point -/

theorem index_0 : ∀ t : Fin cfg0.N, (cfg0.win 0).index t = ![0, t.val] := (by decide +kernel : ∀ t : Fin grid0.N, win0_0.index t = ![0, t.val])
theorem index_1 : ∀ t : Fin cfg0.N, (cfg0.win 1).index t = ![t.val, 0] := (by decide +kernel : ∀ t : Fin grid0.N, win0_1.index t = ![t.val, 0])
theorem index_2 : ∀ t : Fin cfg0.N, (cfg0.win 2).index t = ![0, 0] := (by decide +kernel : ∀ t : Fin grid0.N, win0_2.index t = ![0, 0])

variable (m : (ℓ : Loc nD τ sig) → Buf (Elt Ideal) ℓ) (c : Dev nD)

/-- The transposed rows that the call starts from. -/
def rowsOf : S1536x8192.Idx → EReal := m ((c : Thread nD τ).loc main_arg0)
/-- The gradient of what they were projected to. -/
def dyOf : S8192x1024.Idx → EReal := m ((c : Thread nD τ).loc main_arg1)

theorem rows_of (t : Fin cfg0.N) (j : Fin 1536) (i : Fin 512) :
    (iblk m c 0 t : Vec Ideal S1536x512 .bf16) (ix2 j i) = rowsOf m c (ix2 j (rowOf t i)) :=
  read_at (n0 := 1536) (n1 := 8192) _ (((cfg0.win 0).blk t).view.emb (ix2 j i)) j (rowOf t i)
    (by blk_simp; try rw [show win0_0.index t 0 = 0 from congrFun (index_0 t) 0, Nat.zero_mul, Nat.zero_add])
    (by blk_simp; rw [show win0_0.index t 1 = t.val from congrFun (index_0 t) 1, Nat.mul_comm])
theorem dy_of (t : Fin cfg0.N) (i : Fin 512) (k : Fin 1024) :
    (iblk m c 1 t : Vec Ideal S512x1024 .f32) (ix2 i k) = dyOf m c (ix2 (rowOf t i) k) :=
  read_at (n0 := 8192) (n1 := 1024) _ (((cfg0.win 1).blk t).view.emb (ix2 i k)) (rowOf t i) k
    (by blk_simp; rw [show win0_1.index t 0 = t.val from congrFun (index_1 t) 0, Nat.mul_comm])
    (by blk_simp; try rw [show win0_1.index t 1 = 0 from congrFun (index_1 t) 1, Nat.zero_mul, Nat.zero_add])

/-- After point `s` the output holds the rows so far. -/
theorem outs_so_far (j : Fin 1536) (k : Fin 1024) : ∀ (s : ℕ) (h : s < cfg0.N),
    outsAt0 m c s h (ix2 j k) = ∑ i ∈ Finset.range (512 * (s + 1)), term (rowsOf m c) (dyOf m c) j k i :=
  rows_so_far (fun s h => outsAt0 m c s h) j k
    (fun h => by
      have e := outsAt0_A m c ⟨0, h⟩ rfl
      rw [Value.out_A_2_eq] at e
      dsimp only at e ⊢
      rw [e, step_at, zero_at, zero_add]
      exact part_of (t := 0) h (rows_of m c _) (dy_of m c _) j k)
    (fun s h => by
      have h16 : s + 1 < 16 := h
      have e := outsAt0_B m c ⟨s + 1, h⟩ (by show ¬(s + 1) % 16 = 0; omega)
      rw [Value.out_B_2_eq] at e
      dsimp only at e ⊢
      rw [e, step_at]
      exact congrArg (_ + ·) (part_of (t := s + 1) h (rows_of m c _) (dy_of m c _) j k))

/-- The array of the weights' gradient. -/
theorem arr : (dats m 0 c).arrAt 2 cfg0.N = gradArr (rowsOf m c) (dyOf m c) := by
  refine (dats m 0 c).arrAt_eq_of_covers 2 _ (by decide +kernel) fun t hf y => ?_
  blk_simp
  rw [after0_2]
  have h15 : t.val = 15 := by
    have h := (flush0_2 t).mp hf
    have h16 : t.val < 16 := t.isLt
    omega
  have key : ∀ y : S1536x1024.Idx, outsAt0 m c t.val t.isLt y = gradArr (rowsOf m c) (dyOf m c) y := by
    intro y
    have e : ∀ (j : Fin 1536) (k : Fin 1024), outsAt0 m c t.val t.isLt (ix2 j k) = ∑ i : Fin 8192, rowsOf m c (ix2 j i) * dyOf m c (ix2 i k) := by
      intro j k
      rw [outs_so_far m c j k t.val t.isLt, show 512 * (t.val + 1) = 8192 by omega, all_rows]
    have := e (y 0) (y 1)
    rwa [ix2_eta (n0 := 1536) (n1 := 1024) y] at this
  refine (key y).trans (Finset.sum_congr rfl fun i _ => congrArg₂ (fun j k => rowsOf m c (ix2 j i) * dyOf m c (ix2 i k)) (Fin.ext ?_) (Fin.ext ?_))
  · show (y 0).val = ((((cfg0.win 2).blk t).view.emb y) 0).val
    blk_simp
    try rw [show win0_2.index t 0 = 0 from congrFun (index_2 t) 0, Nat.zero_mul, Nat.zero_add]
  · show (y 1).val = ((((cfg0.win 2).blk t).view.emb y) 1).val
    blk_simp
    try rw [show win0_2.index t 1 = 0 from congrFun (index_2 t) 1, Nat.zero_mul, Nat.zero_add]

end Cert.Kernel5Ideal.Grad

namespace Cert.Reference5Ideal.Grad

open Cert.Reference5Ideal Cert.Reference5Ideal.Read
open Idealize.ShloMosaic Idealize.ShloMosaic.TcCoe
open Cert.Grad

variable (a : FVec Ideal S1536x8192 .bf16) (p : FVec Ideal S8192x1024 .f32)

/-- The reference's gradient at an index. -/
theorem whole_at (j : Fin 1536) (k : Fin 1024) : val_main_v5 (F := Ideal) a p (ix2 j k) = ∑ i : Fin 8192, a (ix2 j i) * p (ix2 i k) := by
  have e : val_main_v5 (F := Ideal) a p (ix2 j k) = ∑ i : Fin 8192, p (ix2 i k) * a (ix2 j i) := by
    pointwise [val_main_v5, val_main_v4, val_main_v1, val_main_v0]
  rw [e]
  exact Finset.sum_congr rfl fun i _ => mul_comm _ _

/-- The reference's gradient as a whole array. -/
theorem ref_arr : val_main_v5 (F := Ideal) a p = gradArr a p := by
  funext y
  refine Eq.trans ?_ (whole_at a p (y 0) (y 1))
  exact congrArg _ (ix2_eta (n0 := 1536) (n1 := 1024) y).symm

end Cert.Reference5Ideal.Grad

namespace Cert.Proof

open Idealize.ShloMosaic Idealize.SL.Sem
open Cert.Grad Cert.Kernel5Ideal.Grad

/-- The frame of the fifth call's reference. -/
theorem frame_reference5 : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run (F := Ideal) m ρ)

/-- The fifth call and its reference end with the same array, whatever the inputs. -/
theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => gradArr (rowsOf m c) (dyOf m c), ?_, ?_⟩
  · refine (θ_run _ _ _).mono (fun _ h c => ?_) (Cert.Kernel5Ideal.Value.run_blocks (F := Ideal) m g)
    obtain ⟨e0, ha⟩ := h c
    exact ⟨e0.trans (arr m c), ha⟩
  · refine (θ_run _ _ _).mono (fun _ h c => ?_) (Cert.Reference5Ideal.Value.run (F := Ideal) m' g')
    obtain ⟨e0, ha⟩ := h c
    obtain ⟨a0, a1⟩ := hagree c
    rw [Cert.Reference5Ideal.Read.val_main_v5_eq, a0, a1] at e0
    exact ⟨e0.trans (Cert.Reference5Ideal.Grad.ref_arr (rowsOf m c) (dyOf m c)), ha⟩

end Cert.Proof

end
-- ==== Proof.lean ====
/-
  The claims about the five calls: the gradient of the attention, a layer's norm and input projection, their gradient, and the gradients
  of the two projections' weights. The first one's two frames are runs of the same steps (Proof/, and Proof/Word/ for the program with the
  constants' words), its values are in Proof/Values.lean; the values of the further four are in Proof/Proj/, Proof/Fwd/ and Proof/Grad/.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Claims
public import proofs.«01_k».proof.Proof.Values
public import proofs.«01_k».proof.Proof.Proj.Values
public import proofs.«01_k».proof.Proof.Fwd.Values
public import proofs.«01_k».proof.Proof.Grad.Values
public import proofs.«01_k».proof.Proof.Grad.Out

@[expose] public section

noncomputable section

namespace Cert.Proof

open Idealize.ShloMosaic

/-- The frames of the four further calls and of their idealizations. -/
theorem frame_kernel2 : Cert.quiescent_Kernel2 (hKernel2 := Cert.Kernel2.Gen.facts) := fun m ρ _ => Cert.Kernel2.Gen.frame m ρ
theorem frame_ideal2 : Cert.quiescent_Kernel2Ideal (hKernel2Ideal := Cert.Kernel2Ideal.Gen.facts) := fun m ρ _ => Cert.Kernel2Ideal.Gen.frame m ρ
theorem frame_kernel3 : Cert.quiescent_Kernel3 (hKernel3 := Cert.Kernel3.Gen.facts) := fun m ρ _ => Cert.Kernel3.Gen.frame m ρ
theorem frame_ideal3 : Cert.quiescent_Kernel3Ideal (hKernel3Ideal := Cert.Kernel3Ideal.Gen.facts) := fun m ρ _ => Cert.Kernel3Ideal.Gen.frame m ρ
theorem frame_kernel4 : Cert.quiescent_Kernel4 (hKernel4 := Cert.Kernel4.Gen.facts) := fun m ρ _ => Cert.Kernel4.Gen.frame m ρ
theorem frame_ideal4 : Cert.quiescent_Kernel4Ideal (hKernel4Ideal := Cert.Kernel4Ideal.Gen.facts) := fun m ρ _ => Cert.Kernel4Ideal.Gen.frame m ρ
theorem frame_kernel5 : Cert.quiescent_Kernel5 (hKernel5 := Cert.Kernel5.Gen.facts) := fun m ρ _ => Cert.Kernel5.Gen.frame m ρ
theorem frame_ideal5 : Cert.quiescent_Kernel5Ideal (hKernel5Ideal := Cert.Kernel5Ideal.Gen.facts) := fun m ρ _ => Cert.Kernel5Ideal.Gen.frame m ρ

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts,
    Cert.Kernel5Ideal.Gen.facts, Cert.Reference5Ideal.Gen.facts, pre_facts, frame_kernel, frame_ideal,
    fun m g _ => frame_ideal m g trivial, frame_reference, fun m g _ => frame_reference m g trivial, frame_kernel2, frame_ideal2,
    frame_reference2, frame_kernel3, frame_ideal3, frame_reference3, frame_kernel4, frame_ideal4, frame_reference4, frame_kernel5,
    frame_ideal5, frame_reference5, preserves, algebraic, trivial, algebraic2, trivial, algebraic3, trivial, algebraic4, trivial,
    algebraic5⟩

end Cert.Proof

end
